-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Even (m : (ℓ : Loc Cert.Even.nD Cert.Even.τ Cert.Even.sig) → Buf (Elt Bits) ℓ) : Prop :=
  True

def Pre_EvenIdeal (m : (ℓ : Loc Cert.EvenIdeal.nD Cert.EvenIdeal.τ Cert.EvenIdeal.sig) → Buf (Elt Ideal) ℓ) : Prop :=
  True

def Pre_EvenRefIdeal (m : (ℓ : Loc Cert.EvenRefIdeal.nD Cert.EvenRefIdeal.τ Cert.EvenRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddRefIdeal (m : (ℓ : Loc Cert.OddRefIdeal.nD Cert.OddRefIdeal.τ Cert.OddRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Even [hEven : Cert.Even.Facts] : Prop :=
  ∀ (m : (ℓ : Loc Cert.Even.nD Cert.Even.τ Cert.Even.sig) → Buf (Elt Bits) ℓ) (g : Dev Cert.Even.nD → PrngReg), Pre_Even m →
    θ_run (Cert.Even.defs (F := Bits)) (onTc (τ := Cert.Even.τ) (Cert.Even.main (F := Bits))) ⟨m, fun _ => 0, g⟩ (fun r => (∀ c : Dev Cert.Even.nD,
      r.2.mem ((c.tc : Thread Cert.Even.nD Cert.Even.τ).loc Cert.Even.main_arg0) = m ((c.tc : Thread Cert.Even.nD Cert.Even.τ).loc Cert.Even.main_arg0)
      ∧ r.2.mem ((c.tc : Thread Cert.Even.nD Cert.Even.τ).loc Cert.Even.main_arg1) = m ((c.tc : Thread Cert.Even.nD Cert.Even.τ).loc Cert.Even.main_arg1)
      ∧ r.2.mem ((c.tc : Thread Cert.Even.nD Cert.Even.τ).loc Cert.Even.main_arg2) = m ((c.tc : Thread Cert.Even.nD Cert.Even.τ).loc Cert.Even.main_arg2)
      ∧ r.2.mem ((c.tc : Thread Cert.Even.nD Cert.Even.τ).loc Cert.Even.main_arg3) = m ((c.tc : Thread Cert.Even.nD Cert.Even.τ).loc Cert.Even.main_arg3)
      ∧ r.2.mem ((c.tc : Thread Cert.Even.nD Cert.Even.τ).loc Cert.Even.main_arg4) = m ((c.tc : Thread Cert.Even.nD Cert.Even.τ).loc Cert.Even.main_arg4))
      ∧ r.2.sem = fun _ => 0)

def quiescent_EvenIdeal [hEvenIdeal : Cert.EvenIdeal.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
      ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
      ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
      ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4))
      ∧ r.2.sem = fun _ => 0)

def quiescent_EvenRefIdeal [hEvenRefIdeal : Cert.EvenRefIdeal.Facts] : Prop :=
  ∀ (m : (ℓ : Loc Cert.EvenRefIdeal.nD Cert.EvenRefIdeal.τ Cert.EvenRefIdeal.sig) → Buf (Elt Ideal) ℓ) (g : Dev Cert.EvenRefIdeal.nD → PrngReg), Pre_EvenRefIdeal m →
    θ_run (Cert.EvenRefIdeal.defs (F := Ideal)) (onTc (τ := Cert.EvenRefIdeal.τ) (Cert.EvenRefIdeal.main (F := Ideal))) ⟨m, fun _ => 0, g⟩ (fun r => (∀ c : Dev Cert.EvenRefIdeal.nD,
      r.2.mem ((c.tc : Thread Cert.EvenRefIdeal.nD Cert.EvenRefIdeal.τ).loc Cert.EvenRefIdeal.main_arg0) = m ((c.tc : Thread Cert.EvenRefIdeal.nD Cert.EvenRefIdeal.τ).loc Cert.EvenRefIdeal.main_arg0)
      ∧ r.2.mem ((c.tc : Thread Cert.EvenRefIdeal.nD Cert.EvenRefIdeal.τ).loc Cert.EvenRefIdeal.main_arg1) = m ((c.tc : Thread Cert.EvenRefIdeal.nD Cert.EvenRefIdeal.τ).loc Cert.EvenRefIdeal.main_arg1)
      ∧ r.2.mem ((c.tc : Thread Cert.EvenRefIdeal.nD Cert.EvenRefIdeal.τ).loc Cert.EvenRefIdeal.main_arg2) = m ((c.tc : Thread Cert.EvenRefIdeal.nD Cert.EvenRefIdeal.τ).loc Cert.EvenRefIdeal.main_arg2)
      ∧ r.2.mem ((c.tc : Thread Cert.EvenRefIdeal.nD Cert.EvenRefIdeal.τ).loc Cert.EvenRefIdeal.main_arg3) = m ((c.tc : Thread Cert.EvenRefIdeal.nD Cert.EvenRefIdeal.τ).loc Cert.EvenRefIdeal.main_arg3)
      ∧ r.2.mem ((c.tc : Thread Cert.EvenRefIdeal.nD Cert.EvenRefIdeal.τ).loc Cert.EvenRefIdeal.main_arg4) = m ((c.tc : Thread Cert.EvenRefIdeal.nD Cert.EvenRefIdeal.τ).loc Cert.EvenRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3)
      ∧ r.2.mem ((c.tc : Thread Cert.Odd.nD Cert.Odd.τ).loc Cert.Odd.main_arg4) = m ((c.tc : Thread Cert.Odd.nD Cert.Odd.τ).loc Cert.Odd.main_arg4))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
      ∧ r.2.mem ((c.tc : Thread Cert.OddIdeal.nD Cert.OddIdeal.τ).loc Cert.OddIdeal.main_arg4) = m ((c.tc : Thread Cert.OddIdeal.nD Cert.OddIdeal.τ).loc Cert.OddIdeal.main_arg4))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3)
      ∧ r.2.mem ((c.tc : Thread Cert.OddRefIdeal.nD Cert.OddRefIdeal.τ).loc Cert.OddRefIdeal.main_arg4) = m ((c.tc : Thread Cert.OddRefIdeal.nD Cert.OddRefIdeal.τ).loc Cert.OddRefIdeal.main_arg4))
      ∧ r.2.sem = fun _ => 0)

def preserves_Kernel_KernelIdeal : Prop :=
  IdealRules.named_const.Statement Cert.KernelIdeal.κ "qscale" .f32 0x3E38AA3B#32 ((8⁻¹ * (Real.log 2)⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Even_EvenIdeal : Prop :=
  True

def algebraic_EvenIdeal_EvenRefIdeal [hEvenIdeal : Cert.EvenIdeal.Facts] [hEvenRefIdeal : Cert.EvenRefIdeal.Facts] : Prop :=
  ∀ (m : (ℓ : Loc Cert.EvenIdeal.nD Cert.EvenIdeal.τ Cert.EvenIdeal.sig) → Buf (Elt Ideal) ℓ) (g : Dev Cert.EvenIdeal.nD → PrngReg)
    (m' : (ℓ : Loc Cert.EvenRefIdeal.nD Cert.EvenRefIdeal.τ Cert.EvenRefIdeal.sig) → Buf (Elt Ideal) ℓ) (g' : Dev Cert.EvenRefIdeal.nD → PrngReg), Pre_EvenIdeal m →
    (∀ c : Dev Cert.EvenIdeal.nD,
      m' ((c.tc : Thread Cert.EvenRefIdeal.nD Cert.EvenRefIdeal.τ).loc Cert.EvenRefIdeal.main_arg0) = m ((c.tc : Thread Cert.EvenIdeal.nD Cert.EvenIdeal.τ).loc Cert.EvenIdeal.main_arg0)
      ∧ m' ((c.tc : Thread Cert.EvenRefIdeal.nD Cert.EvenRefIdeal.τ).loc Cert.EvenRefIdeal.main_arg1) = m ((c.tc : Thread Cert.EvenIdeal.nD Cert.EvenIdeal.τ).loc Cert.EvenIdeal.main_arg1)
      ∧ m' ((c.tc : Thread Cert.EvenRefIdeal.nD Cert.EvenRefIdeal.τ).loc Cert.EvenRefIdeal.main_arg2) = m ((c.tc : Thread Cert.EvenIdeal.nD Cert.EvenIdeal.τ).loc Cert.EvenIdeal.main_arg2)
      ∧ m' ((c.tc : Thread Cert.EvenRefIdeal.nD Cert.EvenRefIdeal.τ).loc Cert.EvenRefIdeal.main_arg3) = m ((c.tc : Thread Cert.EvenIdeal.nD Cert.EvenIdeal.τ).loc Cert.EvenIdeal.main_arg3)
      ∧ m' ((c.tc : Thread Cert.EvenRefIdeal.nD Cert.EvenRefIdeal.τ).loc Cert.EvenRefIdeal.main_arg4) = m ((c.tc : Thread Cert.EvenIdeal.nD Cert.EvenIdeal.τ).loc Cert.EvenIdeal.main_arg4)) →
    ∃ (v0 : (c : Dev Cert.EvenIdeal.nD) → Buf (Elt Ideal) ((c.tc : Thread Cert.EvenIdeal.nD Cert.EvenIdeal.τ).loc Cert.EvenIdeal.main_v4)),
      θ_run (Cert.EvenIdeal.defs (F := Ideal)) (onTc (τ := Cert.EvenIdeal.τ) (Cert.EvenIdeal.main (F := Ideal))) ⟨m, fun _ => 0, g⟩ (fun r => ∀ c : Dev Cert.EvenIdeal.nD,
          r.2.mem ((c.tc : Thread Cert.EvenIdeal.nD Cert.EvenIdeal.τ).loc Cert.EvenIdeal.main_v4) = v0 c
          ∧ r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
          ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
          ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
          ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
          ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4))
      ∧ θ_run (Cert.EvenRefIdeal.defs (F := Ideal)) (onTc (τ := Cert.EvenRefIdeal.τ) (Cert.EvenRefIdeal.main (F := Ideal))) ⟨m', fun _ => 0, g'⟩ (fun r => ∀ c : Dev Cert.EvenRefIdeal.nD,
          r.2.mem ((c.tc : Thread Cert.EvenRefIdeal.nD Cert.EvenRefIdeal.τ).loc Cert.EvenRefIdeal.main_v53) = v0 c
          ∧ r.2.mem ((c.tc : Thread Cert.EvenRefIdeal.nD Cert.EvenRefIdeal.τ).loc Cert.EvenRefIdeal.main_arg0) = m' ((c.tc : Thread Cert.EvenRefIdeal.nD Cert.EvenRefIdeal.τ).loc Cert.EvenRefIdeal.main_arg0)
          ∧ r.2.mem ((c.tc : Thread Cert.EvenRefIdeal.nD Cert.EvenRefIdeal.τ).loc Cert.EvenRefIdeal.main_arg1) = m' ((c.tc : Thread Cert.EvenRefIdeal.nD Cert.EvenRefIdeal.τ).loc Cert.EvenRefIdeal.main_arg1)
          ∧ r.2.mem ((c.tc : Thread Cert.EvenRefIdeal.nD Cert.EvenRefIdeal.τ).loc Cert.EvenRefIdeal.main_arg2) = m' ((c.tc : Thread Cert.EvenRefIdeal.nD Cert.EvenRefIdeal.τ).loc Cert.EvenRefIdeal.main_arg2)
          ∧ r.2.mem ((c.tc : Thread Cert.EvenRefIdeal.nD Cert.EvenRefIdeal.τ).loc Cert.EvenRefIdeal.main_arg3) = m' ((c.tc : Thread Cert.EvenRefIdeal.nD Cert.EvenRefIdeal.τ).loc Cert.EvenRefIdeal.main_arg3)
          ∧ r.2.mem ((c.tc : Thread Cert.EvenRefIdeal.nD Cert.EvenRefIdeal.τ).loc Cert.EvenRefIdeal.main_arg4) = m' ((c.tc : Thread Cert.EvenRefIdeal.nD Cert.EvenRefIdeal.τ).loc Cert.EvenRefIdeal.main_arg4))

def preserves_Out_OutIdeal : Prop :=
  IdealRules.named_const.Statement Cert.OutIdeal.κ "log2e" .f32 0xBFB8AA3B#32 ((-((Real.log 2)⁻¹) : ℝ) : EReal)

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v40) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_Merge_MergeIdeal : Prop :=
  IdealRules.named_const.Statement Cert.MergeIdeal.κ "log2e" .f32 0xBFB8AA3B#32 ((-((Real.log 2)⁻¹) : ℝ) : EReal)

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v25) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Odd_OddIdeal : Prop :=
  True

def algebraic_OddIdeal_OddRefIdeal [hOddIdeal : Cert.OddIdeal.Facts] [hOddRefIdeal : Cert.OddRefIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddRefIdeal.nD Cert.OddRefIdeal.τ Cert.OddRefIdeal.sig) → Buf (Elt Ideal) ℓ) (g' : Dev Cert.OddRefIdeal.nD → PrngReg), Pre_OddIdeal m →
    (∀ c : Dev Cert.OddIdeal.nD,
      m' ((c.tc : Thread Cert.OddRefIdeal.nD Cert.OddRefIdeal.τ).loc Cert.OddRefIdeal.main_arg0) = m ((c.tc : Thread Cert.OddIdeal.nD Cert.OddIdeal.τ).loc Cert.OddIdeal.main_arg0)
      ∧ m' ((c.tc : Thread Cert.OddRefIdeal.nD Cert.OddRefIdeal.τ).loc Cert.OddRefIdeal.main_arg1) = m ((c.tc : Thread Cert.OddIdeal.nD Cert.OddIdeal.τ).loc Cert.OddIdeal.main_arg1)
      ∧ m' ((c.tc : Thread Cert.OddRefIdeal.nD Cert.OddRefIdeal.τ).loc Cert.OddRefIdeal.main_arg2) = m ((c.tc : Thread Cert.OddIdeal.nD Cert.OddIdeal.τ).loc Cert.OddIdeal.main_arg2)
      ∧ m' ((c.tc : Thread Cert.OddRefIdeal.nD Cert.OddRefIdeal.τ).loc Cert.OddRefIdeal.main_arg3) = m ((c.tc : Thread Cert.OddIdeal.nD Cert.OddIdeal.τ).loc Cert.OddIdeal.main_arg3)
      ∧ m' ((c.tc : Thread Cert.OddRefIdeal.nD Cert.OddRefIdeal.τ).loc Cert.OddRefIdeal.main_arg4) = m ((c.tc : Thread Cert.OddIdeal.nD Cert.OddIdeal.τ).loc Cert.OddIdeal.main_arg4)) →
    ∃ (v0 : (c : Dev Cert.OddIdeal.nD) → Buf (Elt Ideal) ((c.tc : Thread Cert.OddIdeal.nD Cert.OddIdeal.τ).loc Cert.OddIdeal.main_v8_0)) (v1 : (c : Dev Cert.OddIdeal.nD) → Buf (Elt Ideal) ((c.tc : Thread Cert.OddIdeal.nD Cert.OddIdeal.τ).loc Cert.OddIdeal.main_v8_1)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v8_0) = v0 c
          ∧ r.2.mem ((c.tc : Thread Cert.OddIdeal.nD Cert.OddIdeal.τ).loc Cert.OddIdeal.main_v8_1) = v1 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
          ∧ r.2.mem ((c.tc : Thread Cert.OddIdeal.nD Cert.OddIdeal.τ).loc Cert.OddIdeal.main_arg4) = m ((c.tc : Thread Cert.OddIdeal.nD Cert.OddIdeal.τ).loc Cert.OddIdeal.main_arg4))
      ∧ θ_run (Cert.OddRefIdeal.defs (F := Ideal)) (onTc (τ := Cert.OddRefIdeal.τ) (Cert.OddRefIdeal.main (F := Ideal))) ⟨m', fun _ => 0, g'⟩ (fun r => ∀ c : Dev Cert.OddRefIdeal.nD,
          r.2.mem ((c.tc : Thread Cert.OddRefIdeal.nD Cert.OddRefIdeal.τ).loc Cert.OddRefIdeal.main_v54) = v0 c
          ∧ r.2.mem ((c.tc : Thread Cert.OddRefIdeal.nD Cert.OddRefIdeal.τ).loc Cert.OddRefIdeal.main_v57) = v1 c
          ∧ r.2.mem ((c.tc : Thread Cert.OddRefIdeal.nD Cert.OddRefIdeal.τ).loc Cert.OddRefIdeal.main_arg0) = m' ((c.tc : Thread Cert.OddRefIdeal.nD Cert.OddRefIdeal.τ).loc Cert.OddRefIdeal.main_arg0)
          ∧ r.2.mem ((c.tc : Thread Cert.OddRefIdeal.nD Cert.OddRefIdeal.τ).loc Cert.OddRefIdeal.main_arg1) = m' ((c.tc : Thread Cert.OddRefIdeal.nD Cert.OddRefIdeal.τ).loc Cert.OddRefIdeal.main_arg1)
          ∧ r.2.mem ((c.tc : Thread Cert.OddRefIdeal.nD Cert.OddRefIdeal.τ).loc Cert.OddRefIdeal.main_arg2) = m' ((c.tc : Thread Cert.OddRefIdeal.nD Cert.OddRefIdeal.τ).loc Cert.OddRefIdeal.main_arg2)
          ∧ r.2.mem ((c.tc : Thread Cert.OddRefIdeal.nD Cert.OddRefIdeal.τ).loc Cert.OddRefIdeal.main_arg3) = m' ((c.tc : Thread Cert.OddRefIdeal.nD Cert.OddRefIdeal.τ).loc Cert.OddRefIdeal.main_arg3)
          ∧ r.2.mem ((c.tc : Thread Cert.OddRefIdeal.nD Cert.OddRefIdeal.τ).loc Cert.OddRefIdeal.main_arg4) = m' ((c.tc : Thread Cert.OddRefIdeal.nD Cert.OddRefIdeal.τ).loc Cert.OddRefIdeal.main_arg4))

def Claim : Prop :=
  ∃ (hKernel : Cert.Kernel.Facts) (hKernelIdeal : Cert.KernelIdeal.Facts) (hReferenceIdeal : Cert.ReferenceIdeal.Facts) (hEven : Cert.Even.Facts) (hEvenIdeal : Cert.EvenIdeal.Facts) (hEvenRefIdeal : Cert.EvenRefIdeal.Facts) (hOut : Cert.Out.Facts) (hOutIdeal : Cert.OutIdeal.Facts) (hOutRefIdeal : Cert.OutRefIdeal.Facts) (hMerge : Cert.Merge.Facts) (hMergeIdeal : Cert.MergeIdeal.Facts) (hMergeRefIdeal : Cert.MergeRefIdeal.Facts) (hOdd : Cert.Odd.Facts) (hOddIdeal : Cert.OddIdeal.Facts) (hOddRefIdeal : Cert.OddRefIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Even (hEven := hEven)
    ∧ quiescent_EvenIdeal (hEvenIdeal := hEvenIdeal)
    ∧ quiescent_EvenRefIdeal (hEvenRefIdeal := hEvenRefIdeal)
    ∧ quiescent_Out (hOut := hOut)
    ∧ quiescent_OutIdeal (hOutIdeal := hOutIdeal)
    ∧ quiescent_OutRefIdeal (hOutRefIdeal := hOutRefIdeal)
    ∧ quiescent_Merge (hMerge := hMerge)
    ∧ quiescent_MergeIdeal (hMergeIdeal := hMergeIdeal)
    ∧ quiescent_MergeRefIdeal (hMergeRefIdeal := hMergeRefIdeal)
    ∧ quiescent_Odd (hOdd := hOdd)
    ∧ quiescent_OddIdeal (hOddIdeal := hOddIdeal)
    ∧ quiescent_OddRefIdeal (hOddRefIdeal := hOddRefIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Even_EvenIdeal
    ∧ algebraic_EvenIdeal_EvenRefIdeal (hEvenIdeal := hEvenIdeal) (hEvenRefIdeal := hEvenRefIdeal)
    ∧ preserves_Out_OutIdeal
    ∧ algebraic_OutIdeal_OutRefIdeal (hOutIdeal := hOutIdeal) (hOutRefIdeal := hOutRefIdeal)
    ∧ preserves_Merge_MergeIdeal
    ∧ algebraic_MergeIdeal_MergeRefIdeal (hMergeIdeal := hMergeIdeal) (hMergeRefIdeal := hMergeRefIdeal)
    ∧ preserves_Odd_OddIdeal
    ∧ algebraic_OddIdeal_OddRefIdeal (hOddIdeal := hOddIdeal) (hOddRefIdeal := hOddRefIdeal)
-- ==== Pre_finite_inputs.lean ====
abbrev S2x16640x4096 : Shape := ⟨3, ![2, 16640, 4096]⟩
abbrev S16384x16 : Shape := ⟨2, ![16384, 16]⟩
abbrev S4x64 : Shape := ⟨2, ![4, 64]⟩
abbrev S128 : Shape := ⟨1, ![128]⟩
abbrev S2x16640x1536 : Shape := ⟨3, ![2, 16640, 1536]⟩
abbrev S_ : Shape := ⟨0, ![]⟩

class Facts : Prop where
  slices_S2x16640x4096_S2x16640x1536_0_0_2048 : S2x16640x4096.Slices ![0, 0, 2048] S2x16640x1536
  bitsLt_bf16_f32 : FTy.bits .bf16 < FTy.bits .f32
  bcast_S_S2x16640x1536 : S_.BroadcastsInDim S2x16640x1536 (![] : Fin 0 → Fin S2x16640x1536.rank)
  reducesTo_S2x16640x1536_S_d0_1_2 : S2x16640x1536.ReducesTo [0, 1, 2] S_
  h_S_ : 0 < S_.numel
  bcast_S_S16384x16 : S_.BroadcastsInDim S16384x16 (![] : Fin 0 → Fin S16384x16.rank)
  reducesTo_S16384x16_S_d0_1 : S16384x16.ReducesTo [0, 1] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_arg4 : FVec F S16384x16 .f32) (main_arg5 : FVec F S4x64 .f32) (main_v15 : IVec S_ 1) (main_v16 : FVec F S16384x16 .f32) (main_cst_4 : FVec F S_ .f32) : IVec S_ 1 :=
  let main_v17 : FVec F S16384x16 .f32 := broadcastInDim S16384x16 ![] bcast_S_S16384x16 main_cst_4
  let main_v18 : IVec S16384x16 1 := cmpf .olt main_v16 main_v17
  let main_c_5 : IVec S_ 1 := constantI S_ 1 1#1
  let main_v19 : IVec S_ 1 := (fun x v => Host.reduce IntOp.andi x v reducesTo_S16384x16_S_d0_1 h_S_) main_v18 main_c_5
  let main_v20 : IVec S_ 1 := andi main_v15 main_v19
  let main_v21 : FVec F S16384x16 .f32 := Host.absf main_arg4
  let main_cst_6 : FVec F S_ .f32 := constant S_ .f32 0x7F800000#32
  let main_v22 : FVec F S16384x16 .f32 := broadcastInDim S16384x16 ![] bcast_S_S16384x16 main_cst_6
  let main_v23 : IVec S16384x16 1 := cmpf .olt main_v21 main_v22
  let main_c_7 : IVec S_ 1 := constantI S_ 1 1#1
  let main_v24 : IVec S_ 1 := (fun x v => Host.reduce IntOp.andi x v reducesTo_S16384x16_S_d0_1 h_S_) main_v23 main_c_7
  let main_v25 : IVec S_ 1 := andi main_v20 main_v24
  let main_v26 : FVec F S4x64 .f32 := Host.absf main_arg5
  let main_cst_8 : FVec F S_ .f32 := constant S_ .f32 0x7F800000#32
  let main_v27 : FVec F S4x64 .f32 := broadcastInDim S4x64 ![] bcast_S_S4x64 main_cst_8
  let main_v28 : IVec S4x64 1 := cmpf .olt main_v26 main_v27
  let main_c_9 : IVec S_ 1 := constantI S_ 1 1#1
  let main_v29 : IVec S_ 1 := (fun x v => Host.reduce IntOp.andi x v reducesTo_S4x64_S_d0_1 h_S_) main_v28 main_c_9
  let main_v30 : IVec S_ 1 := andi main_v25 main_v29
  main_v30

def fn {F : FTy → Type} [FloatOps F] (main_arg0 : FVec F S2x16640x4096 .bf16) (main_arg1 : FVec F S16384x16 .f32) (main_arg2 : FVec F S16384x16 .f32) (main_arg3 : FVec F S16384x16 .f32) (main_arg4 : FVec F S16384x16 .f32) (main_arg5 : FVec F S4x64 .f32) (main_arg6 : FVec F S128 .f32) : IVec S_ 1 :=
  let main_v0 : FVec F S2x16640x1536 .bf16 := (extractStridedSlice S2x16640x1536 ![0, 0, 2048] · slices_S2x16640x4096_S2x16640x1536_0_0_2048) main_arg0
  let main_v1 : FVec F S2x16640x1536 .f32 := (extf .f32 · bitsLt_bf16_f32) main_v0
  let main_v2 : FVec F S2x16640x1536 .f32 := Host.absf main_v1
  let main_cst : FVec F S_ .f32 := constant S_ .f32 0x7F800000#32
  let main_v3 : FVec F S2x16640x1536 .f32 := broadcastInDim S2x16640x1536 ![] bcast_S_S2x16640x1536 main_cst
  let main_v4 : IVec S2x16640x1536 1 := cmpf .olt main_v2 main_v3
  let main_c : IVec S_ 1 := constantI S_ 1 1#1
  let main_v5 : IVec S_ 1 := (fun x v => Host.reduce IntOp.andi x v reducesTo_S2x16640x1536_S_d0_1_2 h_S_) main_v4 main_c
  let main_v6 : FVec F S16384x16 .f32 := Host.absf main_arg1
  let main_cst_0 : FVec F S_ .f32 := constant S_ .f32 0x7F800000#32
  let main_v7 : FVec F S16384x16 .f32 := broadcastInDim S16384x16 ![] bcast_S_S16384x16 main_cst_0
  let main_v8 : IVec S16384x16 1 := cmpf .olt main_v6 main_v7
  let main_c_1 : IVec S_ 1 := constantI S_ 1 1#1
  let main_v9 : IVec S_ 1 := (fun x v => Host.reduce IntOp.andi x v reducesTo_S16384x16_S_d0_1 h_S_) main_v8 main_c_1
  let main_v10 : IVec S_ 1 := andi main_v5 main_v9
  let main_v11 : FVec F S16384x16 .f32 := Host.absf main_arg2
  let main_cst_2 : FVec F S_ .f32 := constant S_ .f32 0x7F800000#32
  let main_v12 : FVec F S16384x16 .f32 := broadcastInDim S16384x16 ![] bcast_S_S16384x16 main_cst_2
  let main_v13 : IVec S16384x16 1 := cmpf .olt main_v11 main_v12
  let main_c_3 : IVec S_ 1 := constantI S_ 1 1#1
  let main_v14 : IVec S_ 1 := (fun x v => Host.reduce IntOp.andi x v reducesTo_S16384x16_S_d0_1 h_S_) main_v13 main_c_3
  let main_v15 : IVec S_ 1 := andi main_v10 main_v14
  let main_v16 : FVec F S16384x16 .f32 := Host.absf main_arg3
  let main_cst_4 : FVec F S_ .f32 := constant S_ .f32 0x7F800000#32
  fn_part1 (F := F) main_arg4 main_arg5 main_v15 main_v16 main_cst_4
-- ==== Kernel.lean ====
abbrev S2x16640x4096 : Shape := ⟨3, ![2, 16640, 4096]⟩
abbrev S16384x16 : Shape := ⟨2, ![16384, 16]⟩
abbrev S4x64 : Shape := ⟨2, ![4, 64]⟩
abbrev S128 : Shape := ⟨1, ![128]⟩
abbrev S_ : Shape := ⟨0, ![]⟩
abbrev S16384x64 : Shape := ⟨2, ![16384, 64]⟩
abbrev S16384x128 : Shape := ⟨2, ![16384, 128]⟩
abbrev S256x128 : Shape := ⟨2, ![256, 128]⟩
abbrev S16640x128 : Shape := ⟨2, ![16640, 128]⟩
abbrev S2x4x2x16640x128 : Shape := ⟨5, ![2, 4, 2, 16640, 128]⟩
abbrev S2x16640x512 : Shape := ⟨3, ![2, 16640, 512]⟩
abbrev S2x4x136x16640 : Shape := ⟨4, ![2, 4, 136, 16640]⟩
abbrev S1x640x512 : Shape := ⟨3, ![1, 640, 512]⟩
abbrev S640x128 : Shape := ⟨2, ![640, 128]⟩
abbrev S1x4x2x640x128 : Shape := ⟨5, ![1, 4, 2, 640, 128]⟩
abbrev S1x4x136x640 : Shape := ⟨4, ![1, 4, 136, 640]⟩
abbrev S1x128 : Shape := ⟨2, ![1, 128]⟩
abbrev S8x640 : Shape := ⟨2, ![8, 640]⟩
abbrev S1x640x128 : Shape := ⟨3, ![1, 640, 128]⟩
abbrev S1x1x1x640x128 : Shape := ⟨5, ![1, 1, 1, 640, 128]⟩
abbrev S128x640 : Shape := ⟨2, ![128, 640]⟩
abbrev S136x640 : Shape := ⟨2, ![136, 640]⟩
abbrev S1x1x136x640 : Shape := ⟨4, ![1, 1, 136, 640]⟩
abbrev S1x1x2x256x128 : Shape := ⟨5, ![1, 1, 2, 256, 128]⟩
abbrev S1x16640x128 : Shape := ⟨3, ![1, 16640, 128]⟩
abbrev S1x1x136x16640 : Shape := ⟨4, ![1, 1, 136, 16640]⟩
abbrev S1x256x128 : Shape := ⟨3, ![1, 256, 128]⟩
abbrev S136x512 : Shape := ⟨2, ![136, 512]⟩
abbrev S2x256x128 : Shape := ⟨3, ![2, 256, 128]⟩
abbrev S512x128 : Shape := ⟨2, ![512, 128]⟩
abbrev S256x512 : Shape := ⟨2, ![256, 512]⟩
abbrev S512 : Shape := ⟨1, ![512]⟩
abbrev S1x512 : Shape := ⟨2, ![1, 512]⟩
abbrev S1x1x136x256 : Shape := ⟨4, ![1, 1, 136, 256]⟩
abbrev S136x256 : Shape := ⟨2, ![136, 256]⟩
abbrev S1x1280x128 : Shape := ⟨3, ![1, 1280, 128]⟩
abbrev S1280x128 : Shape := ⟨2, ![1280, 128]⟩
abbrev S1280x512 : Shape := ⟨2, ![1280, 512]⟩
abbrev S1x1x136x1280 : Shape := ⟨4, ![1, 1, 136, 1280]⟩
abbrev S136x1280 : Shape := ⟨2, ![136, 1280]⟩
abbrev S128x512 : Shape := ⟨2, ![128, 512]⟩
abbrev S1x64 : Shape := ⟨2, ![1, 64]⟩
abbrev S1 : Shape := ⟨1, ![1]⟩
abbrev S1x1 : Shape := ⟨2, ![1, 1]⟩
abbrev S128x256 : Shape := ⟨2, ![128, 256]⟩
abbrev S256 : Shape := ⟨1, ![256]⟩
abbrev S256x1 : Shape := ⟨2, ![256, 1]⟩

abbrev nBuf : Space → Nat
  | .hbm => 31
  | .vmem => 29
  | .smem => 0
  | _ => 0

abbrev bufTy : (tb : Table) → Fin (tcTables nBuf tb) → BufTy
  | .hbm, ⟨0, _⟩ => ⟨S2x16640x4096, .bf16⟩
  | .hbm, ⟨1, _⟩ => ⟨S16384x16, .f32⟩
  | .hbm, ⟨2, _⟩ => ⟨S16384x16, .f32⟩
  | .hbm, ⟨3, _⟩ => ⟨S16384x16, .f32⟩
  | .hbm, ⟨4, _⟩ => ⟨S16384x16, .f32⟩
  | .hbm, ⟨5, _⟩ => ⟨S4x64, .f32⟩
  | .hbm, ⟨6, _⟩ => ⟨S128, .f32⟩
  | .hbm, ⟨7, _⟩ => ⟨S_, .f32⟩
  | .hbm, ⟨8, _⟩ => ⟨S16384x16, .f32⟩
  | .hbm, ⟨9, _⟩ => ⟨S16384x64, .f32⟩
  | .hbm, ⟨10, _⟩ => ⟨S16384x16, .f32⟩
  | .hbm, ⟨11, _⟩ => ⟨S16384x16, .f32⟩
  | .hbm, ⟨12, _⟩ => ⟨S16384x64, .f32⟩
  | .hbm, ⟨13, _⟩ => ⟨S16384x64, .f32⟩
  | .hbm, ⟨14, _⟩ => ⟨S16384x128, .f32⟩
  | .hbm, ⟨15, _⟩ => ⟨S_, .f32⟩
  | .hbm, ⟨16, _⟩ => ⟨S256x128, .f32⟩
  | .hbm, ⟨17, _⟩ => ⟨S16640x128, .f32⟩
  | .hbm, ⟨18, _⟩ => ⟨S16384x128, .f32⟩
  | .hbm, ⟨19, _⟩ => ⟨S_, .f32⟩
  | .hbm, ⟨20, _⟩ => ⟨S256x128, .f32⟩
  | .hbm, ⟨21, _⟩ => ⟨S16640x128, .f32⟩
  | .hbm, ⟨22, _⟩ => ⟨S16384x128, .f32⟩
  | .hbm, ⟨23, _⟩ => ⟨S_, .f32⟩
  | .hbm, ⟨24, _⟩ => ⟨S256x128, .f32⟩
  | .hbm, ⟨25, _⟩ => ⟨S16640x128, .f32⟩
  | .hbm, ⟨26, _⟩ => ⟨S2x4x2x16640x128, .bf16⟩
  | .hbm, ⟨27, _⟩ => ⟨S2x16640x512, .bf16⟩
  | .hbm, ⟨28, _⟩ => ⟨S2x4x136x16640, .bf16⟩
  | .hbm, ⟨29, _⟩ => ⟨S1x128, .f32⟩
  | .hbm, ⟨30, _⟩ => ⟨S2x16640x512, .f32⟩
  | .local _ .vmem, ⟨0, _⟩ => ⟨S1x640x512, .bf16⟩
  | .local _ .vmem, ⟨1, _⟩ => ⟨S1x640x512, .bf16⟩
  | .local _ .vmem, ⟨2, _⟩ => ⟨S1x640x512, .bf16⟩
  | .local _ .vmem, ⟨3, _⟩ => ⟨S1x640x512, .bf16⟩
  | .local _ .vmem, ⟨4, _⟩ => ⟨S1x640x512, .bf16⟩
  | .local _ .vmem, ⟨5, _⟩ => ⟨S1x640x512, .bf16⟩
  | .local _ .vmem, ⟨6, _⟩ => ⟨S640x128, .f32⟩
  | .local _ .vmem, ⟨7, _⟩ => ⟨S640x128, .f32⟩
  | .local _ .vmem, ⟨8, _⟩ => ⟨S640x128, .f32⟩
  | .local _ .vmem, ⟨9, _⟩ => ⟨S640x128, .f32⟩
  | .local _ .vmem, ⟨10, _⟩ => ⟨S640x128, .f32⟩
  | .local _ .vmem, ⟨11, _⟩ => ⟨S640x128, .f32⟩
  | .local _ .vmem, ⟨12, _⟩ => ⟨S1x4x2x640x128, .bf16⟩
  | .local _ .vmem, ⟨13, _⟩ => ⟨S1x4x2x640x128, .bf16⟩
  | .local _ .vmem, ⟨14, _⟩ => ⟨S1x640x512, .bf16⟩
  | .local _ .vmem, ⟨15, _⟩ => ⟨S1x640x512, .bf16⟩
  | .local _ .vmem, ⟨16, _⟩ => ⟨S1x4x136x640, .bf16⟩
  | .local _ .vmem, ⟨17, _⟩ => ⟨S1x4x136x640, .bf16⟩
  | .local _ .vmem, ⟨18, _⟩ => ⟨S4x64, .f32⟩
  | .local _ .vmem, ⟨19, _⟩ => ⟨S1x128, .f32⟩
  | .local _ .vmem, ⟨20, _⟩ => ⟨S1x1x2x256x128, .bf16⟩
  | .local _ .vmem, ⟨21, _⟩ => ⟨S1x1x2x256x128, .bf16⟩
  | .local _ .vmem, ⟨22, _⟩ => ⟨S1x16640x128, .bf16⟩
  | .local _ .vmem, ⟨23, _⟩ => ⟨S1x16640x128, .bf16⟩
  | .local _ .vmem, ⟨24, _⟩ => ⟨S1x1x136x16640, .bf16⟩
  | .local _ .vmem, ⟨25, _⟩ => ⟨S1x1x136x16640, .bf16⟩
  | .local _ .vmem, ⟨26, _⟩ => ⟨S1x256x128, .f32⟩
  | .local _ .vmem, ⟨27, _⟩ => ⟨S1x256x128, .f32⟩
  | .local _ .vmem, ⟨28, _⟩ => ⟨S136x512, .f32⟩
  | _, _ => ⟨S2x16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem1_0 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27

abbrev nD : Nat := 1
abbrev τ : Topo := Topo.v7x

variable {F : FTy → Type} [FloatOps F]

abbrev grid0 : Pipeline.Grid := ⟨2, ![2, 26], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x640x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x640x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S640x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S640x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x4x2x640x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x640x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x136x640 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨3, ![2, 4, 65], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 1 → Memref sig .tc .vmem S4x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 2 → Memref sig .tc .vmem S1x1x2x256x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x16640x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x1x136x16640 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1x256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]
-- ==== KernelIdeal.lean ====
variable {F : FTy → Type} [FloatOps F] [Named F]
def κ : String → Option EReal := fun
  | "qscale" => some ((8⁻¹ * (Real.log 2)⁻¹ : ℝ) : EReal)
  | _ => none
-- ==== ReferenceIdeal.lean ====
abbrev S2x16640x4096 : Shape := ⟨3, ![2, 16640, 4096]⟩
abbrev S16384x16 : Shape := ⟨2, ![16384, 16]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S2x16640x512 : Shape := ⟨3, ![2, 16640, 512]⟩
abbrev S2x16640x4x2x64 : Shape := ⟨5, ![2, 16640, 4, 2, 64]⟩
abbrev S2x16640x4x128 : Shape := ⟨4, ![2, 16640, 4, 128]⟩
abbrev S2x16384x4x2x64 : Shape := ⟨5, ![2, 16384, 4, 2, 64]⟩
abbrev S16384x1x1x16 : Shape := ⟨4, ![16384, 1, 1, 16]⟩
abbrev S2x16384x4x2x32 : Shape := ⟨5, ![2, 16384, 4, 2, 32]⟩
abbrev S2x16384x4x2x16 : Shape := ⟨5, ![2, 16384, 4, 2, 16]⟩
abbrev S1x16384x1x1x16 : Shape := ⟨5, ![1, 16384, 1, 1, 16]⟩
abbrev S2x256x4x2x64 : Shape := ⟨5, ![2, 256, 4, 2, 64]⟩
abbrev S2x4x2x16384x16640 : Shape := ⟨5, ![2, 4, 2, 16384, 16640]⟩
abbrev S2x4x2x16384 : Shape := ⟨4, ![2, 4, 2, 16384]⟩
abbrev S2x4x2x16384x1 : Shape := ⟨5, ![2, 4, 2, 16384, 1]⟩
abbrev S2x4x1x16384x16640 : Shape := ⟨5, ![2, 4, 1, 16384, 16640]⟩
abbrev S2x4x16384x16640 : Shape := ⟨4, ![2, 4, 16384, 16640]⟩
abbrev S2x4x128x16384 : Shape := ⟨4, ![2, 4, 128, 16384]⟩
abbrev S2x16384x4x128 : Shape := ⟨4, ![2, 16384, 4, 128]⟩
abbrev S2x256x4x128 : Shape := ⟨4, ![2, 256, 4, 128]⟩
abbrev S2x4x2x256x256 : Shape := ⟨5, ![2, 4, 2, 256, 256]⟩
abbrev S2x4x2x256 : Shape := ⟨4, ![2, 4, 2, 256]⟩
abbrev S2x4x2x256x1 : Shape := ⟨5, ![2, 4, 2, 256, 1]⟩
abbrev S2x4x1x256x256 : Shape := ⟨5, ![2, 4, 1, 256, 256]⟩
abbrev S2x4x256x256 : Shape := ⟨4, ![2, 4, 256, 256]⟩
abbrev S2x4x128x256 : Shape := ⟨4, ![2, 4, 128, 256]⟩
abbrev S2x16640x4 : Shape := ⟨3, ![2, 16640, 4]⟩
abbrev S2x16640x4x1 : Shape := ⟨4, ![2, 16640, 4, 1]⟩
abbrev S1x1x1x128 : Shape := ⟨4, ![1, 1, 1, 128]⟩

abbrev nBuf : Space → Nat
  | .hbm => 199
  | .vmem => 0
  | .smem => 0
  | _ => 0

abbrev hbmTy0_0 (i : Nat) : BufTy := match i % 128 with
  | 0 => ⟨S2x16640x4096, .bf16⟩
  | 1 => ⟨S16384x16, .f32⟩
  | 2 => ⟨S16384x16, .f32⟩
  | 3 => ⟨S16384x16, .f32⟩
  | 4 => ⟨S16384x16, .f32⟩
  | 5 => ⟨S4x64, .f32⟩
  | 6 => ⟨S128, .f32⟩
  | 7 => ⟨S1x64, .f32⟩
  | 8 => ⟨S64, .f32⟩
  | 9 => ⟨S1x64, .f32⟩
  | 10 => ⟨S64, .f32⟩
  | 11 => ⟨S64, .f32⟩
  | 12 => ⟨S_, .f32⟩
  | 13 => ⟨S_, .f32⟩
  | 14 => ⟨S_, .f32⟩
  | 15 => ⟨S1x64, .f32⟩
  | 16 => ⟨S64, .f32⟩
  | 17 => ⟨S1x64, .f32⟩
  | 18 => ⟨S64, .f32⟩
  | 19 => ⟨S64, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S2x16640x512, .bf16⟩
  | 27 => ⟨S2x16640x512, .f32⟩
  | 28 => ⟨S2x16640x4x2x64, .f32⟩
  | 29 => ⟨S2x16640x512, .bf16⟩
  | 30 => ⟨S2x16640x512, .f32⟩
  | 31 => ⟨S2x16640x4x2x64, .f32⟩
  | 32 => ⟨S2x16640x512, .bf16⟩
  | 33 => ⟨S2x16640x512, .f32⟩
  | 34 => ⟨S2x16640x4x128, .f32⟩
  | 35 => ⟨S2x16384x4x2x64, .f32⟩
  | 36 => ⟨S16384x1x1x16, .f32⟩
  | 37 => ⟨S16384x1x1x16, .f32⟩
  | 38 => ⟨S16384x1x1x16, .f32⟩
  | 39 => ⟨S16384x1x1x16, .f32⟩
  | 40 => ⟨S2x16384x4x2x32, .f32⟩
  | 41 => ⟨S2x16384x4x2x16, .f32⟩
  | 42 => ⟨S2x16384x4x2x16, .f32⟩
  | 43 => ⟨S1x16384x1x1x16, .f32⟩
  | 44 => ⟨S2x16384x4x2x16, .f32⟩
  | 45 => ⟨S2x16384x4x2x16, .f32⟩
  | 46 => ⟨S1x16384x1x1x16, .f32⟩
  | 47 => ⟨S2x16384x4x2x16, .f32⟩
  | 48 => ⟨S2x16384x4x2x16, .f32⟩
  | 49 => ⟨S2x16384x4x2x16, .f32⟩
  | 50 => ⟨S1x16384x1x1x16, .f32⟩
  | 51 => ⟨S2x16384x4x2x16, .f32⟩
  | 52 => ⟨S2x16384x4x2x16, .f32⟩
  | 53 => ⟨S1x16384x1x1x16, .f32⟩
  | 54 => ⟨S2x16384x4x2x16, .f32⟩
  | 55 => ⟨S2x16384x4x2x16, .f32⟩
  | 56 => ⟨S2x16384x4x2x16, .f32⟩
  | 57 => ⟨S2x16384x4x2x32, .f32⟩
  | 58 => ⟨S2x16384x4x2x32, .f32⟩
  | 59 => ⟨S2x16384x4x2x16, .f32⟩
  | 60 => ⟨S2x16384x4x2x16, .f32⟩
  | 61 => ⟨S1x16384x1x1x16, .f32⟩
  | 62 => ⟨S2x16384x4x2x16, .f32⟩
  | 63 => ⟨S2x16384x4x2x16, .f32⟩
  | 64 => ⟨S1x16384x1x1x16, .f32⟩
  | 65 => ⟨S2x16384x4x2x16, .f32⟩
  | 66 => ⟨S2x16384x4x2x16, .f32⟩
  | 67 => ⟨S2x16384x4x2x16, .f32⟩
  | 68 => ⟨S1x16384x1x1x16, .f32⟩
  | 69 => ⟨S2x16384x4x2x16, .f32⟩
  | 70 => ⟨S2x16384x4x2x16, .f32⟩
  | 71 => ⟨S1x16384x1x1x16, .f32⟩
  | 72 => ⟨S2x16384x4x2x16, .f32⟩
  | 73 => ⟨S2x16384x4x2x16, .f32⟩
  | 74 => ⟨S2x16384x4x2x16, .f32⟩
  | 75 => ⟨S2x16384x4x2x32, .f32⟩
  | 76 => ⟨S2x16384x4x2x64, .f32⟩
  | 77 => ⟨S2x256x4x2x64, .f32⟩
  | 78 => ⟨S2x16384x4x2x64, .f32⟩
  | 79 => ⟨S16384x1x1x16, .f32⟩
  | 80 => ⟨S16384x1x1x16, .f32⟩
  | 81 => ⟨S16384x1x1x16, .f32⟩
  | 82 => ⟨S16384x1x1x16, .f32⟩
  | 83 => ⟨S2x16384x4x2x32, .f32⟩
  | 84 => ⟨S2x16384x4x2x16, .f32⟩
  | 85 => ⟨S2x16384x4x2x16, .f32⟩
  | 86 => ⟨S1x16384x1x1x16, .f32⟩
  | 87 => ⟨S2x16384x4x2x16, .f32⟩
  | 88 => ⟨S2x16384x4x2x16, .f32⟩
  | 89 => ⟨S1x16384x1x1x16, .f32⟩
  | 90 => ⟨S2x16384x4x2x16, .f32⟩
  | 91 => ⟨S2x16384x4x2x16, .f32⟩
  | 92 => ⟨S2x16384x4x2x16, .f32⟩
  | 93 => ⟨S1x16384x1x1x16, .f32⟩
  | 94 => ⟨S2x16384x4x2x16, .f32⟩
  | 95 => ⟨S2x16384x4x2x16, .f32⟩
  | 96 => ⟨S1x16384x1x1x16, .f32⟩
  | 97 => ⟨S2x16384x4x2x16, .f32⟩
  | 98 => ⟨S2x16384x4x2x16, .f32⟩
  | 99 => ⟨S2x16384x4x2x16, .f32⟩
  | 100 => ⟨S2x16384x4x2x32, .f32⟩
  | 101 => ⟨S2x16384x4x2x32, .f32⟩
  | 102 => ⟨S2x16384x4x2x16, .f32⟩
  | 103 => ⟨S2x16384x4x2x16, .f32⟩
  | 104 => ⟨S1x16384x1x1x16, .f32⟩
  | 105 => ⟨S2x16384x4x2x16, .f32⟩
  | 106 => ⟨S2x16384x4x2x16, .f32⟩
  | 107 => ⟨S1x16384x1x1x16, .f32⟩
  | 108 => ⟨S2x16384x4x2x16, .f32⟩
  | 109 => ⟨S2x16384x4x2x16, .f32⟩
  | 110 => ⟨S2x16384x4x2x16, .f32⟩
  | 111 => ⟨S1x16384x1x1x16, .f32⟩
  | 112 => ⟨S2x16384x4x2x16, .f32⟩
  | 113 => ⟨S2x16384x4x2x16, .f32⟩
  | 114 => ⟨S1x16384x1x1x16, .f32⟩
  | 115 => ⟨S2x16384x4x2x16, .f32⟩
  | 116 => ⟨S2x16384x4x2x16, .f32⟩
  | 117 => ⟨S2x16384x4x2x16, .f32⟩
  | 118 => ⟨S2x16384x4x2x32, .f32⟩
  | 119 => ⟨S2x16384x4x2x64, .f32⟩
  | 120 => ⟨S2x16640x4x2x64, .f32⟩
  | 121 => ⟨S2x4x2x16384x16640, .f32⟩
  | 122 => ⟨S_, .f32⟩
  | 123 => ⟨S2x4x2x16384x16640, .f32⟩
  | 124 => ⟨S2x4x2x16384x16640, .f32⟩
  | 125 => ⟨S_, .f32⟩
  | 126 => ⟨S2x4x2x16384, .f32⟩
  | 127 => ⟨S_, .f32⟩
  | _ => ⟨S2x16640x4096, .bf16⟩

abbrev hbmTy0_1 (i : Nat) : BufTy := match i % 128 with
  | 0 => ⟨S2x4x2x16384, .f32⟩
  | 1 => ⟨S2x4x2x16384, .f32⟩
  | 2 => ⟨S2x4x2x16384x1, .f32⟩
  | 3 => ⟨S2x4x2x16384x16640, .f32⟩
  | 4 => ⟨S2x4x2x16384x16640, .f32⟩
  | 5 => ⟨S2x4x2x16384x16640, .f32⟩
  | 6 => ⟨S_, .f32⟩
  | 7 => ⟨S2x4x2x16384, .f32⟩
  | 8 => ⟨S2x4x2x16384x1, .f32⟩
  | 9 => ⟨S2x4x2x16384x16640, .f32⟩
  | 10 => ⟨S2x4x2x16384x16640, .f32⟩
  | 11 => ⟨S2x4x1x16384x16640, .f32⟩
  | 12 => ⟨S2x4x16384x16640, .f32⟩
  | 13 => ⟨S2x4x1x16384x16640, .f32⟩
  | 14 => ⟨S2x4x16384x16640, .f32⟩
  | 15 => ⟨S2x4x16384x16640, .f32⟩
  | 16 => ⟨S2x4x16384x16640, .f32⟩
  | 17 => ⟨S2x4x16384x16640, .f32⟩
  | 18 => ⟨S2x4x128x16384, .f32⟩
  | 19 => ⟨S2x16384x4x128, .f32⟩
  | 20 => ⟨S2x256x4x2x64, .f32⟩
  | 21 => ⟨S2x256x4x2x64, .f32⟩
  | 22 => ⟨S2x256x4x128, .f32⟩
  | 23 => ⟨S2x4x2x256x256, .f32⟩
  | 24 => ⟨S_, .f32⟩
  | 25 => ⟨S2x4x2x256x256, .f32⟩
  | 26 => ⟨S2x4x2x256x256, .f32⟩
  | 27 => ⟨S_, .f32⟩
  | 28 => ⟨S2x4x2x256, .f32⟩
  | 29 => ⟨S_, .f32⟩
  | 30 => ⟨S2x4x2x256, .f32⟩
  | 31 => ⟨S2x4x2x256, .f32⟩
  | 32 => ⟨S2x4x2x256x1, .f32⟩
  | 33 => ⟨S2x4x2x256x256, .f32⟩
  | 34 => ⟨S2x4x2x256x256, .f32⟩
  | 35 => ⟨S2x4x2x256x256, .f32⟩
  | 36 => ⟨S_, .f32⟩
  | 37 => ⟨S2x4x2x256, .f32⟩
  | 38 => ⟨S2x4x2x256x1, .f32⟩
  | 39 => ⟨S2x4x2x256x256, .f32⟩
  | 40 => ⟨S2x4x2x256x256, .f32⟩
  | 41 => ⟨S2x4x1x256x256, .f32⟩
  | 42 => ⟨S2x4x256x256, .f32⟩
  | 43 => ⟨S2x4x1x256x256, .f32⟩
  | 44 => ⟨S2x4x256x256, .f32⟩
  | 45 => ⟨S2x4x256x256, .f32⟩
  | 46 => ⟨S2x4x256x256, .f32⟩
  | 47 => ⟨S2x4x256x256, .f32⟩
  | 48 => ⟨S2x4x128x256, .f32⟩
  | 49 => ⟨S2x256x4x128, .f32⟩
  | 50 => ⟨S2x16640x4x128, .f32⟩
  | 51 => ⟨S2x16640x4x128, .f32⟩
  | 52 => ⟨S_, .f32⟩
  | 53 => ⟨S2x16640x4, .f32⟩
  | 54 => ⟨S2x16640x4x1, .f32⟩
  | 55 => ⟨S_, .f32⟩
  | 56 => ⟨S2x16640x4x1, .f32⟩
  | 57 => ⟨S2x16640x4x1, .f32⟩
  | 58 => ⟨S_, .f32⟩
  | 59 => ⟨S2x16640x4x1, .f32⟩
  | 60 => ⟨S2x16640x4x1, .f32⟩
  | 61 => ⟨S2x16640x4x1, .f32⟩
  | 62 => ⟨S2x16640x4x128, .f32⟩
  | 63 => ⟨S2x16640x4x128, .f32⟩
  | 64 => ⟨S1x1x1x128, .f32⟩
  | 65 => ⟨S2x16640x4x128, .f32⟩
  | 66 => ⟨S2x16640x4x128, .f32⟩
  | 67 => ⟨S_, .f32⟩
  | 68 => ⟨S2x16640x4x128, .f32⟩
  | 69 => ⟨S2x16640x4x128, .f32⟩
  | 70 => ⟨S2x16640x512, .f32⟩
  | _ => ⟨S2x16640x4096, .bf16⟩

abbrev hbmTy (i : Nat) : BufTy := match i / 128 with
  | 0 => hbmTy0_0 i
  | 1 => hbmTy0_1 i
  | _ => ⟨S2x16640x4096, .bf16⟩

abbrev bufTy : (tb : Table) → Fin (tcTables nBuf tb) → BufTy
  | .hbm, ⟨i, _⟩ => hbmTy i
  | _, _ => ⟨S2x16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_cst_2 : Ref sig .tc := ⟨.hbm, 122, rfl⟩
abbrev main_v112 : Ref sig .tc := ⟨.hbm, 123, rfl⟩
abbrev main_v113 : Ref sig .tc := ⟨.hbm, 124, rfl⟩
abbrev main_cst_3 : Ref sig .tc := ⟨.hbm, 125, rfl⟩
abbrev main_v114 : Ref sig .tc := ⟨.hbm, 126, rfl⟩
abbrev main_cst_4 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_cst_5 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_cst_6 : Ref sig .tc := ⟨.hbm, 152, rfl⟩
abbrev main_v138 : Ref sig .tc := ⟨.hbm, 153, rfl⟩
abbrev main_v139 : Ref sig .tc := ⟨.hbm, 154, rfl⟩
abbrev main_cst_7 : Ref sig .tc := ⟨.hbm, 155, rfl⟩
abbrev main_v140 : Ref sig .tc := ⟨.hbm, 156, rfl⟩
abbrev main_cst_8 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_cst_9 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_cst_10 : Ref sig .tc := ⟨.hbm, 180, rfl⟩
abbrev main_v162 : Ref sig .tc := ⟨.hbm, 181, rfl⟩
abbrev main_v163 : Ref sig .tc := ⟨.hbm, 182, rfl⟩
abbrev main_cst_11 : Ref sig .tc := ⟨.hbm, 183, rfl⟩
abbrev main_v164 : Ref sig .tc := ⟨.hbm, 184, rfl⟩
abbrev main_v165 : Ref sig .tc := ⟨.hbm, 185, rfl⟩
abbrev main_cst_12 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_cst_13 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩

abbrev nD : Nat := 1
abbrev τ : Topo := Topo.v7x

variable {F : FTy → Type} [FloatOps F]
-- ==== Even.lean ====
abbrev S2x16640x1024 : Shape := ⟨3, ![2, 16640, 1024]⟩
abbrev S2x3072 : Shape := ⟨2, ![2, 3072]⟩
abbrev S3072 : Shape := ⟨1, ![3072]⟩
abbrev S1024 : Shape := ⟨1, ![1024]⟩
abbrev S1024x4096 : Shape := ⟨2, ![1024, 4096]⟩
abbrev S2x1x3072 : Shape := ⟨3, ![2, 1, 3072]⟩
abbrev S1x3072 : Shape := ⟨2, ![1, 3072]⟩
abbrev S1x1024 : Shape := ⟨2, ![1, 1024]⟩
abbrev S2x16640x4096 : Shape := ⟨3, ![2, 16640, 4096]⟩
abbrev S1x1280x1024 : Shape := ⟨3, ![1, 1280, 1024]⟩
abbrev S1x1x3072 : Shape := ⟨3, ![1, 1, 3072]⟩
abbrev S1024x2048 : Shape := ⟨2, ![1024, 2048]⟩
abbrev S1x1280x2048 : Shape := ⟨3, ![1, 1280, 2048]⟩
abbrev S1280x1024 : Shape := ⟨2, ![1280, 1024]⟩
abbrev S1280 : Shape := ⟨1, ![1280]⟩
abbrev S1280x1 : Shape := ⟨2, ![1280, 1]⟩
abbrev S1x1x1024 : Shape := ⟨3, ![1, 1, 1024]⟩
abbrev S1280x2048 : Shape := ⟨2, ![1280, 2048]⟩

abbrev nBuf : Space → Nat
  | .hbm => 10
  | .vmem => 11
  | .smem => 0
  | _ => 0

abbrev bufTy : (tb : Table) → Fin (tcTables nBuf tb) → BufTy
  | .hbm, ⟨0, _⟩ => ⟨S2x16640x1024, .f32⟩
  | .hbm, ⟨1, _⟩ => ⟨S2x3072, .f32⟩
  | .hbm, ⟨2, _⟩ => ⟨S3072, .f32⟩
  | .hbm, ⟨3, _⟩ => ⟨S1024, .f32⟩
  | .hbm, ⟨4, _⟩ => ⟨S1024x4096, .f32⟩
  | .hbm, ⟨5, _⟩ => ⟨S2x1x3072, .f32⟩
  | .hbm, ⟨6, _⟩ => ⟨S1x3072, .f32⟩
  | .hbm, ⟨7, _⟩ => ⟨S1024x4096, .bf16⟩
  | .hbm, ⟨8, _⟩ => ⟨S1x1024, .f32⟩
  | .hbm, ⟨9, _⟩ => ⟨S2x16640x4096, .bf16⟩
  | .local _ .vmem, ⟨0, _⟩ => ⟨S1x1280x1024, .f32⟩
  | .local _ .vmem, ⟨1, _⟩ => ⟨S1x1280x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x3072, .f32⟩
  | .local _ .vmem, ⟨5, _⟩ => ⟨S1x1024, .f32⟩
  | .local _ .vmem, ⟨6, _⟩ => ⟨S1024x2048, .bf16⟩
  | .local _ .vmem, ⟨7, _⟩ => ⟨S1024x2048, .bf16⟩
  | .local _ .vmem, ⟨8, _⟩ => ⟨S1x1280x2048, .bf16⟩
  | .local _ .vmem, ⟨9, _⟩ => ⟨S1x1280x2048, .bf16⟩
  | .local _ .vmem, ⟨10, _⟩ => ⟨S1280x1024, .bf16⟩
  | _, _ => ⟨S2x16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 13, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1280x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== EvenRefIdeal.lean ====
abbrev S2x16640x1024 : Shape := ⟨3, ![2, 16640, 1024]⟩
abbrev S2x3072 : Shape := ⟨2, ![2, 3072]⟩
abbrev S3072 : Shape := ⟨1, ![3072]⟩
abbrev S1024 : Shape := ⟨1, ![1024]⟩
abbrev S1024x4096 : Shape := ⟨2, ![1024, 4096]⟩
abbrev S2x1024 : Shape := ⟨2, ![2, 1024]⟩
abbrev S2x16384x1024 : Shape := ⟨3, ![2, 16384, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x1x1024 : Shape := ⟨3, ![2, 1, 1024]⟩
abbrev S2x256x1024 : Shape := ⟨3, ![2, 256, 1024]⟩
abbrev S2x256 : Shape := ⟨2, ![2, 256]⟩
abbrev S2x256x1 : Shape := ⟨3, ![2, 256, 1]⟩
abbrev S2x256x4096 : Shape := ⟨3, ![2, 256, 4096]⟩
abbrev S2x16384x4096 : Shape := ⟨3, ![2, 16384, 4096]⟩
abbrev S2x16640x4096 : Shape := ⟨3, ![2, 16640, 4096]⟩

abbrev nBuf : Space → Nat
  | .hbm => 67
  | .vmem => 0
  | .smem => 0
  | _ => 0

abbrev bufTy : (tb : Table) → Fin (tcTables nBuf tb) → BufTy
  | .hbm, ⟨0, _⟩ => ⟨S2x16640x1024, .f32⟩
  | .hbm, ⟨1, _⟩ => ⟨S2x3072, .f32⟩
  | .hbm, ⟨2, _⟩ => ⟨S3072, .f32⟩
  | .hbm, ⟨3, _⟩ => ⟨S1024, .f32⟩
  | .hbm, ⟨4, _⟩ => ⟨S1024x4096, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S2x16384x1024, .f32⟩
  | .hbm, ⟨12, _⟩ => ⟨S2x16384x1024, .f32⟩
  | .hbm, ⟨13, _⟩ => ⟨S_, .f32⟩
  | .hbm, ⟨14, _⟩ => ⟨S2x16384, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S_, .f32⟩
  | .hbm, ⟨20, _⟩ => ⟨S2x16384x1, .f32⟩
  | .hbm, ⟨21, _⟩ => ⟨S2x16384x1, .f32⟩
  | .hbm, ⟨22, _⟩ => ⟨S2x16384x1, .f32⟩
  | .hbm, ⟨23, _⟩ => ⟨S2x16384x1024, .f32⟩
  | .hbm, ⟨24, _⟩ => ⟨S2x16384x1024, .f32⟩
  | .hbm, ⟨25, _⟩ => ⟨S1x1x1024, .f32⟩
  | .hbm, ⟨26, _⟩ => ⟨S2x16384x1024, .f32⟩
  | .hbm, ⟨27, _⟩ => ⟨S2x16384x1024, .f32⟩
  | .hbm, ⟨28, _⟩ => ⟨S2x1x1024, .f32⟩
  | .hbm, ⟨29, _⟩ => ⟨S_, .f32⟩
  | .hbm, ⟨30, _⟩ => ⟨S2x1x1024, .f32⟩
  | .hbm, ⟨31, _⟩ => ⟨S2x1x1024, .f32⟩
  | .hbm, ⟨32, _⟩ => ⟨S2x16384x1024, .f32⟩
  | .hbm, ⟨33, _⟩ => ⟨S2x16384x1024, .f32⟩
  | .hbm, ⟨34, _⟩ => ⟨S2x1x1024, .f32⟩
  | .hbm, ⟨35, _⟩ => ⟨S2x16384x1024, .f32⟩
  | .hbm, ⟨36, _⟩ => ⟨S2x16384x1024, .f32⟩
  | .hbm, ⟨37, _⟩ => ⟨S2x256x1024, .f32⟩
  | .hbm, ⟨38, _⟩ => ⟨S2x256x1024, .f32⟩
  | .hbm, ⟨39, _⟩ => ⟨S_, .f32⟩
  | .hbm, ⟨40, _⟩ => ⟨S2x256, .f32⟩
  | .hbm, ⟨41, _⟩ => ⟨S2x256x1, .f32⟩
  | .hbm, ⟨42, _⟩ => ⟨S_, .f32⟩
  | .hbm, ⟨43, _⟩ => ⟨S2x256x1, .f32⟩
  | .hbm, ⟨44, _⟩ => ⟨S2x256x1, .f32⟩
  | .hbm, ⟨45, _⟩ => ⟨S_, .f32⟩
  | .hbm, ⟨46, _⟩ => ⟨S2x256x1, .f32⟩
  | .hbm, ⟨47, _⟩ => ⟨S2x256x1, .f32⟩
  | .hbm, ⟨48, _⟩ => ⟨S2x256x1, .f32⟩
  | .hbm, ⟨49, _⟩ => ⟨S2x256x1024, .f32⟩
  | .hbm, ⟨50, _⟩ => ⟨S2x256x1024, .f32⟩
  | .hbm, ⟨51, _⟩ => ⟨S1x1x1024, .f32⟩
  | .hbm, ⟨52, _⟩ => ⟨S2x256x1024, .f32⟩
  | .hbm, ⟨53, _⟩ => ⟨S2x256x1024, .f32⟩
  | .hbm, ⟨54, _⟩ => ⟨S_, .f32⟩
  | .hbm, ⟨55, _⟩ => ⟨S1024, .f32⟩
  | .hbm, ⟨56, _⟩ => ⟨S1024, .f32⟩
  | .hbm, ⟨57, _⟩ => ⟨S1x1x1024, .f32⟩
  | .hbm, ⟨58, _⟩ => ⟨S2x256x1024, .f32⟩
  | .hbm, ⟨59, _⟩ => ⟨S2x256x1024, .f32⟩
  | .hbm, ⟨60, _⟩ => ⟨S1x1x1024, .f32⟩
  | .hbm, ⟨61, _⟩ => ⟨S2x256x1024, .f32⟩
  | .hbm, ⟨62, _⟩ => ⟨S2x256x1024, .f32⟩
  | .hbm, ⟨63, _⟩ => ⟨S2x256x4096, .f32⟩
  | .hbm, ⟨64, _⟩ => ⟨S2x16384x4096, .f32⟩
  | .hbm, ⟨65, _⟩ => ⟨S2x16640x4096, .f32⟩
  | .hbm, ⟨66, _⟩ => ⟨S2x16640x4096, .bf16⟩
  | _, _ => ⟨S2x16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩

abbrev nD : Nat := 1
abbrev τ : Topo := Topo.v7x

variable {F : FTy → Type} [FloatOps F]
-- ==== Out.lean ====
abbrev S2x16640x2048 : Shape := ⟨3, ![2, 16640, 2048]⟩
abbrev S2x16640x6144 : Shape := ⟨3, ![2, 16640, 6144]⟩
abbrev S2x16640x1024 : Shape := ⟨3, ![2, 16640, 1024]⟩
abbrev S2x3072 : Shape := ⟨2, ![2, 3072]⟩
abbrev S2048 : Shape := ⟨1, ![2048]⟩
abbrev S2048x1024 : Shape := ⟨2, ![2048, 1024]⟩
abbrev S1024 : Shape := ⟨1, ![1024]⟩
abbrev S2x1x3072 : Shape := ⟨3, ![2, 1, 3072]⟩
abbrev S1x2048 : Shape := ⟨2, ![1, 2048]⟩
abbrev S1x1024 : Shape := ⟨2, ![1, 1024]⟩
abbrev S2x16384x1024 : Shape := ⟨3, ![2, 16384, 1024]⟩
abbrev S1x256x2048 : Shape := ⟨3, ![1, 256, 2048]⟩
abbrev S1x256x1024 : Shape := ⟨3, ![1, 256, 1024]⟩
abbrev S1x1x3072 : Shape := ⟨3, ![1, 1, 3072]⟩
abbrev S1x512x1024 : Shape := ⟨3, ![1, 512, 1024]⟩
abbrev S512x2048 : Shape := ⟨2, ![512, 2048]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩
abbrev S1x256 : Shape := ⟨2, ![1, 256]⟩
abbrev S512x1024 : Shape := ⟨2, ![512, 1024]⟩
abbrev S1x1x1024 : Shape := ⟨3, ![1, 1, 1024]⟩
abbrev S256x1024 : Shape := ⟨2, ![256, 1024]⟩

abbrev nBuf : Space → Nat
  | .hbm => 12
  | .vmem => 20
  | .smem => 0
  | _ => 0

abbrev bufTy : (tb : Table) → Fin (tcTables nBuf tb) → BufTy
  | .hbm, ⟨0, _⟩ => ⟨S2x16640x2048, .f32⟩
  | .hbm, ⟨1, _⟩ => ⟨S2x16640x6144, .bf16⟩
  | .hbm, ⟨2, _⟩ => ⟨S2x16640x1024, .f32⟩
  | .hbm, ⟨3, _⟩ => ⟨S2x3072, .f32⟩
  | .hbm, ⟨4, _⟩ => ⟨S2048, .f32⟩
  | .hbm, ⟨5, _⟩ => ⟨S2048x1024, .f32⟩
  | .hbm, ⟨6, _⟩ => ⟨S1024, .f32⟩
  | .hbm, ⟨7, _⟩ => ⟨S2x1x3072, .f32⟩
  | .hbm, ⟨8, _⟩ => ⟨S1x2048, .f32⟩
  | .hbm, ⟨9, _⟩ => ⟨S2048x1024, .bf16⟩
  | .hbm, ⟨10, _⟩ => ⟨S1x1024, .f32⟩
  | .hbm, ⟨11, _⟩ => ⟨S2x16384x1024, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x2048, .f32⟩
  | .local _ .vmem, ⟨13, _⟩ => ⟨S2048x1024, .bf16⟩
  | .local _ .vmem, ⟨14, _⟩ => ⟨S1x1x3072, .f32⟩
  | .local _ .vmem, ⟨15, _⟩ => ⟨S1x1x3072, .f32⟩
  | .local _ .vmem, ⟨16, _⟩ => ⟨S1x1024, .f32⟩
  | .local _ .vmem, ⟨17, _⟩ => ⟨S1x512x1024, .f32⟩
  | .local _ .vmem, ⟨18, _⟩ => ⟨S1x512x1024, .f32⟩
  | .local _ .vmem, ⟨19, _⟩ => ⟨S512x2048, .bf16⟩
  | _, _ => ⟨S2x16640x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c1_i32 : BitVec 32 := 1#32
  let v2 : BitVec 32 := Scalar.addi v1 c1_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c1_i32_0 : BitVec 32 := 1#32
  let v2 : BitVec 32 := Scalar.addi v1 c1_i32_0
  let c0_i32 : BitVec 32 := 0#32
  let c0_i32_1 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c1_i32 : BitVec 32 := 1#32
  let v2 : BitVec 32 := Scalar.addi v1 c1_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c1_i32_0 : BitVec 32 := 1#32
  let v2 : BitVec 32 := Scalar.addi v1 c1_i32_0
  let c0_i32 : BitVec 32 := 0#32
  let c0_i32_1 : BitVec 32 := 0#32
  ![arg0.toNat, v2.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c1_i32 : BitVec 32 := 1#32
  let v2 : BitVec 32 := Scalar.addi v1 c1_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c1_i32_0 : BitVec 32 := 1#32
  let v2 : BitVec 32 := Scalar.addi v1 c1_i32_0
  let c0_i32 : BitVec 32 := 0#32
  let c0_i32_1 : BitVec 32 := 0#32
  ![arg0.toNat, v2.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== OutIdeal.lean ====
variable {F : FTy → Type} [FloatOps F] [Named F]
def κ : String → Option EReal := fun
  | "log2e" => some ((-((Real.log 2)⁻¹) : ℝ) : EReal)
  | _ => none
-- ==== OutRefIdeal.lean ====
abbrev S2x16640x2048 : Shape := ⟨3, ![2, 16640, 2048]⟩
abbrev S2x16640x6144 : Shape := ⟨3, ![2, 16640, 6144]⟩
abbrev S2x16640x1024 : Shape := ⟨3, ![2, 16640, 1024]⟩
abbrev S2x3072 : Shape := ⟨2, ![2, 3072]⟩
abbrev S2048 : Shape := ⟨1, ![2048]⟩
abbrev S2048x1024 : Shape := ⟨2, ![2048, 1024]⟩
abbrev S1024 : Shape := ⟨1, ![1024]⟩
abbrev S2x16384x2048 : Shape := ⟨3, ![2, 16384, 2048]⟩
abbrev S_ : Shape := ⟨0, ![]⟩
abbrev S2x16384x8x256 : Shape := ⟨4, ![2, 16384, 8, 256]⟩
abbrev S8x256 : Shape := ⟨2, ![8, 256]⟩
abbrev S2x16384x8 : Shape := ⟨3, ![2, 16384, 8]⟩
abbrev S2x16384x8x1 : Shape := ⟨4, ![2, 16384, 8, 1]⟩
abbrev S1x1x8x256 : Shape := ⟨4, ![1, 1, 8, 256]⟩
abbrev S2x16384x1024 : Shape := ⟨3, ![2, 16384, 1024]⟩
abbrev S2x1024 : Shape := ⟨2, ![2, 1024]⟩
abbrev S2x1x1024 : Shape := ⟨3, ![2, 1, 1024]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S2x16640x2048, .f32⟩
  | .hbm, ⟨1, _⟩ => ⟨S2x16640x6144, .bf16⟩
  | .hbm, ⟨2, _⟩ => ⟨S2x16640x1024, .f32⟩
  | .hbm, ⟨3, _⟩ => ⟨S2x3072, .f32⟩
  | .hbm, ⟨4, _⟩ => ⟨S2048, .f32⟩
  | .hbm, ⟨5, _⟩ => ⟨S2048x1024, .f32⟩
  | .hbm, ⟨6, _⟩ => ⟨S1024, .f32⟩
  | .hbm, ⟨7, _⟩ => ⟨S2x16384x2048, .f32⟩
  | .hbm, ⟨8, _⟩ => ⟨S2x16384x2048, .bf16⟩
  | .hbm, ⟨9, _⟩ => ⟨S2x16384x2048, .f32⟩
  | .hbm, ⟨10, _⟩ => ⟨S2x16384x2048, .f32⟩
  | .hbm, ⟨11, _⟩ => ⟨S2x16384x2048, .f32⟩
  | .hbm, ⟨12, _⟩ => ⟨S_, .f32⟩
  | .hbm, ⟨13, _⟩ => ⟨S2x16384x2048, .f32⟩
  | .hbm, ⟨14, _⟩ => ⟨S2x16384x2048, .f32⟩
  | .hbm, ⟨15, _⟩ => ⟨S_, .f32⟩
  | .hbm, ⟨16, _⟩ => ⟨S2x16384x2048, .f32⟩
  | .hbm, ⟨17, _⟩ => ⟨S2x16384x2048, .f32⟩
  | .hbm, ⟨18, _⟩ => ⟨S2x16384x2048, .f32⟩
  | .hbm, ⟨19, _⟩ => ⟨S2x16384x2048, .f32⟩
  | .hbm, ⟨20, _⟩ => ⟨S2x16384x8x256, .f32⟩
  | .hbm, ⟨21, _⟩ => ⟨S8x256, .f32⟩
  | .hbm, ⟨22, _⟩ => ⟨S2x16384x8x256, .f32⟩
  | .hbm, ⟨23, _⟩ => ⟨S_, .f32⟩
  | .hbm, ⟨24, _⟩ => ⟨S2x16384x8, .f32⟩
  | .hbm, ⟨25, _⟩ => ⟨S2x16384x8x1, .f32⟩
  | .hbm, ⟨26, _⟩ => ⟨S_, .f32⟩
  | .hbm, ⟨27, _⟩ => ⟨S2x16384x8x1, .f32⟩
  | .hbm, ⟨28, _⟩ => ⟨S2x16384x8x1, .f32⟩
  | .hbm, ⟨29, _⟩ => ⟨S_, .f32⟩
  | .hbm, ⟨30, _⟩ => ⟨S2x16384x8x1, .f32⟩
  | .hbm, ⟨31, _⟩ => ⟨S2x16384x8x1, .f32⟩
  | .hbm, ⟨32, _⟩ => ⟨S2x16384x8x1, .f32⟩
  | .hbm, ⟨33, _⟩ => ⟨S2x16384x8x256, .f32⟩
  | .hbm, ⟨34, _⟩ => ⟨S2x16384x8x256, .f32⟩
  | .hbm, ⟨35, _⟩ => ⟨S1x1x8x256, .f32⟩
  | .hbm, ⟨36, _⟩ => ⟨S2x16384x8x256, .f32⟩
  | .hbm, ⟨37, _⟩ => ⟨S2x16384x8x256, .f32⟩
  | .hbm, ⟨38, _⟩ => ⟨S2x16384x2048, .f32⟩
  | .hbm, ⟨39, _⟩ => ⟨S2x16384x1024, .f32⟩
  | .hbm, ⟨40, _⟩ => ⟨S2x1024, .f32⟩
  | .hbm, ⟨41, _⟩ => ⟨S2x1x1024, .f32⟩
  | .hbm, ⟨42, _⟩ => ⟨S2x16384x1024, .f32⟩
  | .hbm, ⟨43, _⟩ => ⟨S2x16384x1024, .f32⟩
  | .hbm, ⟨44, _⟩ => ⟨S2x16384x1024, .f32⟩
  | .hbm, ⟨45, _⟩ => ⟨S2x16384x1024, .f32⟩
  | .hbm, ⟨46, _⟩ => ⟨S2x16384x1024, .f32⟩
  | .hbm, ⟨47, _⟩ => ⟨S_, .f32⟩
  | .hbm, ⟨48, _⟩ => ⟨S2x16384, .f32⟩
  | .hbm, ⟨49, _⟩ => ⟨S2x16384x1, .f32⟩
  | .hbm, ⟨50, _⟩ => ⟨S_, .f32⟩
  | .hbm, ⟨51, _⟩ => ⟨S2x16384x1, .f32⟩
  | .hbm, ⟨52, _⟩ => ⟨S2x16384x1, .f32⟩
  | .hbm, ⟨53, _⟩ => ⟨S_, .f32⟩
  | .hbm, ⟨54, _⟩ => ⟨S2x16384x1, .f32⟩
  | .hbm, ⟨55, _⟩ => ⟨S2x16384x1, .f32⟩
  | .hbm, ⟨56, _⟩ => ⟨S2x16384x1, .f32⟩
  | .hbm, ⟨57, _⟩ => ⟨S2x16384x1024, .f32⟩
  | .hbm, ⟨58, _⟩ => ⟨S2x16384x1024, .f32⟩
  | .hbm, ⟨59, _⟩ => ⟨S1x1x1024, .f32⟩
  | .hbm, ⟨60, _⟩ => ⟨S2x16384x1024, .f32⟩
  | .hbm, ⟨61, _⟩ => ⟨S2x16384x1024, .f32⟩
  | _, _ => ⟨S2x16640x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_2 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]
-- ==== Merge.lean ====
abbrev S2x16640x512 : Shape := ⟨3, ![2, 16640, 512]⟩
abbrev S2x16640x4096 : Shape := ⟨3, ![2, 16640, 4096]⟩
abbrev S2x16640x1024 : Shape := ⟨3, ![2, 16640, 1024]⟩
abbrev S2x3072 : Shape := ⟨2, ![2, 3072]⟩
abbrev S3072 : Shape := ⟨1, ![3072]⟩
abbrev S1024x1024 : Shape := ⟨2, ![1024, 1024]⟩
abbrev S2x1x3072 : Shape := ⟨3, ![2, 1, 3072]⟩
abbrev S1x3072 : Shape := ⟨2, ![1, 3072]⟩
abbrev S512x1024 : Shape := ⟨2, ![512, 1024]⟩
abbrev S1x1280x512 : Shape := ⟨3, ![1, 1280, 512]⟩
abbrev S1x1280x1024 : Shape := ⟨3, ![1, 1280, 1024]⟩
abbrev S1x1x3072 : Shape := ⟨3, ![1, 1, 3072]⟩
abbrev S1280x512 : Shape := ⟨2, ![1280, 512]⟩
abbrev S1280x1024 : Shape := ⟨2, ![1280, 1024]⟩
abbrev S1x1024 : Shape := ⟨2, ![1, 1024]⟩
abbrev S1x1x1024 : Shape := ⟨3, ![1, 1, 1024]⟩
abbrev S1280x1 : Shape := ⟨2, ![1280, 1]⟩

abbrev nBuf : Space → Nat
  | .hbm => 14
  | .vmem => 17
  | .smem => 0
  | _ => 0

abbrev bufTy : (tb : Table) → Fin (tcTables nBuf tb) → BufTy
  | .hbm, ⟨0, _⟩ => ⟨S2x16640x512, .bf16⟩
  | .hbm, ⟨1, _⟩ => ⟨S2x16640x512, .f32⟩
  | .hbm, ⟨2, _⟩ => ⟨S2x16640x4096, .bf16⟩
  | .hbm, ⟨3, _⟩ => ⟨S2x16640x1024, .f32⟩
  | .hbm, ⟨4, _⟩ => ⟨S2x3072, .f32⟩
  | .hbm, ⟨5, _⟩ => ⟨S3072, .f32⟩
  | .hbm, ⟨6, _⟩ => ⟨S1024x1024, .f32⟩
  | .hbm, ⟨7, _⟩ => ⟨S2x1x3072, .f32⟩
  | .hbm, ⟨8, _⟩ => ⟨S1x3072, .f32⟩
  | .hbm, ⟨9, _⟩ => ⟨S512x1024, .f32⟩
  | .hbm, ⟨10, _⟩ => ⟨S512x1024, .bf16⟩
  | .hbm, ⟨11, _⟩ => ⟨S512x1024, .f32⟩
  | .hbm, ⟨12, _⟩ => ⟨S512x1024, .bf16⟩
  | .hbm, ⟨13, _⟩ => ⟨S2x16640x1024, .f32⟩
  | .local _ .vmem, ⟨0, _⟩ => ⟨S1x1280x512, .bf16⟩
  | .local _ .vmem, ⟨1, _⟩ => ⟨S1x1280x512, .bf16⟩
  | .local _ .vmem, ⟨2, _⟩ => ⟨S1x1280x512, .bf16⟩
  | .local _ .vmem, ⟨3, _⟩ => ⟨S1x1280x512, .bf16⟩
  | .local _ .vmem, ⟨4, _⟩ => ⟨S1x1280x512, .f32⟩
  | .local _ .vmem, ⟨5, _⟩ => ⟨S1x1280x512, .f32⟩
  | .local _ .vmem, ⟨6, _⟩ => ⟨S1x1280x512, .bf16⟩
  | .local _ .vmem, ⟨7, _⟩ => ⟨S1x1280x512, .bf16⟩
  | .local _ .vmem, ⟨8, _⟩ => ⟨S1x1280x1024, .f32⟩
  | .local _ .vmem, ⟨9, _⟩ => ⟨S1x1280x1024, .f32⟩
  | .local _ .vmem, ⟨10, _⟩ => ⟨S1x1x3072, .f32⟩
  | .local _ .vmem, ⟨11, _⟩ => ⟨S1x1x3072, .f32⟩
  | .local _ .vmem, ⟨12, _⟩ => ⟨S1x3072, .f32⟩
  | .local _ .vmem, ⟨13, _⟩ => ⟨S512x1024, .bf16⟩
  | .local _ .vmem, ⟨14, _⟩ => ⟨S512x1024, .bf16⟩
  | .local _ .vmem, ⟨15, _⟩ => ⟨S1x1280x1024, .f32⟩
  | .local _ .vmem, ⟨16, _⟩ => ⟨S1x1280x1024, .f32⟩
  | _, _ => ⟨S2x16640x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 13], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1280x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1280x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1280x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1280x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1280x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1280x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeIdeal.lean ====
variable {F : FTy → Type} [FloatOps F] [Named F]
def κ : String → Option EReal := fun
  | "log2e" => some ((-((Real.log 2)⁻¹) : ℝ) : EReal)
  | _ => none
-- ==== MergeRefIdeal.lean ====
abbrev S2x16640x512 : Shape := ⟨3, ![2, 16640, 512]⟩
abbrev S2x16640x4096 : Shape := ⟨3, ![2, 16640, 4096]⟩
abbrev S2x16640x1024 : Shape := ⟨3, ![2, 16640, 1024]⟩
abbrev S2x3072 : Shape := ⟨2, ![2, 3072]⟩
abbrev S3072 : Shape := ⟨1, ![3072]⟩
abbrev S1024x1024 : Shape := ⟨2, ![1024, 1024]⟩
abbrev S_ : Shape := ⟨0, ![]⟩
abbrev S2x16384x1024 : Shape := ⟨3, ![2, 16384, 1024]⟩
abbrev S2x1024 : Shape := ⟨2, ![2, 1024]⟩
abbrev S2x1x1024 : Shape := ⟨3, ![2, 1, 1024]⟩
abbrev S2x256x1024 : Shape := ⟨3, ![2, 256, 1024]⟩
abbrev S1024 : Shape := ⟨1, ![1024]⟩
abbrev S1x1x1024 : Shape := ⟨3, ![1, 1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S2x16640x512, .bf16⟩
  | .hbm, ⟨1, _⟩ => ⟨S2x16640x512, .f32⟩
  | .hbm, ⟨2, _⟩ => ⟨S2x16640x4096, .bf16⟩
  | .hbm, ⟨3, _⟩ => ⟨S2x16640x1024, .f32⟩
  | .hbm, ⟨4, _⟩ => ⟨S2x3072, .f32⟩
  | .hbm, ⟨5, _⟩ => ⟨S3072, .f32⟩
  | .hbm, ⟨6, _⟩ => ⟨S1024x1024, .f32⟩
  | .hbm, ⟨7, _⟩ => ⟨S2x16640x512, .bf16⟩
  | .hbm, ⟨8, _⟩ => ⟨S2x16640x512, .f32⟩
  | .hbm, ⟨9, _⟩ => ⟨S2x16640x512, .bf16⟩
  | .hbm, ⟨10, _⟩ => ⟨S2x16640x512, .f32⟩
  | .hbm, ⟨11, _⟩ => ⟨S2x16640x512, .f32⟩
  | .hbm, ⟨12, _⟩ => ⟨S2x16640x512, .f32⟩
  | .hbm, ⟨13, _⟩ => ⟨S2x16640x512, .f32⟩
  | .hbm, ⟨14, _⟩ => ⟨S_, .f32⟩
  | .hbm, ⟨15, _⟩ => ⟨S2x16640x512, .f32⟩
  | .hbm, ⟨16, _⟩ => ⟨S2x16640x512, .f32⟩
  | .hbm, ⟨17, _⟩ => ⟨S_, .f32⟩
  | .hbm, ⟨18, _⟩ => ⟨S2x16640x512, .f32⟩
  | .hbm, ⟨19, _⟩ => ⟨S2x16640x512, .f32⟩
  | .hbm, ⟨20, _⟩ => ⟨S2x16640x512, .f32⟩
  | .hbm, ⟨21, _⟩ => ⟨S2x16640x512, .f32⟩
  | .hbm, ⟨22, _⟩ => ⟨S2x16640x512, .f32⟩
  | .hbm, ⟨23, _⟩ => ⟨S2x16640x512, .f32⟩
  | .hbm, ⟨24, _⟩ => ⟨S_, .f32⟩
  | .hbm, ⟨25, _⟩ => ⟨S2x16640x512, .f32⟩
  | .hbm, ⟨26, _⟩ => ⟨S2x16640x512, .f32⟩
  | .hbm, ⟨27, _⟩ => ⟨S_, .f32⟩
  | .hbm, ⟨28, _⟩ => ⟨S2x16640x512, .f32⟩
  | .hbm, ⟨29, _⟩ => ⟨S2x16640x512, .f32⟩
  | .hbm, ⟨30, _⟩ => ⟨S2x16640x512, .f32⟩
  | .hbm, ⟨31, _⟩ => ⟨S2x16640x512, .f32⟩
  | .hbm, ⟨32, _⟩ => ⟨S2x16640x1024, .f32⟩
  | .hbm, ⟨33, _⟩ => ⟨S2x16640x1024, .f32⟩
  | .hbm, ⟨34, _⟩ => ⟨S2x16384x1024, .f32⟩
  | .hbm, ⟨35, _⟩ => ⟨S2x1024, .f32⟩
  | .hbm, ⟨36, _⟩ => ⟨S2x1x1024, .f32⟩
  | .hbm, ⟨37, _⟩ => ⟨S2x16384x1024, .f32⟩
  | .hbm, ⟨38, _⟩ => ⟨S2x16384x1024, .f32⟩
  | .hbm, ⟨39, _⟩ => ⟨S2x16384x1024, .f32⟩
  | .hbm, ⟨40, _⟩ => ⟨S2x16384x1024, .f32⟩
  | .hbm, ⟨41, _⟩ => ⟨S2x256x1024, .f32⟩
  | .hbm, ⟨42, _⟩ => ⟨S1024, .f32⟩
  | .hbm, ⟨43, _⟩ => ⟨S2x256x1024, .f32⟩
  | .hbm, ⟨44, _⟩ => ⟨S1x1x1024, .f32⟩
  | .hbm, ⟨45, _⟩ => ⟨S2x256x1024, .f32⟩
  | .hbm, ⟨46, _⟩ => ⟨S2x256x1024, .f32⟩
  | .hbm, ⟨47, _⟩ => ⟨S2x256x1024, .f32⟩
  | .hbm, ⟨48, _⟩ => ⟨S2x16640x1024, .f32⟩
  | _, _ => ⟨S2x16640x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩

abbrev nD : Nat := 1
abbrev τ : Topo := Topo.v7x

variable {F : FTy → Type} [FloatOps F]
-- ==== Odd.lean ====
abbrev S2x16640x1024 : Shape := ⟨3, ![2, 16640, 1024]⟩
abbrev S2x3072 : Shape := ⟨2, ![2, 3072]⟩
abbrev S3072 : Shape := ⟨1, ![3072]⟩
abbrev S1024 : Shape := ⟨1, ![1024]⟩
abbrev S1024x6208 : Shape := ⟨2, ![1024, 6208]⟩
abbrev S1024x6144 : Shape := ⟨2, ![1024, 6144]⟩
abbrev S1024x64 : Shape := ⟨2, ![1024, 64]⟩
abbrev S_ : Shape := ⟨0, ![]⟩
abbrev S1024x128 : Shape := ⟨2, ![1024, 128]⟩
abbrev S2x1x3072 : Shape := ⟨3, ![2, 1, 3072]⟩
abbrev S1x3072 : Shape := ⟨2, ![1, 3072]⟩
abbrev S1x1024 : Shape := ⟨2, ![1, 1024]⟩
abbrev S2x16640x6144 : Shape := ⟨3, ![2, 16640, 6144]⟩
abbrev S2x16640x128 : Shape := ⟨3, ![2, 16640, 128]⟩
abbrev S1x1280x1024 : Shape := ⟨3, ![1, 1280, 1024]⟩
abbrev S1x1x3072 : Shape := ⟨3, ![1, 1, 3072]⟩
abbrev S1024x2048 : Shape := ⟨2, ![1024, 2048]⟩
abbrev S1x1280x2048 : Shape := ⟨3, ![1, 1280, 2048]⟩
abbrev S1x1280x128 : Shape := ⟨3, ![1, 1280, 128]⟩
abbrev S1280x1024 : Shape := ⟨2, ![1280, 1024]⟩
abbrev S1280 : Shape := ⟨1, ![1280]⟩
abbrev S1280x1 : Shape := ⟨2, ![1280, 1]⟩
abbrev S1x1x1024 : Shape := ⟨3, ![1, 1, 1024]⟩
abbrev S1280x128 : Shape := ⟨2, ![1280, 128]⟩
abbrev S1280x2048 : Shape := ⟨2, ![1280, 2048]⟩

abbrev nBuf : Space → Nat
  | .hbm => 17
  | .vmem => 14
  | .smem => 0
  | _ => 0

abbrev bufTy : (tb : Table) → Fin (tcTables nBuf tb) → BufTy
  | .hbm, ⟨0, _⟩ => ⟨S2x16640x1024, .f32⟩
  | .hbm, ⟨1, _⟩ => ⟨S2x3072, .f32⟩
  | .hbm, ⟨2, _⟩ => ⟨S3072, .f32⟩
  | .hbm, ⟨3, _⟩ => ⟨S1024, .f32⟩
  | .hbm, ⟨4, _⟩ => ⟨S1024x6208, .f32⟩
  | .hbm, ⟨5, _⟩ => ⟨S1024x6144, .f32⟩
  | .hbm, ⟨6, _⟩ => ⟨S1024x6144, .bf16⟩
  | .hbm, ⟨7, _⟩ => ⟨S1024x64, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S2x1x3072, .f32⟩
  | .hbm, ⟨13, _⟩ => ⟨S1x3072, .f32⟩
  | .hbm, ⟨14, _⟩ => ⟨S1x1024, .f32⟩
  | .hbm, ⟨15, _⟩ => ⟨S2x16640x6144, .bf16⟩
  | .hbm, ⟨16, _⟩ => ⟨S2x16640x128, .f32⟩
  | .local _ .vmem, ⟨0, _⟩ => ⟨S1x1280x1024, .f32⟩
  | .local _ .vmem, ⟨1, _⟩ => ⟨S1x1280x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x3072, .f32⟩
  | .local _ .vmem, ⟨5, _⟩ => ⟨S1x1024, .f32⟩
  | .local _ .vmem, ⟨6, _⟩ => ⟨S1024x2048, .bf16⟩
  | .local _ .vmem, ⟨7, _⟩ => ⟨S1024x2048, .bf16⟩
  | .local _ .vmem, ⟨8, _⟩ => ⟨S1024x128, .bf16⟩
  | .local _ .vmem, ⟨9, _⟩ => ⟨S1x1280x2048, .bf16⟩
  | .local _ .vmem, ⟨10, _⟩ => ⟨S1x1280x2048, .bf16⟩
  | .local _ .vmem, ⟨11, _⟩ => ⟨S1x1280x128, .f32⟩
  | .local _ .vmem, ⟨12, _⟩ => ⟨S1x1280x128, .f32⟩
  | .local _ .vmem, ⟨13, _⟩ => ⟨S1280x1024, .bf16⟩
  | _, _ => ⟨S2x16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![2, 13, 3], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let arg1 : BitVec 32 := BitVec.ofNat 32 (i 1).val
  let c1280_i32 : BitVec 32 := 1280#32
  let v1 : BitVec 32 := Scalar.muli arg1 c1280_i32
  let c256_i32 : BitVec 32 := 256#32
  let v2 : BitVec 1 := Scalar.cmpi .slt v1 c256_i32
  let v3 : BitVec 1 := Scalar.andi v0 v2
  let v4 : BitVec 32 := Scalar.extui v3
  let c0_i32_0 : BitVec 32 := 0#32
  let v5 : BitVec 1 := Scalar.cmpi .ne v4 c0_i32_0
  v5

def k0_cond2 (i : grid0.Coords) : BitVec 1 :=
  let arg2 : BitVec 32 := BitVec.ofNat 32 (i 2).val
  let c0_i32 : BitVec 32 := 0#32
  let v0 : BitVec 1 := Scalar.cmpi .eq arg2 c0_i32
  let arg1 : BitVec 32 := BitVec.ofNat 32 (i 1).val
  let c1280_i32_1 : BitVec 32 := 1280#32
  let v6 : BitVec 32 := Scalar.muli arg1 c1280_i32_1
  let c256_i32_2 : BitVec 32 := 256#32
  let v7 : BitVec 1 := Scalar.cmpi .sge v6 c256_i32_2
  let v8 : BitVec 1 := Scalar.andi v0 v7
  let v9 : BitVec 32 := Scalar.extui v8
  let c0_i32_3 : BitVec 32 := 0#32
  let v10 : BitVec 1 := Scalar.cmpi .ne v9 c0_i32_3
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1280x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1280x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== OddRefIdeal.lean ====
abbrev S2x16640x1024 : Shape := ⟨3, ![2, 16640, 1024]⟩
abbrev S2x3072 : Shape := ⟨2, ![2, 3072]⟩
abbrev S3072 : Shape := ⟨1, ![3072]⟩
abbrev S1024 : Shape := ⟨1, ![1024]⟩
abbrev S1024x6208 : Shape := ⟨2, ![1024, 6208]⟩
abbrev S2x1024 : Shape := ⟨2, ![2, 1024]⟩
abbrev S2x16384x1024 : Shape := ⟨3, ![2, 16384, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x1x1024 : Shape := ⟨3, ![2, 1, 1024]⟩
abbrev S2x256x1024 : Shape := ⟨3, ![2, 256, 1024]⟩
abbrev S2x256 : Shape := ⟨2, ![2, 256]⟩
abbrev S2x256x1 : Shape := ⟨3, ![2, 256, 1]⟩
abbrev S2x256x6208 : Shape := ⟨3, ![2, 256, 6208]⟩
abbrev S2x16384x6208 : Shape := ⟨3, ![2, 16384, 6208]⟩
abbrev S2x16640x6208 : Shape := ⟨3, ![2, 16640, 6208]⟩
abbrev S2x16640x6144 : Shape := ⟨3, ![2, 16640, 6144]⟩
abbrev S2x16640x64 : Shape := ⟨3, ![2, 16640, 64]⟩
abbrev S2x16640x128 : Shape := ⟨3, ![2, 16640, 128]⟩

abbrev nBuf : Space → Nat
  | .hbm => 72
  | .vmem => 0
  | .smem => 0
  | _ => 0

abbrev bufTy : (tb : Table) → Fin (tcTables nBuf tb) → BufTy
  | .hbm, ⟨0, _⟩ => ⟨S2x16640x1024, .f32⟩
  | .hbm, ⟨1, _⟩ => ⟨S2x3072, .f32⟩
  | .hbm, ⟨2, _⟩ => ⟨S3072, .f32⟩
  | .hbm, ⟨3, _⟩ => ⟨S1024, .f32⟩
  | .hbm, ⟨4, _⟩ => ⟨S1024x6208, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S2x16384x1024, .f32⟩
  | .hbm, ⟨12, _⟩ => ⟨S2x16384x1024, .f32⟩
  | .hbm, ⟨13, _⟩ => ⟨S_, .f32⟩
  | .hbm, ⟨14, _⟩ => ⟨S2x16384, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S_, .f32⟩
  | .hbm, ⟨20, _⟩ => ⟨S2x16384x1, .f32⟩
  | .hbm, ⟨21, _⟩ => ⟨S2x16384x1, .f32⟩
  | .hbm, ⟨22, _⟩ => ⟨S2x16384x1, .f32⟩
  | .hbm, ⟨23, _⟩ => ⟨S2x16384x1024, .f32⟩
  | .hbm, ⟨24, _⟩ => ⟨S2x16384x1024, .f32⟩
  | .hbm, ⟨25, _⟩ => ⟨S1x1x1024, .f32⟩
  | .hbm, ⟨26, _⟩ => ⟨S2x16384x1024, .f32⟩
  | .hbm, ⟨27, _⟩ => ⟨S2x16384x1024, .f32⟩
  | .hbm, ⟨28, _⟩ => ⟨S2x1x1024, .f32⟩
  | .hbm, ⟨29, _⟩ => ⟨S_, .f32⟩
  | .hbm, ⟨30, _⟩ => ⟨S2x1x1024, .f32⟩
  | .hbm, ⟨31, _⟩ => ⟨S2x1x1024, .f32⟩
  | .hbm, ⟨32, _⟩ => ⟨S2x16384x1024, .f32⟩
  | .hbm, ⟨33, _⟩ => ⟨S2x16384x1024, .f32⟩
  | .hbm, ⟨34, _⟩ => ⟨S2x1x1024, .f32⟩
  | .hbm, ⟨35, _⟩ => ⟨S2x16384x1024, .f32⟩
  | .hbm, ⟨36, _⟩ => ⟨S2x16384x1024, .f32⟩
  | .hbm, ⟨37, _⟩ => ⟨S2x256x1024, .f32⟩
  | .hbm, ⟨38, _⟩ => ⟨S2x256x1024, .f32⟩
  | .hbm, ⟨39, _⟩ => ⟨S_, .f32⟩
  | .hbm, ⟨40, _⟩ => ⟨S2x256, .f32⟩
  | .hbm, ⟨41, _⟩ => ⟨S2x256x1, .f32⟩
  | .hbm, ⟨42, _⟩ => ⟨S_, .f32⟩
  | .hbm, ⟨43, _⟩ => ⟨S2x256x1, .f32⟩
  | .hbm, ⟨44, _⟩ => ⟨S2x256x1, .f32⟩
  | .hbm, ⟨45, _⟩ => ⟨S_, .f32⟩
  | .hbm, ⟨46, _⟩ => ⟨S2x256x1, .f32⟩
  | .hbm, ⟨47, _⟩ => ⟨S2x256x1, .f32⟩
  | .hbm, ⟨48, _⟩ => ⟨S2x256x1, .f32⟩
  | .hbm, ⟨49, _⟩ => ⟨S2x256x1024, .f32⟩
  | .hbm, ⟨50, _⟩ => ⟨S2x256x1024, .f32⟩
  | .hbm, ⟨51, _⟩ => ⟨S1x1x1024, .f32⟩
  | .hbm, ⟨52, _⟩ => ⟨S2x256x1024, .f32⟩
  | .hbm, ⟨53, _⟩ => ⟨S2x256x1024, .f32⟩
  | .hbm, ⟨54, _⟩ => ⟨S_, .f32⟩
  | .hbm, ⟨55, _⟩ => ⟨S1024, .f32⟩
  | .hbm, ⟨56, _⟩ => ⟨S1024, .f32⟩
  | .hbm, ⟨57, _⟩ => ⟨S1x1x1024, .f32⟩
  | .hbm, ⟨58, _⟩ => ⟨S2x256x1024, .f32⟩
  | .hbm, ⟨59, _⟩ => ⟨S2x256x1024, .f32⟩
  | .hbm, ⟨60, _⟩ => ⟨S1x1x1024, .f32⟩
  | .hbm, ⟨61, _⟩ => ⟨S2x256x1024, .f32⟩
  | .hbm, ⟨62, _⟩ => ⟨S2x256x1024, .f32⟩
  | .hbm, ⟨63, _⟩ => ⟨S2x256x6208, .f32⟩
  | .hbm, ⟨64, _⟩ => ⟨S2x16384x6208, .f32⟩
  | .hbm, ⟨65, _⟩ => ⟨S2x16640x6208, .f32⟩
  | .hbm, ⟨66, _⟩ => ⟨S2x16640x6144, .f32⟩
  | .hbm, ⟨67, _⟩ => ⟨S2x16640x6144, .bf16⟩
  | .hbm, ⟨68, _⟩ => ⟨S2x16640x64, .f32⟩
  | .hbm, ⟨69, _⟩ => ⟨S_, .f32⟩
  | .hbm, ⟨70, _⟩ => ⟨S2x16640x64, .f32⟩
  | .hbm, ⟨71, _⟩ => ⟨S2x16640x128, .f32⟩
  | _, _ => ⟨S2x16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_7 : Ref sig .tc := ⟨.hbm, 69, rfl⟩
abbrev main_v56 : Ref sig .tc := ⟨.hbm, 70, rfl⟩
abbrev main_v57 : Ref sig .tc := ⟨.hbm, 71, rfl⟩

abbrev nD : Nat := 1
abbrev τ : Topo := Topo.v7x

variable {F : FTy → Type} [FloatOps F]
-- ==== Proof.KernelRun.lean ====
module

public import proofs.«01_k».proof.Proof.Gen.KernelIdeal.Frame

/-! # The kernel's run with its result: the result array ends at the last value of the chain of states -/

@[expose] public section

set_option maxRecDepth 16384

noncomputable section

namespace Cert.Proof.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg)

set_option backward.isDefEq.respectTransparency.types false in
/-- Every weakly fair execution ends with the result array at the last state's value and the arguments unchanged. -/
theorem kernel_run : θ_run defs (onTc (τ := τ) (main (F := F))) ⟨m, fun _ => 0, ρ⟩ (fun r => ∀ c : Dev nD,
      r.2.mem ((c.tc : Thread nD τ).loc main_v17) = W4 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨h c _ (mem_uc main_v17 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.Proof.KernelRun

end
-- ==== Proof.AttnBody.lean ====
module

public import proofs.«01_k».proof.Proof.Gen.KernelIdeal.Frame
public import Idealize.ShloMosaic.Lib.Pipeline.Value
import Idealize.ShloMosaic.Lib.Pointwise

/-! # What the attention body leaves in its output block

The body keeps the value sums in a scratch buffer it rewrites once for each block of 1280 keys. Here the value it
stores at the end is written as a recursion over the key blocks: the scores of a block (`blockScores`), the running
column maximum (`runMax`) and the running value sums (`runAcc`), then the difference of the two maps, the row norm
and the two scalings (`k1_pay56`, `k1_pay1`). -/

@[expose] public section

set_option maxRecDepth 16384

noncomputable section

namespace Cert.Proof.AttnBody

open Idealize.ShloMosaic Idealize.ShloMosaic.TcCoe Idealize.ShloMosaic.Tactic
open Cert.KernelIdeal Cert.KernelIdeal.Gen

variable {F : FTy → Type} [FloatOps F] [Named F]

/-- A whole read after a whole store reads what was stored, whatever was stored before. -/
theorem readCov_cons_whole {Val : EltTy → Type} [∀ e, Nonempty (Val e)] {sig : RefSig} {κ : Kind} {sp : Space}
    {S : Shape} {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h inb w L, View.ld_unit_zero h]

theorem offsets_zero2 : (![0, 0] : Fin 2 → ℕ) = fun _ => 0 := by decide
theorem offsets_zero3 : (![0, 0, 0] : Fin 3 → ℕ) = fun _ => 0 := by decide
theorem offsets_zero5 : (![0, 0, 0, 0, 0] : Fin 5 → ℕ) = fun _ => 0 := by decide

/-- Block `j` of the keys: rows `1280 * j` on. -/
def keyBlk (x3 : Vec F S1x16640x128 .bf16) : ℕ → Vec F S1x1280x128 .bf16
  | 0 => View.ld x3 (Rect.unit (s := S1x16640x128) ![0, 0, 0] S1x1280x128.size inb_S1x16640x128_S1x1280x128_0_0_0)
  | 1 => View.ld x3 (Rect.unit (s := S1x16640x128) ![0, 1280, 0] S1x1280x128.size inb_S1x16640x128_S1x1280x128_0_1280_0)
  | 2 => View.ld x3 (Rect.unit (s := S1x16640x128) ![0, 2560, 0] S1x1280x128.size inb_S1x16640x128_S1x1280x128_0_2560_0)
  | 3 => View.ld x3 (Rect.unit (s := S1x16640x128) ![0, 3840, 0] S1x1280x128.size inb_S1x16640x128_S1x1280x128_0_3840_0)
  | 4 => View.ld x3 (Rect.unit (s := S1x16640x128) ![0, 5120, 0] S1x1280x128.size inb_S1x16640x128_S1x1280x128_0_5120_0)
  | 5 => View.ld x3 (Rect.unit (s := S1x16640x128) ![0, 6400, 0] S1x1280x128.size inb_S1x16640x128_S1x1280x128_0_6400_0)
  | 6 => View.ld x3 (Rect.unit (s := S1x16640x128) ![0, 7680, 0] S1x1280x128.size inb_S1x16640x128_S1x1280x128_0_7680_0)
  | 7 => View.ld x3 (Rect.unit (s := S1x16640x128) ![0, 8960, 0] S1x1280x128.size inb_S1x16640x128_S1x1280x128_0_8960_0)
  | 8 => View.ld x3 (Rect.unit (s := S1x16640x128) ![0, 10240, 0] S1x1280x128.size inb_S1x16640x128_S1x1280x128_0_10240_0)
  | 9 => View.ld x3 (Rect.unit (s := S1x16640x128) ![0, 11520, 0] S1x1280x128.size inb_S1x16640x128_S1x1280x128_0_11520_0)
  | 10 => View.ld x3 (Rect.unit (s := S1x16640x128) ![0, 12800, 0] S1x1280x128.size inb_S1x16640x128_S1x1280x128_0_12800_0)
  | 11 => View.ld x3 (Rect.unit (s := S1x16640x128) ![0, 14080, 0] S1x1280x128.size inb_S1x16640x128_S1x1280x128_0_14080_0)
  | 12 => View.ld x3 (Rect.unit (s := S1x16640x128) ![0, 15360, 0] S1x1280x128.size inb_S1x16640x128_S1x1280x128_0_15360_0)
  | _ => View.ld x3 (Rect.unit (s := S1x16640x128) ![0, 0, 0] S1x1280x128.size inb_S1x16640x128_S1x1280x128_0_0_0)

/-- Block `j` of the transposed values: columns `1280 * j` on. -/
def valBlk (x4 : Vec F S1x1x136x16640 .bf16) : ℕ → Vec F S1x1x136x1280 .bf16
  | 0 => View.ld x4 (Rect.unit (s := S1x1x136x16640) ![0, 0, 0, 0] S1x1x136x1280.size inb_S1x1x136x16640_S1x1x136x1280_0_0_0_0)
  | 1 => View.ld x4 (Rect.unit (s := S1x1x136x16640) ![0, 0, 0, 1280] S1x1x136x1280.size inb_S1x1x136x16640_S1x1x136x1280_0_0_0_1280)
  | 2 => View.ld x4 (Rect.unit (s := S1x1x136x16640) ![0, 0, 0, 2560] S1x1x136x1280.size inb_S1x1x136x16640_S1x1x136x1280_0_0_0_2560)
  | 3 => View.ld x4 (Rect.unit (s := S1x1x136x16640) ![0, 0, 0, 3840] S1x1x136x1280.size inb_S1x1x136x16640_S1x1x136x1280_0_0_0_3840)
  | 4 => View.ld x4 (Rect.unit (s := S1x1x136x16640) ![0, 0, 0, 5120] S1x1x136x1280.size inb_S1x1x136x16640_S1x1x136x1280_0_0_0_5120)
  | 5 => View.ld x4 (Rect.unit (s := S1x1x136x16640) ![0, 0, 0, 6400] S1x1x136x1280.size inb_S1x1x136x16640_S1x1x136x1280_0_0_0_6400)
  | 6 => View.ld x4 (Rect.unit (s := S1x1x136x16640) ![0, 0, 0, 7680] S1x1x136x1280.size inb_S1x1x136x16640_S1x1x136x1280_0_0_0_7680)
  | 7 => View.ld x4 (Rect.unit (s := S1x1x136x16640) ![0, 0, 0, 8960] S1x1x136x1280.size inb_S1x1x136x16640_S1x1x136x1280_0_0_0_8960)
  | 8 => View.ld x4 (Rect.unit (s := S1x1x136x16640) ![0, 0, 0, 10240] S1x1x136x1280.size inb_S1x1x136x16640_S1x1x136x1280_0_0_0_10240)
  | 9 => View.ld x4 (Rect.unit (s := S1x1x136x16640) ![0, 0, 0, 11520] S1x1x136x1280.size inb_S1x1x136x16640_S1x1x136x1280_0_0_0_11520)
  | 10 => View.ld x4 (Rect.unit (s := S1x1x136x16640) ![0, 0, 0, 12800] S1x1x136x1280.size inb_S1x1x136x16640_S1x1x136x1280_0_0_0_12800)
  | 11 => View.ld x4 (Rect.unit (s := S1x1x136x16640) ![0, 0, 0, 14080] S1x1x136x1280.size inb_S1x1x136x16640_S1x1x136x1280_0_0_0_14080)
  | 12 => View.ld x4 (Rect.unit (s := S1x1x136x16640) ![0, 0, 0, 15360] S1x1x136x1280.size inb_S1x1x136x16640_S1x1x136x1280_0_0_0_15360)
  | _ => View.ld x4 (Rect.unit (s := S1x1x136x16640) ![0, 0, 0, 0] S1x1x136x1280.size inb_S1x1x136x16640_S1x1x136x1280_0_0_0_0)

/-- The scores of one block: its keys against the 512 query rows (256 of each map). -/
def blockScores (q : FVec F S512x128 .bf16) (k : Vec F S1x1280x128 .bf16) : FVec F S1280x512 .f32 := k1_pay2 q k

/-- The column maxima of a block's scores. -/
def blockMax (q : FVec F S512x128 .bf16) (k : Vec F S1x1280x128 .bf16) : FVec F S1x512 .f32 := k1_pay3 q k

/-- The maximum of the scores over blocks `0 … j`. -/
def runMax (q : FVec F S512x128 .bf16) (k : ℕ → Vec F S1x1280x128 .bf16) : ℕ → FVec F S1x512 .f32
  | 0 => blockMax q (k 0)
  | j + 1 => maximumf (runMax q k j) (blockMax q (k (j + 1)))

/-- The weights of a block against a maximum. -/
def blockWeights (q : FVec F S512x128 .bf16) (k : Vec F S1x1280x128 .bf16) (m : FVec F S1x512 .f32) : FVec F S1280x512 .bf16 :=
  truncf .bf16 (exp2 (subf (blockScores q k) (broadcastTo S1280x512 m broadcasts_S1x512_S1280x512))) bitsLt_bf16_f32

/-- The value sums over blocks `0 … j`, taken against the maximum so far. -/
def runAcc (q : FVec F S512x128 .bf16) (k : ℕ → Vec F S1x1280x128 .bf16) (v : ℕ → Vec F S1x1x136x1280 .bf16) : ℕ → FVec F S136x512 .f32
  | 0 => k1_pay7 q (k 0) (v 0)
  | j + 1 => k1_pay12 (runMax q k j) (runMax q k (j + 1)) (blockWeights q (k (j + 1)) (runMax q k (j + 1))) (v (j + 1)) (runAcc q k v j)

/-- A query block that sees every key: what the body leaves is the epilogue of the last value sums. -/
theorem out1_B_eq (c : Dev nD) (i : grid1.Coords) (arg3 : Memref sig .tc .vmem S4x64 .f32) (harg3 : arg3.IsWhole)
    (arg4 : Memref sig .tc .vmem S1x128 .f32) (harg4 : arg4.IsWhole) (arg5 : Memref sig .tc .vmem S1x1x2x256x128 .bf16) (harg5 : arg5.IsWhole)
    (arg6 : Memref sig .tc .vmem S1x16640x128 .bf16) (harg6 : arg6.IsWhole) (arg7 : Memref sig .tc .vmem S1x1x136x16640 .bf16) (harg7 : arg7.IsWhole)
    (arg8 : Memref sig .tc .vmem S1x256x128 .f32) (harg8 : arg8.IsWhole) (arg9 : Memref sig .tc .vmem S136x512 .f32) (harg9 : arg9.IsWhole)
    (hc0 : ¬cond1_0 i) (hc1 : cond1_1 i)
    (x0 : Vec F S4x64 .f32) (x1 : Vec F S1x128 .f32) (x2 : Vec F S1x1x2x256x128 .bf16) (x3 : Vec F S1x16640x128 .bf16) (x4 : Vec F S1x1x136x16640 .bf16) :
    out1_B_5 c i arg3 harg3 arg4 harg4 arg5 harg5 arg6 harg6 arg7 harg7 arg8 harg8 arg9 harg9 hc0 hc1 x0 x1 x2 x3 x4 = k1_pay1 (k1_pay56 (runAcc (k1_pay52 x2) (keyBlk x3) (valBlk x4) 12) x0) x1 := by
  unfold out1_B_5
  rw [View.read_writes_eq_canon _ _ _ (cover1_B_5 c i arg3 harg3 arg4 harg4 arg5 harg5 arg6 harg6 arg7 harg7 arg8 harg8 arg9 harg9 hc0 hc1 x0 x1 x2 x3 x4)]
  unfold kernelRun1_B
  dsimp only
  rw [View.canon_unit_zero offsets_zero3]
  sl_unfold_words
  simp only [readCov_cons_whole (S := S136x512) _ offsets_zero2, View.readAt_eq_ld, harg3.read_unread, harg4.read_unread,
    harg5.read_unread, harg6.read_unread, harg7.read_unread, View.ld_unit_zero (S := S1x1x2x256x128) offsets_zero5,
    View.ld_unit_zero (S := S4x64) offsets_zero2, View.ld_unit_zero (S := S1x128) offsets_zero2]
  rfl

/-- The query block of the conditioning tokens: it sees the first 256 keys only, in one step. -/
theorem out1_A_eq (c : Dev nD) (i : grid1.Coords) (arg3 : Memref sig .tc .vmem S4x64 .f32) (harg3 : arg3.IsWhole)
    (arg4 : Memref sig .tc .vmem S1x128 .f32) (harg4 : arg4.IsWhole) (arg5 : Memref sig .tc .vmem S1x1x2x256x128 .bf16) (harg5 : arg5.IsWhole)
    (arg6 : Memref sig .tc .vmem S1x16640x128 .bf16) (harg6 : arg6.IsWhole) (arg7 : Memref sig .tc .vmem S1x1x136x16640 .bf16) (harg7 : arg7.IsWhole)
    (arg8 : Memref sig .tc .vmem S1x256x128 .f32) (harg8 : arg8.IsWhole) (arg9 : Memref sig .tc .vmem S136x512 .f32) (harg9 : arg9.IsWhole)
    (hc0 : cond1_0 i) (hc1 : ¬cond1_1 i)
    (x0 : Vec F S4x64 .f32) (x1 : Vec F S1x128 .f32) (x2 : Vec F S1x1x2x256x128 .bf16) (x3 : Vec F S1x16640x128 .bf16) (x4 : Vec F S1x1x136x16640 .bf16) :
    out1_A_5 c i arg3 harg3 arg4 harg4 arg5 harg5 arg6 harg6 arg7 harg7 arg8 harg8 arg9 harg9 hc0 hc1 x0 x1 x2 x3 x4 = k1_pay1 (k1_pay56 (k1_pay53 x2
      (View.ld x3 (Rect.unit (s := S1x16640x128) ![0, 0, 0] S1x256x128.size inb_S1x16640x128_S1x256x128_0_0_0))
      (View.ld x4 (Rect.unit (s := S1x1x136x16640) ![0, 0, 0, 0] S1x1x136x256.size inb_S1x1x136x16640_S1x1x136x256_0_0_0_0))) x0) x1 := by
  unfold out1_A_5
  rw [View.read_writes_eq_canon _ _ _ (cover1_A_5 c i arg3 harg3 arg4 harg4 arg5 harg5 arg6 harg6 arg7 harg7 arg8 harg8 arg9 harg9 hc0 hc1 x0 x1 x2 x3 x4)]
  unfold kernelRun1_A
  dsimp only
  rw [View.canon_unit_zero offsets_zero3]
  sl_unfold_words
  simp only [readCov_cons_whole (S := S136x512) _ offsets_zero2, View.readAt_eq_ld, harg3.read_unread, harg4.read_unread,
    harg5.read_unread, harg6.read_unread, harg7.read_unread, View.ld_unit_zero (S := S1x1x2x256x128) offsets_zero5,
    View.ld_unit_zero (S := S4x64) offsets_zero2, View.ld_unit_zero (S := S1x128) offsets_zero2]

end Cert.Proof.AttnBody

end
-- ==== Proof.Softmax.lean ====
/-
  The mathematics of a softmax taken block by block, over the real numbers: a running sum rescaled whenever its
  reference point moves equals the whole sum at the last reference point, so the quotient of two such sums is the
  softmax average and does not depend on the reference points. Nothing here is about the printed programs.
-/
module

public import Idealize.ShloMosaic.PureOps.Ideal.Laws

@[expose] public section

noncomputable section

namespace Cert.Proof.Softmax

open Idealize.ShloMosaic

/-- A sum of reals, each read as an extended real, is the real sum. -/
theorem sum_coe {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The greatest of finitely many reals, at least one of them, taken from minus infinity, is a real. -/
theorem fold_max_coe {ι : Type*} [Fintype ι] [Nonempty ι] (f : ι → ℝ) :
    ∃ m : ℝ, (Finset.univ : Finset ι).fold max (⊥ : EReal) (fun i => (f i : EReal)) = (m : EReal) := by
  set x := (Finset.univ : Finset ι).fold max (⊥ : EReal) (fun i => (f i : EReal)) with hx
  have h1 : x < ⊤ := by rw [hx, Finset.fold_max_lt]; exact ⟨bot_lt_top, fun i _ => EReal.coe_lt_top _⟩
  have h2 : ⊥ < x := by
    rw [hx, Finset.lt_fold_max]; exact Or.inr ⟨Classical.arbitrary ι, Finset.mem_univ _, EReal.bot_lt_coe _⟩
  exact ⟨x.toReal, (EReal.coe_toReal h1.ne h2.ne').symm⟩

/-- The greater of two reals, read as extended reals. -/
theorem max_coe (a b : ℝ) : max (a : EReal) (b : EReal) = ((max a b : ℝ) : EReal) :=
  (EReal.coe_strictMono.monotone.map_max).symm

/-- The quotient of two reals, the divisor not zero. -/
theorem div_coe (a b : ℝ) (hb : b ≠ 0) : Ideal.div (a : EReal) (b : EReal) = ((a / b : ℝ) : EReal) := by
  unfold Ideal.div
  rw [if_neg (by simpa using hb), ← EReal.coe_inv, ← EReal.coe_mul, div_eq_mul_inv]

/-- A running sum over blocks of weights `2 ^ (s - M)`, rescaled when the reference point moves from `M j` to `M (j + 1)`. -/
def online {n : ℕ} (v s : ℕ → Fin n → ℝ) (M : ℕ → ℝ) : ℕ → ℝ
  | 0 => ∑ k, v 0 k * (2 : ℝ) ^ (s 0 k - M 0)
  | j + 1 => online v s M j * (2 : ℝ) ^ (M j - M (j + 1)) + ∑ k, v (j + 1) k * (2 : ℝ) ^ (s (j + 1) k - M (j + 1))

/-- One block's weights at the reference point `m`. -/
theorem block_shift {n : ℕ} (v s : Fin n → ℝ) (m : ℝ) :
    ∑ k, v k * (2 : ℝ) ^ (s k - m) = (∑ k, v k * (2 : ℝ) ^ (s k)) * (2 : ℝ) ^ (-m) := by
  rw [Finset.sum_mul]
  refine Finset.sum_congr rfl fun k _ => ?_
  rw [sub_eq_add_neg, Real.rpow_add two_pos, mul_assoc]

/-- The running sum after block `j` is the whole sum over the blocks so far at the last reference point. -/
theorem online_eq {n : ℕ} (v s : ℕ → Fin n → ℝ) (M : ℕ → ℝ) (j : ℕ) :
    online v s M j = (∑ i ∈ Finset.range (j + 1), ∑ k, v i k * (2 : ℝ) ^ (s i k)) * (2 : ℝ) ^ (-(M j)) := by
  induction j with
  | zero => rw [online, block_shift]; simp
  | succ j ih =>
    rw [online, ih, block_shift, mul_assoc, ← Real.rpow_add two_pos,
      show -M j + (M j - M (j + 1)) = -M (j + 1) by ring, ← add_mul, ← Finset.sum_range_succ _ (j + 1)]

/-- The softmax average of `v` under the scores `s`. -/
def softAvg {n : ℕ} (s v : Fin n → ℝ) : ℝ := (∑ k, v k * Real.exp (s k)) / ∑ k, Real.exp (s k)

/-- A sum over `a` blocks of `b` is the sum over all `a * b` positions. -/
theorem sum_blocks (a b : ℕ) (f : ℕ → ℝ) :
    ∑ i ∈ Finset.range a, ∑ k : Fin b, f (b * i + k.val) = ∑ k : Fin (a * b), f k.val := by
  rw [Fin.sum_univ_eq_sum_range (fun k => f k) (a * b)]
  induction a with
  | zero => simp
  | succ a ih =>
    rw [Finset.sum_range_succ, ih, Nat.succ_mul, Finset.sum_range_add,
      Fin.sum_univ_eq_sum_range (fun k => f (b * a + k)) b, Nat.mul_comm b a]

/-- Weights `2 ^ (x / log 2)` are weights `exp x`. -/
theorem two_rpow_div_log (x : ℝ) : (2 : ℝ) ^ (x * (Real.log 2)⁻¹) = Real.exp x := by
  have h : Real.log 2 ≠ 0 := (Real.log_pos one_lt_two).ne'
  rw [Real.rpow_def_of_pos two_pos, mul_comm (Real.log 2), mul_assoc, inv_mul_cancel₀ h, mul_one]

/-- The quotient of a weighted sum and of the sum of the weights, both rescaled to one reference point. -/
theorem quotient_rescaled (a b m : ℝ) : a * (2 : ℝ) ^ m / (b * (2 : ℝ) ^ m) = a / b :=
  mul_div_mul_right _ _ (Real.rpow_pos_of_pos two_pos m).ne'

theorem sum_exp_pos {n : ℕ} [NeZero n] (s : Fin n → ℝ) : 0 < ∑ k, Real.exp (s k) :=
  Finset.sum_pos (fun _ _ => Real.exp_pos _) Finset.univ_nonempty

/-- The textbook form: subtract any reference point, exponentiate, normalise. -/
theorem softmax_weights {n : ℕ} [NeZero n] (s v : Fin n → ℝ) (m : ℝ) :
    ∑ k, Real.exp (s k - m) / (∑ k', Real.exp (s k' - m)) * v k = softAvg s v := by
  have h : ∀ k, Real.exp (s k - m) = Real.exp (s k) * Real.exp (-m) := fun k => by
    rw [sub_eq_add_neg, Real.exp_add]
  simp only [h, ← Finset.sum_mul]
  unfold softAvg
  rw [Finset.sum_div]
  refine Finset.sum_congr rfl fun k _ => ?_
  rw [mul_div_mul_right _ _ (Real.exp_pos _).ne']
  ring

/-- The difference of two softmax distributions, the second times `l`, averaged over `v`. -/
theorem diff_weights {n : ℕ} [NeZero n] (s₀ s₁ v : Fin n → ℝ) (m₀ m₁ l : ℝ) :
    ∑ k, (Real.exp (s₀ k - m₀) / (∑ k', Real.exp (s₀ k' - m₀)) - l * (Real.exp (s₁ k - m₁) / ∑ k', Real.exp (s₁ k' - m₁))) * v k
      = softAvg s₀ v - l * softAvg s₁ v := by
  rw [← softmax_weights s₀ v m₀, ← softmax_weights s₁ v m₁, Finset.mul_sum, ← Finset.sum_sub_distrib]
  exact Finset.sum_congr rfl fun k _ => by ring

end Cert.Proof.Softmax

end
-- ==== Proof.AttnValue.lean ====
module

public import proofs.«01_k».proof.Proof.AttnBody
public import proofs.«01_k».proof.Proof.Softmax
public import Idealize.ShloMosaic.Lib.Pointwise

/-! # The value sums of the attention body over the reals

The queries, keys and values are real numbers read as extended reals. For one query row the recursion over the key
blocks is then the running sum of `Softmax.online`, so the last value sums are the whole weighted sum over all keys,
at some real reference point; the quotient of two of them is a softmax average. -/

@[expose] public section

set_option maxRecDepth 16384

noncomputable section

namespace Cert.Proof.AttnValue

open Idealize.ShloMosaic Idealize.ShloMosaic.TcCoe
open Cert.KernelIdeal Cert.KernelIdeal.Gen Cert.Proof.AttnBody Cert.Proof.Softmax

theorem ofBits_neg_inf : Ideal.ofBits .f32 0xFF800000#32 = ⊥ := by simp [Ideal.ofBits, Ideal.ieee]

/-- The greatest of the images of finitely many extended reals that are real is real. -/
theorem fold_max_real {ι : Type*} [Fintype ι] [Nonempty ι] (f : ι → EReal) (g : ι → ℝ) (h : ∀ i, f i = (g i : EReal)) :
    ∃ m : ℝ, (Finset.univ : Finset ι).fold max (Ideal.ofBits .f32 0xFF800000#32) f = (m : EReal) := by
  obtain ⟨m, hm⟩ := fold_max_coe g
  exact ⟨m, by rw [ofBits_neg_inf, ← hm]; congr 1; funext i; exact h i⟩

/-- A sum of products of reals. -/
theorem sum_mul_coe {ι : Type*} [Fintype ι] (a b : ι → EReal) (x y : ι → ℝ) (ha : ∀ i, a i = (x i : EReal)) (hb : ∀ i, b i = (y i : EReal)) :
    ∑ i, a i * b i = ((∑ i, x i * y i : ℝ) : EReal) := by
  rw [← sum_coe]
  exact Finset.sum_congr rfl fun i _ => by rw [ha, hb, EReal.coe_mul]

theorem exp2_sub_coe (a b : ℝ) : Ideal.exp2 ((a : EReal) - (b : EReal)) = (((2 : ℝ) ^ (a - b) : ℝ) : EReal) := by
  rw [← EReal.coe_sub, Ideal.exp2_coe]; rfl

theorem keyBlk_apply (x3 : Vec Ideal S1x16640x128 .bf16) (j : ℕ) (hj : j < 13) (x : Fin 1280) (d : Fin 128) :
    keyBlk x3 j (ix3 0 x d) = x3 (ix3 0 (⟨1280 * j + x.val, by omega⟩ : Fin 16640) d) := by
  interval_cases j <;> · unfold keyBlk; pointwise

theorem valBlk_apply (x4 : Vec Ideal S1x1x136x16640 .bf16) (j : ℕ) (hj : j < 13) (e : Fin 136) (x : Fin 1280) :
    valBlk x4 j (ix4 0 0 e x) = x4 (ix4 0 0 e (⟨1280 * j + x.val, by omega⟩ : Fin 16640)) := by
  interval_cases j <;> · unfold valBlk; pointwise

section Row

variable (q : FVec Ideal S512x128 .bf16) (x3 : Vec Ideal S1x16640x128 .bf16) (x4 : Vec Ideal S1x1x136x16640 .bf16)
  (r : Fin 512) (qr : Fin 128 → ℝ) (kr : ℕ → Fin 128 → ℝ) (vr : ℕ → Fin 136 → ℝ)

/-- The score of key `κ` for the query row. -/
def score (qr : Fin 128 → ℝ) (kr : ℕ → Fin 128 → ℝ) (κ : ℕ) : ℝ := ∑ d, kr κ d * qr d

theorem blockScores_apply (hq : ∀ d, q (ix2 r d) = ((qr d : ℝ) : EReal))
    (hk : ∀ (κ : Fin 16640) d, x3 (ix3 0 κ d) = ((kr κ d : ℝ) : EReal)) (j : ℕ) (hj : j < 13) (x : Fin 1280) :
    blockScores q (keyBlk x3 j) (ix2 x r) = ((score qr kr (1280 * j + x) : ℝ) : EReal) := by
  have e : blockScores q (keyBlk x3 j) (ix2 x r) = ∑ d : Fin 128, keyBlk x3 j (ix3 0 x d) * q (ix2 r d) := by
    pointwise [blockScores, k1_pay2]
  rw [e]
  exact sum_mul_coe _ _ _ _ (fun d => by rw [keyBlk_apply x3 j hj, hk]) hq

theorem blockMax_real (hq : ∀ d, q (ix2 r d) = ((qr d : ℝ) : EReal))
    (hk : ∀ (κ : Fin 16640) d, x3 (ix3 0 κ d) = ((kr κ d : ℝ) : EReal)) (j : ℕ) (hj : j < 13) :
    ∃ m : ℝ, blockMax q (keyBlk x3 j) (ix2 0 r) = (m : EReal) := by
  have e : blockMax q (keyBlk x3 j) (ix2 0 r)
      = (Finset.univ : Finset (Fin 1280)).fold max (Ideal.ofBits .f32 0xFF800000#32) fun x => ∑ d : Fin 128, keyBlk x3 j (ix3 0 x d) * q (ix2 r d) := by
    pointwise [blockMax, k1_pay3, k1_pay2]
  rw [e]
  exact fold_max_real _ (fun x => score qr kr (1280 * j + x)) fun x =>
    sum_mul_coe _ _ _ _ (fun d => by rw [keyBlk_apply x3 j hj, hk]) hq

theorem runMax_succ (k : ℕ → Vec Ideal S1x1280x128 .bf16) (j : ℕ) :
    runMax q k (j + 1) (ix2 0 r) = max (runMax q k j (ix2 0 r)) (blockMax q (k (j + 1)) (ix2 0 r)) := by
  rw [runMax]; pointwise

theorem runMax_real (hq : ∀ d, q (ix2 r d) = ((qr d : ℝ) : EReal))
    (hk : ∀ (κ : Fin 16640) d, x3 (ix3 0 κ d) = ((kr κ d : ℝ) : EReal)) :
    ∀ j : ℕ, ∃ m : ℝ, j < 13 → runMax q (keyBlk x3) j (ix2 0 r) = (m : EReal)
  | 0 => by
    obtain ⟨m, hm⟩ := blockMax_real q x3 r qr kr hq hk 0 (by omega)
    exact ⟨m, fun _ => hm⟩
  | j + 1 => by
    by_cases hj : j + 1 < 13
    · obtain ⟨m, hm⟩ := runMax_real hq hk j
      obtain ⟨m', hm'⟩ := blockMax_real q x3 r qr kr hq hk (j + 1) hj
      exact ⟨max m m', fun _ => by rw [runMax_succ, hm (by omega), hm', max_coe]⟩
    · exact ⟨0, fun h => absurd h hj⟩

theorem blockWeights_apply (k : Vec Ideal S1x1280x128 .bf16) (m : FVec Ideal S1x512 .f32) (x : Fin 1280) :
    blockWeights q k m (ix2 x r) = Ideal.exp2 (blockScores q k (ix2 x r) - m (ix2 0 r)) := by
  pointwise [blockWeights, blockScores, k1_pay2]
  rfl

theorem update_apply (m m' : FVec Ideal S1x512 .f32) (p : FVec Ideal S1280x512 .bf16) (v : Vec Ideal S1x1x136x1280 .bf16)
    (a : Vec Ideal S136x512 .f32) (e : Fin 136) :
    k1_pay12 m m' p v a (ix2 e r) = a (ix2 e r) * Ideal.exp2 (m (ix2 0 r) - m' (ix2 0 r)) + ∑ x : Fin 1280, v (ix4 0 0 e x) * p (ix2 x r) := by
  pointwise [k1_pay12]
  rfl

theorem first_apply (k : Vec Ideal S1x1280x128 .bf16) (v : Vec Ideal S1x1x136x1280 .bf16) (e : Fin 136) :
    k1_pay7 q k v (ix2 e r) = ∑ x : Fin 1280, v (ix4 0 0 e x) * Ideal.exp2 (blockScores q k (ix2 x r) - blockMax q k (ix2 0 r)) := by
  pointwise [k1_pay7, blockScores, blockMax, k1_pay2, k1_pay3]
  rfl

/-- The value sums after block `j` are the running sums over the reals. -/
theorem runAcc_online (hq : ∀ d, q (ix2 r d) = ((qr d : ℝ) : EReal))
    (hk : ∀ (κ : Fin 16640) d, x3 (ix3 0 κ d) = ((kr κ d : ℝ) : EReal))
    (hv : ∀ (κ : Fin 16640) e, x4 (ix4 0 0 e κ) = ((vr κ e : ℝ) : EReal))
    (M : ℕ → ℝ) (hM : ∀ j, j < 13 → runMax q (keyBlk x3) j (ix2 0 r) = ((M j : ℝ) : EReal)) (e : Fin 136) :
    ∀ j : ℕ, j < 13 → runAcc q (keyBlk x3) (valBlk x4) j (ix2 e r)
      = ((online (n := 1280) (fun i x => vr (1280 * i + x) e) (fun i x => score qr kr (1280 * i + x)) M j : ℝ) : EReal)
  | 0, hj => by
    rw [runAcc, first_apply, online, show blockMax q (keyBlk x3 0) (ix2 0 r) = _ from hM 0 hj]
    refine sum_mul_coe _ _ _ _ (fun x => ?_) (fun x => ?_)
    · rw [valBlk_apply x4 0 hj, hv]
    · rw [blockScores_apply q x3 r qr kr hq hk 0 hj, exp2_sub_coe]
  | j + 1, hj => by
    rw [runAcc, update_apply, online, runAcc_online hq hk hv M hM e j (by omega), hM j (by omega), hM (j + 1) hj, exp2_sub_coe,
      ← EReal.coe_mul, EReal.coe_add]
    congr 1
    refine sum_mul_coe _ _ _ _ (fun x => ?_) (fun x => ?_)
    · rw [valBlk_apply x4 (j + 1) hj, hv]
    · rw [blockWeights_apply, blockScores_apply q x3 r qr kr hq hk (j + 1) hj, hM (j + 1) hj, exp2_sub_coe]

/-- The last value sums: the whole weighted sum over the 16640 keys at a real reference point `m`, the same for
    every row `e` of the transposed values. -/
theorem runAcc_last (hq : ∀ d, q (ix2 r d) = ((qr d : ℝ) : EReal))
    (hk : ∀ (κ : Fin 16640) d, x3 (ix3 0 κ d) = ((kr κ d : ℝ) : EReal))
    (hv : ∀ (κ : Fin 16640) e, x4 (ix4 0 0 e κ) = ((vr κ e : ℝ) : EReal)) :
    ∃ m : ℝ, ∀ e, runAcc q (keyBlk x3) (valBlk x4) 12 (ix2 e r)
      = (((∑ κ : Fin 16640, vr κ e * (2 : ℝ) ^ (score qr kr κ)) * (2 : ℝ) ^ m : ℝ) : EReal) := by
  choose M hM using runMax_real q x3 r qr kr hq hk
  refine ⟨-(M 12), fun e => ?_⟩
  rw [runAcc_online q x3 x4 r qr kr vr hq hk hv M hM e 12 (by omega), online_eq]
  exact congrArg (fun z : ℝ => ((z * (2 : ℝ) ^ (-(M 12)) : ℝ) : EReal))
    (sum_blocks 13 1280 fun κ => vr κ e * (2 : ℝ) ^ (score qr kr κ))

end Row

section Ctx

variable (x2 : Vec Ideal S1x1x2x256x128 .bf16) (k : Vec Ideal S1x256x128 .bf16) (v : Vec Ideal S1x1x136x256 .bf16)
  (r : Fin 512) (qr : Fin 128 → ℝ) (kr : ℕ → Fin 128 → ℝ) (vr : ℕ → Fin 136 → ℝ)

theorem ctx_apply (e : Fin 136) :
    k1_pay53 x2 k v (ix2 e r) = ∑ x : Fin 256, v (ix4 0 0 e x) * Ideal.exp2 ((∑ d : Fin 128, k (ix3 0 x d) * k1_pay52 x2 (ix2 r d))
      - (Finset.univ : Finset (Fin 256)).fold max (Ideal.ofBits .f32 0xFF800000#32) fun x => ∑ d : Fin 128, k (ix3 0 x d) * k1_pay52 x2 (ix2 r d)) := by
  pointwise [k1_pay53]
  rfl

/-- The value sums of a query row over the first 256 keys, in one step. -/
theorem ctx_last (hq : ∀ d, k1_pay52 x2 (ix2 r d) = ((qr d : ℝ) : EReal))
    (hk : ∀ (κ : Fin 256) d, k (ix3 0 κ d) = ((kr κ d : ℝ) : EReal))
    (hv : ∀ (κ : Fin 256) e, v (ix4 0 0 e κ) = ((vr κ e : ℝ) : EReal)) :
    ∃ m : ℝ, ∀ e, k1_pay53 x2 k v (ix2 e r)
      = (((∑ κ : Fin 256, vr κ e * (2 : ℝ) ^ (score qr kr κ)) * (2 : ℝ) ^ m : ℝ) : EReal) := by
  have hs : ∀ x : Fin 256, ∑ d : Fin 128, k (ix3 0 x d) * k1_pay52 x2 (ix2 r d) = ((score qr kr x : ℝ) : EReal) := fun x =>
    sum_mul_coe _ _ _ _ (fun d => hk x d) hq
  obtain ⟨m, hm⟩ := fold_max_real (ι := Fin 256) _ _ hs
  refine ⟨-m, fun e => ?_⟩
  rw [ctx_apply, hm, ← block_shift]
  refine sum_mul_coe _ _ _ _ (fun x => hv x e) (fun x => ?_)
  rw [hs, exp2_sub_coe]

end Ctx

end Cert.Proof.AttnValue

end
-- ==== Proof.AttnRow.lean ====
module

public import proofs.«01_k».proof.Proof.AttnValue

/-! # One row of the attention body's output block

The row is the difference of the two softmax averages of the values, the second times the lambda, divided by its root
mean square and scaled. The norm is stated once (`rowNorm`) as a function of the row before it. -/

@[expose] public section

set_option maxRecDepth 16384

noncomputable section

namespace Cert.Proof.AttnRow

open Idealize.ShloMosaic Idealize.ShloMosaic.TcCoe
open Cert.KernelIdeal Cert.KernelIdeal.Gen Cert.Proof.AttnBody Cert.Proof.Softmax Cert.Proof.AttnValue

/-- The row norm with its weight and its last scaling (0.8, as f32 rounds it). -/
def rowNorm (f : Fin 128 → EReal) (w : EReal) (l : Fin 128) : EReal :=
  f l * Ideal.rsqrt (Ideal.div (∑ x, f x * f x) (Ideal.ofBits .f32 0x43000000#32) + Ideal.ofBits .f32 0x358637BD#32) * w
    * Ideal.ofBits .f32 0x3F4CCCCD#32

/-- The lambda of the second map, from the four rows of its parameter. -/
def lambda (p : Fin 4 → Fin 64 → EReal) : EReal :=
  Ideal.exp (∑ x, p 0 x * p 1 x) - Ideal.exp (∑ x, p 2 x * p 3 x) + Ideal.ofBits .f32 0x3E4CCCCD#32

theorem ofBits_real : ∃ x : ℝ, Ideal.ofBits .f32 0x3E4CCCCD#32 = (x : EReal) := by
  refine ⟨13421773 * (2 ^ 26)⁻¹, ?_⟩
  simp [Ideal.ofBits, Ideal.ieee]

/-- Of real parameters the lambda is real. -/
theorem lambda_real (p : Fin 4 → Fin 64 → EReal) (g : Fin 4 → Fin 64 → ℝ) (h : ∀ i j, p i j = ((g i j : ℝ) : EReal)) :
    ∃ lam : ℝ, lambda p = (lam : EReal) := by
  obtain ⟨x, hx⟩ := ofBits_real
  refine ⟨Real.exp (∑ x, g 0 x * g 1 x) - Real.exp (∑ x, g 2 x * g 3 x) + x, ?_⟩
  rw [lambda, sum_mul_coe _ _ _ _ (h 0) (h 1), sum_mul_coe _ _ _ _ (h 2) (h 3), hx, Ideal.exp_coe, Ideal.exp_coe,
    ← EReal.coe_sub, ← EReal.coe_add]

/-- The epilogue: the difference of the two maps' quotients, normalised. -/
theorem epilogue_apply (a : Vec Ideal S136x512 .f32) (x0 : Vec Ideal S4x64 .f32) (x1 : Vec Ideal S1x128 .f32) (r : Fin 256) (l : Fin 128) :
    k1_pay1 (k1_pay56 a x0) x1 (ix3 0 r l)
      = rowNorm (fun e => Ideal.div (a (ix2 (⟨e.val, by omega⟩ : Fin 136) (⟨r.val, by omega⟩ : Fin 512))) (a (ix2 128 (⟨r.val, by omega⟩ : Fin 512)))
          - lambda (fun i j => x0 (ix2 i j)) * Ideal.div (a (ix2 (⟨e.val, by omega⟩ : Fin 136) (⟨256 + r.val, by omega⟩ : Fin 512)))
            (a (ix2 128 (⟨256 + r.val, by omega⟩ : Fin 512)))) (x1 (ix2 0 l)) l := by
  unfold rowNorm lambda
  pointwise [k1_pay56, k1_pay1]

/-- The query rows of the first map. -/
theorem query_map0 (x2 : Vec Ideal S1x1x2x256x128 .bf16) (r : Fin 256) (d : Fin 128) :
    k1_pay52 x2 (ix2 (⟨r.val, by omega⟩ : Fin 512) d) = x2 (ix5 0 0 0 r d) := by
  pointwise [k1_pay52]
  congr 2 <;> exact Fin.ext (by simp <;> omega)

/-- The query rows of the second map. -/
theorem query_map1 (x2 : Vec Ideal S1x1x2x256x128 .bf16) (r : Fin 256) (d : Fin 128) :
    k1_pay52 x2 (ix2 (⟨256 + r.val, by omega⟩ : Fin 512) d) = x2 (ix5 0 0 1 r d) := by
  pointwise [k1_pay52]
  congr 2 <;> exact Fin.ext (by simp <;> omega)

/-- The quotient of two value sums at one reference point, the divisor's values all one, is a softmax average. -/
theorem quotient_softAvg {n : ℕ} [NeZero n] (s S v o : Fin n → ℝ) (m : ℝ) (hs : ∀ k, s k = S k * (Real.log 2)⁻¹) (ho : ∀ k, o k = 1) :
    Ideal.div (((∑ k, v k * (2 : ℝ) ^ (s k)) * (2 : ℝ) ^ m : ℝ) : EReal) (((∑ k, o k * (2 : ℝ) ^ (s k)) * (2 : ℝ) ^ m : ℝ) : EReal)
      = ((softAvg S v : ℝ) : EReal) := by
  simp only [hs, ho, two_rpow_div_log, one_mul]
  rw [div_coe _ _ (mul_pos (sum_exp_pos S) (Real.rpow_pos_of_pos two_pos m)).ne', quotient_rescaled]
  rfl

variable (x0 : Vec Ideal S4x64 .f32) (x1 : Vec Ideal S1x128 .f32) (x2 : Vec Ideal S1x1x2x256x128 .bf16)
  (r : Fin 256) (qr : Fin 2 → Fin 128 → ℝ) (kr : ℕ → Fin 128 → ℝ) (vr : ℕ → Fin 136 → ℝ) (S : Fin 2 → ℕ → ℝ) (lam : ℝ)

/-- The row before the norm, over `n` keys. -/
def rowOf (n : ℕ) (S : Fin 2 → ℕ → ℝ) (v : ℕ → Fin 136 → ℝ) (lam : ℝ) (e : Fin 128) : EReal :=
  ((softAvg (n := n) (fun κ => S 0 κ) (fun κ => v κ ⟨e.val, by omega⟩)
    - lam * softAvg (n := n) (fun κ => S 1 κ) (fun κ => v κ ⟨e.val, by omega⟩) : ℝ) : EReal)

theorem row_of_acc (n : ℕ) [NeZero n] (a : Vec Ideal S136x512 .f32)
    (hS : ∀ m (κ : Fin n), score (qr m) kr κ = S m κ * (Real.log 2)⁻¹) (hone : ∀ κ : Fin n, vr κ 128 = 1)
    (hlam : lambda (fun i j => x0 (ix2 i j)) = (lam : EReal))
    (ha0 : ∃ m : ℝ, ∀ e, a (ix2 e (⟨r.val, by omega⟩ : Fin 512)) = (((∑ κ : Fin n, vr κ e * (2 : ℝ) ^ (score (qr 0) kr κ)) * (2 : ℝ) ^ m : ℝ) : EReal))
    (ha1 : ∃ m : ℝ, ∀ e, a (ix2 e (⟨256 + r.val, by omega⟩ : Fin 512)) = (((∑ κ : Fin n, vr κ e * (2 : ℝ) ^ (score (qr 1) kr κ)) * (2 : ℝ) ^ m : ℝ) : EReal))
    (l : Fin 128) :
    k1_pay1 (k1_pay56 a x0) x1 (ix3 0 r l) = rowNorm (rowOf n S vr lam) (x1 (ix2 0 l)) l := by
  obtain ⟨m0, h0⟩ := ha0
  obtain ⟨m1, h1⟩ := ha1
  rw [epilogue_apply]
  congr 1
  funext e
  rw [h0, h0, h1, h1, quotient_softAvg _ (fun κ : Fin n => S 0 κ) _ _ _ (hS 0) hone,
    quotient_softAvg _ (fun κ : Fin n => S 1 κ) _ _ _ (hS 1) hone, hlam, ← EReal.coe_mul, ← EReal.coe_sub]
  rfl

/-- A query block that sees every key. -/
theorem row_all (x3 : Vec Ideal S1x16640x128 .bf16) (x4 : Vec Ideal S1x1x136x16640 .bf16)
    (hq : ∀ m d, x2 (ix5 0 0 m r d) = ((qr m d : ℝ) : EReal))
    (hk : ∀ (κ : Fin 16640) d, x3 (ix3 0 κ d) = ((kr κ d : ℝ) : EReal))
    (hv : ∀ (κ : Fin 16640) e, x4 (ix4 0 0 e κ) = ((vr κ e : ℝ) : EReal))
    (hS : ∀ m (κ : Fin 16640), score (qr m) kr κ = S m κ * (Real.log 2)⁻¹) (hone : ∀ κ : Fin 16640, vr κ 128 = 1)
    (hlam : lambda (fun i j => x0 (ix2 i j)) = (lam : EReal)) (l : Fin 128) :
    k1_pay1 (k1_pay56 (runAcc (k1_pay52 x2) (keyBlk x3) (valBlk x4) 12) x0) x1 (ix3 0 r l)
      = rowNorm (rowOf 16640 S vr lam) (x1 (ix2 0 l)) l :=
  row_of_acc x0 x1 r qr kr vr S lam 16640 _ hS hone hlam
    (runAcc_last _ x3 x4 _ (qr 0) kr vr (fun d => (query_map0 x2 r d).trans (hq 0 d)) hk hv)
    (runAcc_last _ x3 x4 _ (qr 1) kr vr (fun d => (query_map1 x2 r d).trans (hq 1 d)) hk hv) l

/-- A query block of the conditioning tokens: it sees the first 256 keys. -/
theorem row_ctx (k : Vec Ideal S1x256x128 .bf16) (v : Vec Ideal S1x1x136x256 .bf16)
    (hq : ∀ m d, x2 (ix5 0 0 m r d) = ((qr m d : ℝ) : EReal))
    (hk : ∀ (κ : Fin 256) d, k (ix3 0 κ d) = ((kr κ d : ℝ) : EReal))
    (hv : ∀ (κ : Fin 256) e, v (ix4 0 0 e κ) = ((vr κ e : ℝ) : EReal))
    (hS : ∀ m (κ : Fin 256), score (qr m) kr κ = S m κ * (Real.log 2)⁻¹) (hone : ∀ κ : Fin 256, vr κ 128 = 1)
    (hlam : lambda (fun i j => x0 (ix2 i j)) = (lam : EReal)) (l : Fin 128) :
    k1_pay1 (k1_pay56 (k1_pay53 x2 k v) x0) x1 (ix3 0 r l) = rowNorm (rowOf 256 S vr lam) (x1 (ix2 0 l)) l :=
  row_of_acc x0 x1 r qr kr vr S lam 256 _ hS hone hlam
    (ctx_last x2 k v _ (qr 0) kr vr (fun d => (query_map0 x2 r d).trans (hq 0 d)) hk hv)
    (ctx_last x2 k v _ (qr 1) kr vr (fun d => (query_map1 x2 r d).trans (hq 1 d)) hk hv) l

end Cert.Proof.AttnRow

end
-- ==== Proof.PrepBody.lean ====
module

public import proofs.«01_k».proof.Proof.Gen.KernelIdeal.Frame
public import Idealize.ShloMosaic.Lib.Pipeline.Value
public import Idealize.ShloMosaic.Lib.Pipeline.ValueKit.Tiles
public import Idealize.ShloMosaic.Lib.Pointwise

/-! # What the preparation body leaves in its three output blocks

The body takes one block of 640 tokens of the projection and writes, for each of the four heads, the rotated and
scaled queries twice (each map keeps its own half of the head's 128 lanes, the other half zero), the rotated keys, and
the values transposed with eight rows of ones below. -/

@[expose] public section

set_option maxRecDepth 16384

noncomputable section

namespace Cert.Proof.PrepBody

open Idealize.ShloMosaic Idealize.ShloMosaic.TcCoe
open Cert.KernelIdeal Cert.KernelIdeal.Gen

/-- The rotation of one head's 128 lanes by the three tables: the lane itself, the lane 16 above, the lane 16 below. -/
def rope (x cs s1 s2 : Fin 128 → EReal) (l : Fin 128) : EReal :=
  x l * cs l + x ⟨(l.val + 128 - 112) % 128, Nat.mod_lt _ (by omega)⟩ * s1 l
    + x ⟨(l.val + 128 - 16) % 128, Nat.mod_lt _ (by omega)⟩ * s2 l

/-- Lane `l` of head `h` among the 512 columns. -/
def col (h : Fin 4) (l : Fin 128) : Fin 512 := ⟨128 * h.val + l.val, by omega⟩

theorem select_slt {α : Type} (l : Fin 128) (a b : α) :
    Scalar.select (IntOp.cmpi CmpIPredicate.slt (BitVec.ofNat 32 l.val) 64#32) a b = if l.val < 64 then a else b := by
  revert l
  intro l
  by_cases h : l.val < 64
  · rw [if_pos h]
    have : IntOp.cmpi CmpIPredicate.slt (BitVec.ofNat 32 l.val) 64#32 = 1#1 := by revert l; decide
    rw [this]; rfl
  · rw [if_neg h]
    have : IntOp.cmpi CmpIPredicate.slt (BitVec.ofNat 32 l.val) 64#32 = 0#1 := by revert l; decide
    rw [this]; rfl

variable (x0 x1 x2 : Vec Ideal S1x640x512 .bf16) (x3 x4 x5 : Vec Ideal S640x128 .f32)

/-- The key block: each head's lanes rotated. -/
theorem keys_apply (h : Fin 4) (r : Fin 640) (l : Fin 128) :
    out0_7 x0 x1 x2 x3 x4 x5 (ix3 0 r (col h l))
      = rope (fun l => x1 (ix3 0 r (col h l))) (fun l => x3 (ix2 r l)) (fun l => x4 (ix2 r l)) (fun l => x5 (ix2 r l)) l := by
  unfold_out out0_7
  unfold rope col
  canon_tiles x hx
  all_goals
    change 0 = (x 0).val at hx0
    change r.val = (x 1).val at hx1
  · change 128 * h.val + l.val = 384 + (x 2).val at hx2
    obtain rfl : h = 3 := Fin.ext (by show h.val = 3; omega)
    obtain rfl : x = ix3 0 r l := by
      funext a; fin_cases a
      · exact Fin.ext hx0.symm
      · exact Fin.ext hx1.symm
      · exact Fin.ext (by show (x 2).val = l.val; simp at hx2; omega)
    pointwise [k0_pay30, k0_pay2, k0_pay3, k0_pay4]
  · change 128 * h.val + l.val = 256 + (x 2).val at hx2
    obtain rfl : h = 2 := Fin.ext (by show h.val = 2; omega)
    obtain rfl : x = ix3 0 r l := by
      funext a; fin_cases a
      · exact Fin.ext hx0.symm
      · exact Fin.ext hx1.symm
      · exact Fin.ext (by show (x 2).val = l.val; simp at hx2; omega)
    pointwise [k0_pay24, k0_pay2, k0_pay3, k0_pay4]
  · change 128 * h.val + l.val = 128 + (x 2).val at hx2
    obtain rfl : h = 1 := Fin.ext (by show h.val = 1; omega)
    obtain rfl : x = ix3 0 r l := by
      funext a; fin_cases a
      · exact Fin.ext hx0.symm
      · exact Fin.ext hx1.symm
      · exact Fin.ext (by show (x 2).val = l.val; simp at hx2; omega)
    pointwise [k0_pay18, k0_pay2, k0_pay3, k0_pay4]
  · change 128 * h.val + l.val = (x 2).val at hx2
    obtain rfl : h = 0 := Fin.ext (by show h.val = 0; omega)
    obtain rfl : x = ix3 0 r l := by
      funext a; fin_cases a
      · exact Fin.ext hx0.symm
      · exact Fin.ext hx1.symm
      · exact Fin.ext (by show (x 2).val = l.val; simp at hx2; omega)
    pointwise [k0_pay11, k0_pay2, k0_pay3, k0_pay4]

/-- The value block: transposed, rows 128 to 135 all one. -/
theorem values_apply (h : Fin 4) (e : Fin 136) (r : Fin 640) :
    out0_8 x0 x1 x2 x3 x4 x5 (ix4 0 h e r)
      = if he : e.val < 128 then x2 (ix3 0 r (col h ⟨e.val, he⟩)) else 1 := by
  unfold_out out0_8
  unfold col
  canon_tiles x hx
  all_goals
    change 0 = (x 0).val at hx0
    change e.val = (x 2).val at hx2
    change r.val = (x 3).val at hx3
  · change h.val = 3 + (x 1).val at hx1
    obtain rfl : h = 3 := Fin.ext (by show h.val = 3; omega)
    obtain rfl : x = ix4 0 0 e r := by
      funext a; fin_cases a
      · exact Fin.ext hx0.symm
      · exact Fin.ext (by show (x 1).val = 0; omega)
      · exact Fin.ext hx2.symm
      · exact Fin.ext hx3.symm
    pointwise [k0_pay1, k0_pay31, k0_pay6]
  · change h.val = 2 + (x 1).val at hx1
    obtain rfl : h = 2 := Fin.ext (by show h.val = 2; omega)
    obtain rfl : x = ix4 0 0 e r := by
      funext a; fin_cases a
      · exact Fin.ext hx0.symm
      · exact Fin.ext (by show (x 1).val = 0; omega)
      · exact Fin.ext hx2.symm
      · exact Fin.ext hx3.symm
    pointwise [k0_pay25, k0_pay6]
  · change h.val = 1 + (x 1).val at hx1
    obtain rfl : h = 1 := Fin.ext (by show h.val = 1; omega)
    obtain rfl : x = ix4 0 0 e r := by
      funext a; fin_cases a
      · exact Fin.ext hx0.symm
      · exact Fin.ext (by show (x 1).val = 0; omega)
      · exact Fin.ext hx2.symm
      · exact Fin.ext hx3.symm
    pointwise [k0_pay19, k0_pay6]
  · change h.val = (x 1).val at hx1
    obtain rfl : h = 0 := Fin.ext (by show h.val = 0; omega)
    obtain rfl : x = ix4 0 0 e r := by
      funext a; fin_cases a
      · exact Fin.ext hx0.symm
      · exact Fin.ext (by show (x 1).val = 0; omega)
      · exact Fin.ext hx2.symm
      · exact Fin.ext hx3.symm
    pointwise [k0_pay12, k0_pay6]

/-- The query block: each map keeps its own 64 lanes of the head, rotated and scaled, the other half is zero. -/
theorem queries_apply (h : Fin 4) (m : Fin 2) (r : Fin 640) (l : Fin 128) :
    out0_6 x0 x1 x2 x3 x4 x5 (ix5 0 h m r l)
      = if (l.val < 64 ↔ m.val = 0) then
          rope (fun l => x0 (ix3 0 r (col h l))) (fun l => x3 (ix2 r l)) (fun l => x4 (ix2 r l)) (fun l => x5 (ix2 r l)) l
            * (Named.named κ "qscale" 0x3E38AA3B#32 : Ideal .f32)
        else 0 := by
  unfold_out out0_6
  unfold rope col
  canon_tiles x hx
  all_goals
    change 0 = (x 0).val at hx0
    change r.val = (x 3).val at hx3
    change l.val = (x 4).val at hx4
  · change h.val = 3 + (x 1).val at hx1
    change m.val = 1 + (x 2).val at hx2
    obtain rfl : h = 3 := Fin.ext (by show h.val = 3; omega)
    obtain rfl : m = 1 := Fin.ext (by show m.val = 1; omega)
    obtain rfl : x = ix5 0 0 0 r l := by
      funext a; fin_cases a
      · exact Fin.ext hx0.symm
      · exact Fin.ext (by show (x 1).val = 0; omega)
      · exact Fin.ext (by show (x 2).val = 0; omega)
      · exact Fin.ext hx3.symm
      · exact Fin.ext hx4.symm
    pointwise [k0_pay29, k0_pay26, k0_pay27, k0_pay2, k0_pay3, k0_pay4, k0_pay5]
    rw [select_slt]
    by_cases hl : l.val < 64 <;> simp [hl]
  · change h.val = 3 + (x 1).val at hx1
    change m.val = (x 2).val at hx2
    obtain rfl : h = 3 := Fin.ext (by show h.val = 3; omega)
    obtain rfl : m = 0 := Fin.ext (by show m.val = 0; omega)
    obtain rfl : x = ix5 0 0 0 r l := by
      funext a; fin_cases a
      · exact Fin.ext hx0.symm
      · exact Fin.ext (by show (x 1).val = 0; omega)
      · exact Fin.ext (by show (x 2).val = 0; omega)
      · exact Fin.ext hx3.symm
      · exact Fin.ext hx4.symm
    pointwise [k0_pay28, k0_pay26, k0_pay27, k0_pay2, k0_pay3, k0_pay4, k0_pay5]
    rw [select_slt]
    by_cases hl : l.val < 64 <;> simp [hl]
  · change h.val = 2 + (x 1).val at hx1
    change m.val = 1 + (x 2).val at hx2
    obtain rfl : h = 2 := Fin.ext (by show h.val = 2; omega)
    obtain rfl : m = 1 := Fin.ext (by show m.val = 1; omega)
    obtain rfl : x = ix5 0 0 0 r l := by
      funext a; fin_cases a
      · exact Fin.ext hx0.symm
      · exact Fin.ext (by show (x 1).val = 0; omega)
      · exact Fin.ext (by show (x 2).val = 0; omega)
      · exact Fin.ext hx3.symm
      · exact Fin.ext hx4.symm
    pointwise [k0_pay22, k0_pay23, k0_pay20, k0_pay2, k0_pay3, k0_pay4, k0_pay5]
    rw [select_slt]
    by_cases hl : l.val < 64 <;> simp [hl]
  · change h.val = 2 + (x 1).val at hx1
    change m.val = (x 2).val at hx2
    obtain rfl : h = 2 := Fin.ext (by show h.val = 2; omega)
    obtain rfl : m = 0 := Fin.ext (by show m.val = 0; omega)
    obtain rfl : x = ix5 0 0 0 r l := by
      funext a; fin_cases a
      · exact Fin.ext hx0.symm
      · exact Fin.ext (by show (x 1).val = 0; omega)
      · exact Fin.ext (by show (x 2).val = 0; omega)
      · exact Fin.ext hx3.symm
      · exact Fin.ext hx4.symm
    pointwise [k0_pay21, k0_pay20, k0_pay2, k0_pay3, k0_pay4, k0_pay5]
    rw [select_slt]
    by_cases hl : l.val < 64 <;> simp [hl]
  · change h.val = 1 + (x 1).val at hx1
    change m.val = 1 + (x 2).val at hx2
    obtain rfl : h = 1 := Fin.ext (by show h.val = 1; omega)
    obtain rfl : m = 1 := Fin.ext (by show m.val = 1; omega)
    obtain rfl : x = ix5 0 0 0 r l := by
      funext a; fin_cases a
      · exact Fin.ext hx0.symm
      · exact Fin.ext (by show (x 1).val = 0; omega)
      · exact Fin.ext (by show (x 2).val = 0; omega)
      · exact Fin.ext hx3.symm
      · exact Fin.ext hx4.symm
    pointwise [k0_pay17, k0_pay13, k0_pay14, k0_pay15, k0_pay2, k0_pay3, k0_pay4, k0_pay5]
    rw [select_slt]
    by_cases hl : l.val < 64 <;> simp [hl]
  · change h.val = 1 + (x 1).val at hx1
    change m.val = (x 2).val at hx2
    obtain rfl : h = 1 := Fin.ext (by show h.val = 1; omega)
    obtain rfl : m = 0 := Fin.ext (by show m.val = 0; omega)
    obtain rfl : x = ix5 0 0 0 r l := by
      funext a; fin_cases a
      · exact Fin.ext hx0.symm
      · exact Fin.ext (by show (x 1).val = 0; omega)
      · exact Fin.ext (by show (x 2).val = 0; omega)
      · exact Fin.ext hx3.symm
      · exact Fin.ext hx4.symm
    pointwise [k0_pay16, k0_pay13, k0_pay14, k0_pay15, k0_pay2, k0_pay3, k0_pay4, k0_pay5]
    rw [select_slt]
    by_cases hl : l.val < 64 <;> simp [hl]
  · change h.val = (x 1).val at hx1
    change m.val = 1 + (x 2).val at hx2
    obtain rfl : h = 0 := Fin.ext (by show h.val = 0; omega)
    obtain rfl : m = 1 := Fin.ext (by show m.val = 1; omega)
    obtain rfl : x = ix5 0 0 0 r l := by
      funext a; fin_cases a
      · exact Fin.ext hx0.symm
      · exact Fin.ext (by show (x 1).val = 0; omega)
      · exact Fin.ext (by show (x 2).val = 0; omega)
      · exact Fin.ext hx3.symm
      · exact Fin.ext hx4.symm
    pointwise [k0_pay9, k0_pay10, k0_pay7, k0_pay2, k0_pay3, k0_pay4, k0_pay5]
    rw [select_slt]
    by_cases hl : l.val < 64 <;> simp [hl]
  · change h.val = (x 1).val at hx1
    change m.val = (x 2).val at hx2
    obtain rfl : h = 0 := Fin.ext (by show h.val = 0; omega)
    obtain rfl : m = 0 := Fin.ext (by show m.val = 0; omega)
    obtain rfl : x = ix5 0 0 0 r l := by
      funext a; fin_cases a
      · exact Fin.ext hx0.symm
      · exact Fin.ext (by show (x 1).val = 0; omega)
      · exact Fin.ext (by show (x 2).val = 0; omega)
      · exact Fin.ext hx3.symm
      · exact Fin.ext hx4.symm
    pointwise [k0_pay8, k0_pay7, k0_pay2, k0_pay3, k0_pay4, k0_pay5]
    rw [select_slt]
    by_cases hl : l.val < 64 <;> simp [hl]

end Cert.Proof.PrepBody

end
-- ==== Proof.AttnArray.lean ====
module

public import proofs.«01_k».proof.Proof.AttnRow
public import proofs.«01_k».proof.Proof.PrepBody
public import proofs.«01_k».proof.Proof.Gen.KernelIdeal.Frame
public import Idealize.ShloMosaic.Lib.Pipeline.Value
public import Idealize.ShloMosaic.Lib.Pointwise

/-!
# The array the attention call leaves

Each grid point of the attention call writes one block of 256 rows of one head.  The first block of rows
(the context tokens) attends to the first 256 keys, every other block to all keys.  Here the array after
the call is read at any index, for real queries, keys and values.
-/

@[expose] public section

set_option maxRecDepth 16384

noncomputable section

namespace Cert.Proof.AttnArray

open Idealize.ShloMosaic Idealize.ShloMosaic.TcCoe
open Idealize.ShloMosaic.Pipeline
open Cert.KernelIdeal Cert.KernelIdeal.Gen
open Cert.Proof.AttnBody Cert.Proof.AttnValue Cert.Proof.AttnRow Cert.Proof.PrepBody

variable (V : (c : Dev nD) → (b : Ref sig .tc) → Buf (Elt Ideal) ((c : Thread nD τ).loc b))

theorem N_520 : grid1.N = 520 := by decide +kernel

theorem idxA (t : Fin grid1.N) :
    (win1_0.index t 0 = 0 ∧ win1_0.index t 1 = 0) ∧ (win1_1.index t 0 = 0 ∧ win1_1.index t 1 = 0)
    ∧ (win1_2.index t 0 = t.val / 260 ∧ win1_2.index t 1 = t.val / 65 % 4 ∧ win1_2.index t 2 = 0
      ∧ win1_2.index t 3 = t.val % 65 ∧ win1_2.index t 4 = 0) := by
  revert t; decide +kernel

theorem idxB (t : Fin grid1.N) :
    (win1_3.index t 0 = t.val / 260 ∧ win1_3.index t 1 = 0 ∧ win1_3.index t 2 = t.val / 65 % 4)
    ∧ (win1_4.index t 0 = t.val / 260 ∧ win1_4.index t 1 = t.val / 65 % 4 ∧ win1_4.index t 2 = 0
      ∧ win1_4.index t 3 = 0)
    ∧ (win1_5.index t 0 = t.val / 260 ∧ win1_5.index t 1 = t.val % 65 ∧ win1_5.index t 2 = t.val / 65 % 4) := by
  revert t; decide +kernel

/-- The batch entry, head and row that row `r` of point `t`'s block is. -/
def batch (t : Fin grid1.N) : Fin 2 := ⟨t.val / 260, by have := t.isLt; have := N_520; omega⟩
def head (t : Fin grid1.N) : Fin 4 := ⟨t.val / 65 % 4, Nat.mod_lt _ (by omega)⟩
def row (t : Fin grid1.N) (r : Fin 256) : Fin 16640 := ⟨t.val % 65 * 256 + r.val, by have := r.isLt; omega⟩

theorem in0 (c : Dev nD) (t : Fin grid1.N) (i : Fin 4) (j : Fin 64) :
    iblk1 V c 0 t (ix2 i j) = V c main_arg5 (ix2 i j) := by
  obtain ⟨⟨h0, h1⟩, -, -⟩ := idxA t
  show V c main_arg5 ((win1_0.rect t).emb (ix2 i j)) = _
  refine congrArg _ (funext fun a => Fin.ext ?_)
  rw [win1_0.rect_emb_val t (ix2 i j) a]
  match a with
  | ⟨0, _⟩ => show win1_0.index t 0 * 4 + i.val = i.val; rw [h0]; omega
  | ⟨1, _⟩ => show win1_0.index t 1 * 64 + j.val = j.val; rw [h1]; omega

theorem in1 (c : Dev nD) (t : Fin grid1.N) (l : Fin 128) :
    iblk1 V c 1 t (ix2 0 l) = V c main_v16 (ix2 0 l) := by
  obtain ⟨-, ⟨h0, h1⟩, -⟩ := idxA t
  show V c main_v16 ((win1_1.rect t).emb (ix2 0 l)) = _
  refine congrArg _ (funext fun a => Fin.ext ?_)
  rw [win1_1.rect_emb_val t (ix2 0 l) a]
  match a with
  | ⟨0, _⟩ => show win1_1.index t 0 * 1 + 0 = 0; rw [h0]
  | ⟨1, _⟩ => show win1_1.index t 1 * 128 + l.val = l.val; rw [h1]; omega

theorem in2 (c : Dev nD) (t : Fin grid1.N) (m : Fin 2) (r : Fin 256) (d : Fin 128) :
    iblk1 V c 2 t (ix5 0 0 m r d) = V c main_v15_0 (ix5 (batch t) (head t) m (row t r) d) := by
  obtain ⟨-, -, ⟨h0, h1, h2, h3, h4⟩⟩ := idxA t
  show V c main_v15_0 ((win1_2.rect t).emb (ix5 0 0 m r d)) = _
  refine congrArg _ (funext fun a => Fin.ext ?_)
  rw [win1_2.rect_emb_val t (ix5 0 0 m r d) a]
  match a with
  | ⟨0, _⟩ => show win1_2.index t 0 * 1 + 0 = t.val / 260; rw [h0]; omega
  | ⟨1, _⟩ => show win1_2.index t 1 * 1 + 0 = t.val / 65 % 4; rw [h1]; omega
  | ⟨2, _⟩ => show win1_2.index t 2 * 2 + m.val = m.val; rw [h2]; omega
  | ⟨3, _⟩ => show win1_2.index t 3 * 256 + r.val = t.val % 65 * 256 + r.val; rw [h3]
  | ⟨4, _⟩ => show win1_2.index t 4 * 128 + d.val = d.val; rw [h4]; omega

theorem in3 (c : Dev nD) (t : Fin grid1.N) (k : Fin 16640) (d : Fin 128) :
    iblk1 V c 3 t (ix3 0 k d) = V c main_v15_1 (ix3 (batch t) k (col (head t) d)) := by
  obtain ⟨⟨h0, h1, h2⟩, -, -⟩ := idxB t
  show V c main_v15_1 ((win1_3.rect t).emb (ix3 0 k d)) = _
  refine congrArg _ (funext fun a => Fin.ext ?_)
  rw [win1_3.rect_emb_val t (ix3 0 k d) a]
  match a with
  | ⟨0, _⟩ => show win1_3.index t 0 * 1 + 0 = t.val / 260; rw [h0]; omega
  | ⟨1, _⟩ => show win1_3.index t 1 * 16640 + k.val = k.val; rw [h1]; omega
  | ⟨2, _⟩ => show win1_3.index t 2 * 128 + d.val = 128 * (t.val / 65 % 4) + d.val; rw [h2]; omega

theorem in4 (c : Dev nD) (t : Fin grid1.N) (e : Fin 136) (k : Fin 16640) :
    iblk1 V c 4 t (ix4 0 0 e k) = V c main_v15_2 (ix4 (batch t) (head t) e k) := by
  obtain ⟨-, ⟨h0, h1, h2, h3⟩, -⟩ := idxB t
  show V c main_v15_2 ((win1_4.rect t).emb (ix4 0 0 e k)) = _
  refine congrArg _ (funext fun a => Fin.ext ?_)
  rw [win1_4.rect_emb_val t (ix4 0 0 e k) a]
  match a with
  | ⟨0, _⟩ => show win1_4.index t 0 * 1 + 0 = t.val / 260; rw [h0]; omega
  | ⟨1, _⟩ => show win1_4.index t 1 * 1 + 0 = t.val / 65 % 4; rw [h1]; omega
  | ⟨2, _⟩ => show win1_4.index t 2 * 136 + e.val = e.val; rw [h2]; omega
  | ⟨3, _⟩ => show win1_4.index t 3 * 16640 + k.val = k.val; rw [h3]; omega

theorem out5_emb (t : Fin grid1.N) (r : Fin 256) (l : Fin 128) :
    (win1_5.rect t).emb (ix3 0 r l) = ix3 (batch t) (row t r) (col (head t) l) := by
  obtain ⟨-, -, ⟨h0, h1, h2⟩⟩ := idxB t
  refine funext fun a => Fin.ext ?_
  rw [win1_5.rect_emb_val t (ix3 0 r l) a]
  match a with
  | ⟨0, _⟩ => show win1_5.index t 0 * 1 + 0 = t.val / 260; rw [h0]; omega
  | ⟨1, _⟩ => show win1_5.index t 1 * 256 + r.val = t.val % 65 * 256 + r.val; rw [h1]
  | ⟨2, _⟩ => show win1_5.index t 2 * 128 + l.val = 128 * (t.val / 65 % 4) + l.val; rw [h2]; omega

/-- The point and the block row of a row of one head. -/
def pointOf (b : Fin 2) (h : Fin 4) (n : Fin 16640) : Fin grid1.N :=
  ⟨b.val * 260 + h.val * 65 + n.val / 256, by rw [N_520]; have := b.isLt; have := h.isLt; have := n.isLt; omega⟩

def rowIn (n : Fin 16640) : Fin 256 := ⟨n.val % 256, Nat.mod_lt _ (by omega)⟩

theorem batch_pointOf (b : Fin 2) (h : Fin 4) (n : Fin 16640) : batch (pointOf b h n) = b :=
  Fin.ext (by have := n.isLt; have := h.isLt; show (b.val * 260 + h.val * 65 + n.val / 256) / 260 = b.val; omega)

theorem head_pointOf (b : Fin 2) (h : Fin 4) (n : Fin 16640) : head (pointOf b h n) = h :=
  Fin.ext (by have := n.isLt; have := h.isLt; show (b.val * 260 + h.val * 65 + n.val / 256) / 65 % 4 = h.val; omega)

theorem row_pointOf (b : Fin 2) (h : Fin 4) (n : Fin 16640) : row (pointOf b h n) (rowIn n) = n :=
  Fin.ext (by
    have := n.isLt
    show (b.val * 260 + h.val * 65 + n.val / 256) % 65 * 256 + n.val % 256 = n.val
    omega)

/-- The number of keys row `n` attends to: a context token sees the context only. -/
def keyCount (n : ℕ) : ℕ := if n < 256 then 256 else 16640

/-- Two lanes that are the same column are lanes of the same head. -/
theorem col_inj {h h' : Fin 4} {l l' : Fin 128} (e : col h l = col h' l') : h = h' ∧ l = l' := by
  have := congrArg Fin.val e
  change 128 * h.val + l.val = 128 * h'.val + l'.val at this
  have := l.isLt; have := l'.isLt
  exact ⟨Fin.ext (by omega), Fin.ext (by omega)⟩

section

variable (c : Dev nD) (Q : Fin 2 → Fin 4 → Fin 16640 → Fin 2 → Fin 128 → ℝ) (K : Fin 2 → Fin 4 → ℕ → Fin 128 → ℝ)
  (W : Fin 2 → Fin 4 → ℕ → Fin 136 → ℝ) (S : Fin 2 → Fin 4 → Fin 16640 → Fin 2 → ℕ → ℝ) (lam : ℝ)
  (hQ : ∀ b h m n d, V c main_v15_0 (ix5 b h m n d) = ((Q b h n m d : ℝ) : EReal))
  (hK : ∀ b h (k : Fin 16640) d, V c main_v15_1 (ix3 b k (col h d)) = ((K b h k d : ℝ) : EReal))
  (hW : ∀ b h (k : Fin 16640) e, V c main_v15_2 (ix4 b h e k) = ((W b h k e : ℝ) : EReal))
  (hS : ∀ b h n m (k : Fin 16640), score (Q b h n m) (K b h) k = S b h n m k * (Real.log 2)⁻¹)
  (hone : ∀ b h (k : Fin 16640), W b h k 128 = 1)
  (hlam : lambda (fun i j => V c main_arg5 (ix2 i j)) = (lam : EReal))

include hQ hK hW hS hone hlam

/-- One element of point `t`'s block. -/
theorem block_apply (t : Fin grid1.N) (r : Fin 256) (l : Fin 128) :
    outsAt1 V c t.val t.isLt (ix3 0 r l)
      = rowNorm (rowOf (keyCount (row t r)) (S (batch t) (head t) (row t r)) (W (batch t) (head t)) lam)
          (V c main_v16 (ix2 0 l)) l := by
  by_cases h0 : t.val % 65 = 0
  · have hr : keyCount (row t r) = 256 := if_pos (by have := r.isLt; show t.val % 65 * 256 + r.val < 256; omega)
    rw [outsAt1_A V c t h0 (by omega), out1_A_eq, hr, ← in1 V c t l]
    refine row_ctx _ _ _ r (Q (batch t) (head t) (row t r)) (K (batch t) (head t)) _ _ _ _ _ ?_ ?_ ?_ ?_ ?_ ?_ l
    · intro m d; rw [in2, hQ]
    · intro k d
      refine Eq.trans (congrArg (iblk1 V c 3 t) (funext fun a => Fin.ext ?_))
        ((in3 V c t ⟨k.val, by omega⟩ d).trans (hK _ _ _ _))
      match a with
      | ⟨0, _⟩ => rfl
      | ⟨1, _⟩ => show 0 + 1 * k.val = k.val; omega
      | ⟨2, _⟩ => show 0 + 1 * d.val = d.val; omega
    · intro k e
      refine Eq.trans (congrArg (iblk1 V c 4 t) (funext fun a => Fin.ext ?_))
        ((in4 V c t e ⟨k.val, by omega⟩).trans (hW _ _ _ _))
      match a with
      | ⟨0, _⟩ => rfl
      | ⟨1, _⟩ => rfl
      | ⟨2, _⟩ => show 0 + 1 * e.val = e.val; omega
      | ⟨3, _⟩ => show 0 + 1 * k.val = k.val; omega
    · intro m k; exact hS _ _ _ m ⟨k.val, by omega⟩
    · intro k; exact hone _ _ ⟨k.val, by omega⟩
    · simp only [in0]; exact hlam
  · have hr : keyCount (row t r) = 16640 := if_neg (by show ¬t.val % 65 * 256 + r.val < 256; omega)
    rw [outsAt1_B V c t h0 (by omega), out1_B_eq, hr, ← in1 V c t l]
    refine row_all _ _ _ r (Q (batch t) (head t) (row t r)) (K (batch t) (head t)) _ _ _ _ _ ?_ ?_ ?_ ?_ ?_ ?_ l
    · intro m d; rw [in2, hQ]
    · intro k d; rw [in3, hK]
    · intro k e; rw [in4, hW]
    · intro m k; exact hS _ _ _ m k
    · intro k; exact hone _ _ k
    · simp only [in0]; exact hlam

/-- The array after the call. -/
theorem attention_array (b : Fin 2) (n : Fin 16640) (h : Fin 4) (l : Fin 128) :
    (dat1 V c).arrAt 5 cfg1.N (ix3 b n (col h l))
      = rowNorm (rowOf (keyCount n) (S b h n) (W b h) lam) (V c main_v16 (ix2 0 l)) l := by
  refine (dat1 V c).arrAt_forall_of_flushed 5
    (fun i v => ∀ (b : Fin 2) (n : Fin 16640) (h : Fin 4) (l : Fin 128), i = ix3 b n (col h l) →
      v = rowNorm (rowOf (keyCount n) (S b h n) (W b h) lam) (V c main_v16 (ix2 0 l)) l)
    ?_ cfg1.N (pointOf b h n) _ (pointOf b h n).isLt (flush1_5 _) ?_ b n h l rfl
  · intro t _ y b n h l he
    obtain ⟨r, l', rfl⟩ : ∃ (r : Fin 256) (l : Fin 128), y = ix3 0 r l :=
      ⟨y 1, y 2, funext fun a => match a with
        | ⟨0, _⟩ => Subsingleton.elim (α := Fin 1) _ _
        | ⟨1, _⟩ => rfl
        | ⟨2, _⟩ => rfl⟩
    change (win1_5.rect t).emb (ix3 0 r l') = _ at he
    rw [out5_emb] at he
    obtain rfl : batch t = b := congrFun he 0
    obtain rfl : row t r = n := congrFun he 1
    obtain ⟨rfl, rfl⟩ := col_inj (show col (head t) l' = col h l from congrFun he 2)
    show (dat1 V c).after 5 t (ix3 0 r l') = _
    rw [after1_5]
    exact block_apply V c Q K W S lam hQ hK hW hS hone hlam t r l'
  · show ix3 b n (col h l) ∈ ((View.whole main_v17).slice (win1_5.rect (pointOf b h n))).set
    have e := out5_emb (pointOf b h n) (rowIn n) l
    rw [batch_pointOf, row_pointOf, head_pointOf] at e
    rw [← e]
    exact ((View.whole main_v17).slice (win1_5.rect (pointOf b h n))).emb_mem_set (ix3 0 (rowIn n) l)

end

end Cert.Proof.AttnArray

end

end
-- ==== Proof.PrepArrays.lean ====
module

public import proofs.«01_k».proof.Proof.PrepBody
public import proofs.«01_k».proof.Proof.Gen.KernelIdeal.Frame
public import Idealize.ShloMosaic.Lib.Pipeline.Value
public import Idealize.ShloMosaic.Lib.Pointwise

/-!
# The arrays the preparation call leaves

Every grid point of the preparation call writes its own blocks of rotated queries, rotated keys and
transposed values.  Here the three arrays after the call are read at any index, as the formulas of
`PrepBody` over the arrays the call reads.
-/

@[expose] public section

set_option maxRecDepth 16384

noncomputable section

namespace Cert.Proof.PrepArrays

open Idealize.ShloMosaic Idealize.ShloMosaic.TcCoe
open Idealize.ShloMosaic.Pipeline
open Cert.KernelIdeal Cert.KernelIdeal.Gen Cert.Proof.PrepBody

variable (V : (c : Dev nD) → (b : Ref sig .tc) → Buf (Elt Ideal) ((c : Thread nD τ).loc b))

theorem idx0 (t : Fin grid0.N) :
    (win0_0.index t 0 = t.val / 26 ∧ win0_0.index t 1 = t.val % 26 ∧ win0_0.index t 2 = 4)
    ∧ (win0_1.index t 0 = t.val / 26 ∧ win0_1.index t 1 = t.val % 26 ∧ win0_1.index t 2 = 5)
    ∧ (win0_2.index t 0 = t.val / 26 ∧ win0_2.index t 1 = t.val % 26 ∧ win0_2.index t 2 = 6) := by
  revert t; decide +kernel

theorem idx1 (t : Fin grid0.N) :
    (win0_3.index t 0 = t.val % 26 ∧ win0_3.index t 1 = 0)
    ∧ (win0_4.index t 0 = t.val % 26 ∧ win0_4.index t 1 = 0)
    ∧ (win0_5.index t 0 = t.val % 26 ∧ win0_5.index t 1 = 0) := by
  revert t; decide +kernel

theorem idx2 (t : Fin grid0.N) :
    (win0_6.index t 0 = t.val / 26 ∧ win0_6.index t 1 = 0 ∧ win0_6.index t 2 = 0
      ∧ win0_6.index t 3 = t.val % 26 ∧ win0_6.index t 4 = 0)
    ∧ (win0_7.index t 0 = t.val / 26 ∧ win0_7.index t 1 = t.val % 26 ∧ win0_7.index t 2 = 0)
    ∧ (win0_8.index t 0 = t.val / 26 ∧ win0_8.index t 1 = 0 ∧ win0_8.index t 2 = 0
      ∧ win0_8.index t 3 = t.val % 26) := by
  revert t; decide +kernel

theorem N_52 : grid0.N = 52 := by decide +kernel

/-- The row of the arrays that row `r` of point `t`'s blocks is. -/
def row (t : Fin grid0.N) (r : Fin 640) : Fin 16640 := ⟨t.val % 26 * 640 + r.val, by have := r.isLt; omega⟩

/-- The batch entry of point `t`. -/
def batch (t : Fin grid0.N) : Fin 2 := ⟨t.val / 26, by have := t.isLt; have := N_52; omega⟩

/-- A column of the projection, `o` blocks of 512 in. -/
def colAt (o : Fin 8) (j : Fin 512) : Fin 4096 := ⟨o.val * 512 + j.val, by have := o.isLt; have := j.isLt; omega⟩

/-- Input block 0 at point `t` is the projection's rows of that point, columns 2048 and up. -/
theorem in0 (c : Dev nD) (t : Fin grid0.N) (r : Fin 640) (j : Fin 512) :
    iblk0 V c 0 t (ix3 0 r j) = V c main_arg0 (ix3 (batch t) (row t r) (colAt 4 j)) := by
  obtain ⟨⟨h0, h1, h2⟩, -, -⟩ := idx0 t
  show V c main_arg0 ((win0_0.rect t).emb (ix3 0 r j)) = _
  refine congrArg _ (funext fun a => Fin.ext ?_)
  rw [win0_0.rect_emb_val t (ix3 0 r j) a]
  match a with
  | ⟨0, _⟩ => show win0_0.index t 0 * 1 + 0 = t.val / 26; rw [h0]; omega
  | ⟨1, _⟩ => show win0_0.index t 1 * 640 + r.val = t.val % 26 * 640 + r.val; rw [h1]
  | ⟨2, _⟩ => show win0_0.index t 2 * 512 + j.val = 4 * 512 + j.val; rw [h2]

/-- Input block 1 at point `t` is the projection's rows of that point, columns 2560 and up. -/
theorem in1 (c : Dev nD) (t : Fin grid0.N) (r : Fin 640) (j : Fin 512) :
    iblk0 V c 1 t (ix3 0 r j) = V c main_arg0 (ix3 (batch t) (row t r) (colAt 5 j)) := by
  obtain ⟨-, ⟨h0, h1, h2⟩, -⟩ := idx0 t
  show V c main_arg0 ((win0_1.rect t).emb (ix3 0 r j)) = _
  refine congrArg _ (funext fun a => Fin.ext ?_)
  rw [win0_1.rect_emb_val t (ix3 0 r j) a]
  match a with
  | ⟨0, _⟩ => show win0_1.index t 0 * 1 + 0 = t.val / 26; rw [h0]; omega
  | ⟨1, _⟩ => show win0_1.index t 1 * 640 + r.val = t.val % 26 * 640 + r.val; rw [h1]
  | ⟨2, _⟩ => show win0_1.index t 2 * 512 + j.val = 5 * 512 + j.val; rw [h2]

/-- Input block 2 at point `t` is the projection's rows of that point, columns 3072 and up. -/
theorem in2 (c : Dev nD) (t : Fin grid0.N) (r : Fin 640) (j : Fin 512) :
    iblk0 V c 2 t (ix3 0 r j) = V c main_arg0 (ix3 (batch t) (row t r) (colAt 6 j)) := by
  obtain ⟨-, -, ⟨h0, h1, h2⟩⟩ := idx0 t
  show V c main_arg0 ((win0_2.rect t).emb (ix3 0 r j)) = _
  refine congrArg _ (funext fun a => Fin.ext ?_)
  rw [win0_2.rect_emb_val t (ix3 0 r j) a]
  match a with
  | ⟨0, _⟩ => show win0_2.index t 0 * 1 + 0 = t.val / 26; rw [h0]; omega
  | ⟨1, _⟩ => show win0_2.index t 1 * 640 + r.val = t.val % 26 * 640 + r.val; rw [h1]
  | ⟨2, _⟩ => show win0_2.index t 2 * 512 + j.val = 6 * 512 + j.val; rw [h2]

/-- Input block 3 at point `t` is that point's rows of a rotation table. -/
theorem in3 (c : Dev nD) (t : Fin grid0.N) (r : Fin 640) (l : Fin 128) :
    iblk0 V c 3 t (ix2 r l) = V c main_v8 (ix2 (row t r) l) := by
  obtain ⟨⟨h0, h1⟩, -, -⟩ := idx1 t
  show V c main_v8 ((win0_3.rect t).emb (ix2 r l)) = _
  refine congrArg _ (funext fun a => Fin.ext ?_)
  rw [win0_3.rect_emb_val t (ix2 r l) a]
  match a with
  | ⟨0, _⟩ => show win0_3.index t 0 * 640 + r.val = t.val % 26 * 640 + r.val; rw [h0]
  | ⟨1, _⟩ => show win0_3.index t 1 * 128 + l.val = l.val; rw [h1]; omega

/-- Input block 4 at point `t` is that point's rows of a rotation table. -/
theorem in4 (c : Dev nD) (t : Fin grid0.N) (r : Fin 640) (l : Fin 128) :
    iblk0 V c 4 t (ix2 r l) = V c main_v11 (ix2 (row t r) l) := by
  obtain ⟨-, ⟨h0, h1⟩, -⟩ := idx1 t
  show V c main_v11 ((win0_4.rect t).emb (ix2 r l)) = _
  refine congrArg _ (funext fun a => Fin.ext ?_)
  rw [win0_4.rect_emb_val t (ix2 r l) a]
  match a with
  | ⟨0, _⟩ => show win0_4.index t 0 * 640 + r.val = t.val % 26 * 640 + r.val; rw [h0]
  | ⟨1, _⟩ => show win0_4.index t 1 * 128 + l.val = l.val; rw [h1]; omega

/-- Input block 5 at point `t` is that point's rows of a rotation table. -/
theorem in5 (c : Dev nD) (t : Fin grid0.N) (r : Fin 640) (l : Fin 128) :
    iblk0 V c 5 t (ix2 r l) = V c main_v14 (ix2 (row t r) l) := by
  obtain ⟨-, -, ⟨h0, h1⟩⟩ := idx1 t
  show V c main_v14 ((win0_5.rect t).emb (ix2 r l)) = _
  refine congrArg _ (funext fun a => Fin.ext ?_)
  rw [win0_5.rect_emb_val t (ix2 r l) a]
  match a with
  | ⟨0, _⟩ => show win0_5.index t 0 * 640 + r.val = t.val % 26 * 640 + r.val; rw [h0]
  | ⟨1, _⟩ => show win0_5.index t 1 * 128 + l.val = l.val; rw [h1]; omega

theorem out6_emb (t : Fin grid0.N) (h : Fin 4) (m : Fin 2) (r : Fin 640) (l : Fin 128) :
    (win0_6.rect t).emb (ix5 0 h m r l) = ix5 (batch t) h m (row t r) l := by
  obtain ⟨⟨h0, h1, h2, h3, h4⟩, -, -⟩ := idx2 t
  refine funext fun a => Fin.ext ?_
  rw [win0_6.rect_emb_val t (ix5 0 h m r l) a]
  match a with
  | ⟨0, _⟩ => show win0_6.index t 0 * 1 + 0 = t.val / 26; rw [h0]; omega
  | ⟨1, _⟩ => show win0_6.index t 1 * 4 + h.val = h.val; rw [h1]; omega
  | ⟨2, _⟩ => show win0_6.index t 2 * 2 + m.val = m.val; rw [h2]; omega
  | ⟨3, _⟩ => show win0_6.index t 3 * 640 + r.val = t.val % 26 * 640 + r.val; rw [h3]
  | ⟨4, _⟩ => show win0_6.index t 4 * 128 + l.val = l.val; rw [h4]; omega

theorem out7_emb (t : Fin grid0.N) (r : Fin 640) (j : Fin 512) :
    (win0_7.rect t).emb (ix3 0 r j) = ix3 (batch t) (row t r) j := by
  obtain ⟨-, ⟨h0, h1, h2⟩, -⟩ := idx2 t
  refine funext fun a => Fin.ext ?_
  rw [win0_7.rect_emb_val t (ix3 0 r j) a]
  match a with
  | ⟨0, _⟩ => show win0_7.index t 0 * 1 + 0 = t.val / 26; rw [h0]; omega
  | ⟨1, _⟩ => show win0_7.index t 1 * 640 + r.val = t.val % 26 * 640 + r.val; rw [h1]
  | ⟨2, _⟩ => show win0_7.index t 2 * 512 + j.val = j.val; rw [h2]; omega

theorem out8_emb (t : Fin grid0.N) (h : Fin 4) (e : Fin 136) (r : Fin 640) :
    (win0_8.rect t).emb (ix4 0 h e r) = ix4 (batch t) h e (row t r) := by
  obtain ⟨-, -, ⟨h0, h1, h2, h3⟩⟩ := idx2 t
  refine funext fun a => Fin.ext ?_
  rw [win0_8.rect_emb_val t (ix4 0 h e r) a]
  match a with
  | ⟨0, _⟩ => show win0_8.index t 0 * 1 + 0 = t.val / 26; rw [h0]; omega
  | ⟨1, _⟩ => show win0_8.index t 1 * 4 + h.val = h.val; rw [h1]; omega
  | ⟨2, _⟩ => show win0_8.index t 2 * 136 + e.val = e.val; rw [h2]; omega
  | ⟨3, _⟩ => show win0_8.index t 3 * 640 + r.val = t.val % 26 * 640 + r.val; rw [h3]

/-- The point and the block row of a row of the arrays. -/
def pointOf (b : Fin 2) (n : Fin 16640) : Fin grid0.N :=
  ⟨b.val * 26 + n.val / 640, by rw [N_52]; have := b.isLt; have := n.isLt; omega⟩

def rowIn (n : Fin 16640) : Fin 640 := ⟨n.val % 640, Nat.mod_lt _ (by omega)⟩

theorem batch_pointOf (b : Fin 2) (n : Fin 16640) : batch (pointOf b n) = b :=
  Fin.ext (by have := n.isLt; show (b.val * 26 + n.val / 640) / 26 = b.val; omega)

theorem row_pointOf (b : Fin 2) (n : Fin 16640) : row (pointOf b n) (rowIn n) = n :=
  Fin.ext (by have := n.isLt; show (b.val * 26 + n.val / 640) % 26 * 640 + n.val % 640 = n.val; omega)

/-- The rotated lanes of head `h` of token `n`, from column block `o` of the projection. -/
def rotated (o : Fin 8) (c : Dev nD) (b : Fin 2) (n : Fin 16640) (h : Fin 4) (l : Fin 128) : EReal :=
  rope (fun l => V c main_arg0 (ix3 b n (colAt o (col h l)))) (fun l => V c main_v8 (ix2 n l))
    (fun l => V c main_v11 (ix2 n l)) (fun l => V c main_v14 (ix2 n l)) l

/-- The array of rotated keys after the call. -/
theorem keys_array (c : Dev nD) (b : Fin 2) (n : Fin 16640) (h : Fin 4) (l : Fin 128) :
    (dat0 V c).arrAt 7 cfg0.N (ix3 b n (col h l)) = rotated V 5 c b n h l := by
  refine (dat0 V c).arrAt_forall_of_flushed 7
    (fun i v => ∀ (b : Fin 2) (n : Fin 16640) (h : Fin 4) (l : Fin 128), i = ix3 b n (col h l) → v = rotated V 5 c b n h l)
    ?_ cfg0.N (pointOf b n) _ (pointOf b n).isLt (flush0_7 _) ?_ b n h l rfl
  · intro t _ y b n h l he
    obtain ⟨r, j, rfl⟩ : ∃ (r : Fin 640) (j : Fin 512), y = ix3 0 r j :=
      ⟨y 1, y 2, funext fun a => match a with
        | ⟨0, _⟩ => Subsingleton.elim (α := Fin 1) _ _
        | ⟨1, _⟩ => rfl
        | ⟨2, _⟩ => rfl⟩
    change (win0_7.rect t).emb (ix3 0 r j) = _ at he
    rw [out7_emb] at he
    obtain rfl : batch t = b := congrFun he 0
    obtain rfl : row t r = n := congrFun he 1
    obtain rfl : j = col h l := congrFun he 2
    show (dat0 V c).after 7 t (ix3 0 r (col h l)) = _
    rw [after0_7, keys_apply]
    simp only [in1, in3, in4, in5]
    rfl
  · show ix3 b n (col h l) ∈ ((View.whole main_v15_1).slice (win0_7.rect (pointOf b n))).set
    have e := out7_emb (pointOf b n) (rowIn n) (col h l)
    rw [batch_pointOf, row_pointOf] at e
    rw [← e]
    exact ((View.whole main_v15_1).slice (win0_7.rect (pointOf b n))).emb_mem_set (ix3 0 (rowIn n) (col h l))

/-- The array of queries after the call: each map keeps its own 64 lanes of the head, scaled. -/
theorem queries_array (c : Dev nD) (b : Fin 2) (n : Fin 16640) (h : Fin 4) (m : Fin 2) (l : Fin 128) :
    (dat0 V c).arrAt 6 cfg0.N (ix5 b h m n l)
      = if (l.val < 64 ↔ m.val = 0) then
          rotated V 4 c b n h l * (Named.named κ "qscale" 0x3E38AA3B#32 : Ideal .f32) else 0 := by
  refine (dat0 V c).arrAt_forall_of_flushed 6
    (fun i v => ∀ (b : Fin 2) (n : Fin 16640) (h : Fin 4) (m : Fin 2) (l : Fin 128), i = ix5 b h m n l →
      v = if (l.val < 64 ↔ m.val = 0) then
          rotated V 4 c b n h l * (Named.named κ "qscale" 0x3E38AA3B#32 : Ideal .f32) else 0)
    ?_ cfg0.N (pointOf b n) _ (pointOf b n).isLt (flush0_6 _) ?_ b n h m l rfl
  · intro t _ y b n h m l he
    obtain ⟨h', m', r, l', rfl⟩ : ∃ (h : Fin 4) (m : Fin 2) (r : Fin 640) (l : Fin 128), y = ix5 0 h m r l :=
      ⟨y 1, y 2, y 3, y 4, funext fun a => match a with
        | ⟨0, _⟩ => Subsingleton.elim (α := Fin 1) _ _
        | ⟨1, _⟩ => rfl
        | ⟨2, _⟩ => rfl
        | ⟨3, _⟩ => rfl
        | ⟨4, _⟩ => rfl⟩
    change (win0_6.rect t).emb (ix5 0 h' m' r l') = _ at he
    rw [out6_emb] at he
    obtain rfl : batch t = b := congrFun he 0
    obtain rfl : h' = h := congrFun he 1
    obtain rfl : m' = m := congrFun he 2
    obtain rfl : row t r = n := congrFun he 3
    obtain rfl : l' = l := congrFun he 4
    show (dat0 V c).after 6 t (ix5 0 h' m' r l') = _
    rw [after0_6, queries_apply]
    simp only [in0, in3, in4, in5]
    rfl
  · show ix5 b h m n l ∈ ((View.whole main_v15_0).slice (win0_6.rect (pointOf b n))).set
    have e := out6_emb (pointOf b n) h m (rowIn n) l
    rw [batch_pointOf, row_pointOf] at e
    rw [← e]
    exact ((View.whole main_v15_0).slice (win0_6.rect (pointOf b n))).emb_mem_set (ix5 0 h m (rowIn n) l)

/-- The array of transposed values after the call: the head's 128 columns, then eight rows of ones. -/
theorem values_array (c : Dev nD) (b : Fin 2) (n : Fin 16640) (h : Fin 4) (e : Fin 136) :
    (dat0 V c).arrAt 8 cfg0.N (ix4 b h e n)
      = if he : e.val < 128 then V c main_arg0 (ix3 b n (colAt 6 (col h ⟨e.val, he⟩))) else (1 : EReal) := by
  refine (dat0 V c).arrAt_forall_of_flushed 8
    (fun i v => ∀ (b : Fin 2) (n : Fin 16640) (h : Fin 4) (e : Fin 136), i = ix4 b h e n →
      v = if he : e.val < 128 then V c main_arg0 (ix3 b n (colAt 6 (col h ⟨e.val, he⟩))) else (1 : EReal))
    ?_ cfg0.N (pointOf b n) _ (pointOf b n).isLt (flush0_8 _) ?_ b n h e rfl
  · intro t _ y b n h e he
    obtain ⟨h', e', r, rfl⟩ : ∃ (h : Fin 4) (e : Fin 136) (r : Fin 640), y = ix4 0 h e r :=
      ⟨y 1, y 2, y 3, funext fun a => match a with
        | ⟨0, _⟩ => Subsingleton.elim (α := Fin 1) _ _
        | ⟨1, _⟩ => rfl
        | ⟨2, _⟩ => rfl
        | ⟨3, _⟩ => rfl⟩
    change (win0_8.rect t).emb (ix4 0 h' e' r) = _ at he
    rw [out8_emb] at he
    obtain rfl : batch t = b := congrFun he 0
    obtain rfl : h' = h := congrFun he 1
    obtain rfl : e' = e := congrFun he 2
    obtain rfl : row t r = n := congrFun he 3
    show (dat0 V c).after 8 t (ix4 0 h' e' r) = _
    rw [after0_8, values_apply]
    simp only [in2]
  · show ix4 b h e n ∈ ((View.whole main_v15_2).slice (win0_8.rect (pointOf b n))).set
    have q := out8_emb (pointOf b n) h e (rowIn n)
    rw [batch_pointOf, row_pointOf] at q
    rw [← q]
    exact ((View.whole main_v15_2).slice (win0_8.rect (pointOf b n))).emb_mem_set (ix4 0 h e (rowIn n))

end Cert.Proof.PrepArrays

end

end
-- ==== Proof.Tables.lean ====
module

public import proofs.«01_k».proof.Proof.Gen.KernelIdeal.Frame
public import Idealize.ShloMosaic.Lib.StableHlo.Run
public import Idealize.ShloMosaic.Lib.Pointwise

/-! # The rotation tables the host prepares

Three tables of 16640 by 128: the first 256 rows (the conditioning tokens) are 1, 0, 0, the others repeat the four
16-lane groups of the row and column angles for both maps. -/

@[expose] public section

set_option maxRecDepth 16384

noncomputable section

namespace Cert.Proof.Tables

open Idealize.ShloMosaic Idealize.ShloMosaic.TcCoe Idealize.ShloMosaic.StableHlo
open Cert.KernelIdeal Cert.KernelIdeal.Gen

variable (m : (ℓ : Loc nD τ sig) → Buf (Elt Ideal) ℓ) (ρ : Dev nD → PrngReg)

abbrev arg1 (c : Dev nD) : Vec Ideal S16384x16 .f32 := m ((c : Thread nD τ).loc main_arg1)
abbrev arg2 (c : Dev nD) : Vec Ideal S16384x16 .f32 := m ((c : Thread nD τ).loc main_arg2)
abbrev arg3 (c : Dev nD) : Vec Ideal S16384x16 .f32 := m ((c : Thread nD τ).loc main_arg3)
abbrev arg4 (c : Dev nD) : Vec Ideal S16384x16 .f32 := m ((c : Thread nD τ).loc main_arg4)

abbrev cosTab (c : Dev nD) : Vec Ideal S16640x128 .f32 := W1 m ρ c (Proc.devRef .tc main_v8)
abbrev sinTabA (c : Dev nD) : Vec Ideal S16640x128 .f32 := W1 m ρ c (Proc.devRef .tc main_v11)
abbrev sinTabB (c : Dev nD) : Vec Ideal S16640x128 .f32 := W1 m ρ c (Proc.devRef .tc main_v14)

/-- Lane `l` read off four 16-lane groups, repeated for the two maps. -/
def quarter (a0 a1 a2 a3 : Fin 16 → EReal) (l : Fin 128) : EReal :=
  if l.val % 64 < 16 then a0 ⟨l.val % 16, Nat.mod_lt _ (by omega)⟩
  else if l.val % 64 < 32 then a1 ⟨l.val % 16, Nat.mod_lt _ (by omega)⟩
  else if l.val % 64 < 48 then a2 ⟨l.val % 16, Nat.mod_lt _ (by omega)⟩
  else a3 ⟨l.val % 16, Nat.mod_lt _ (by omega)⟩

theorem cosTab_ctx (c : Dev nD) (n : Fin 256) (l : Fin 128) :
    cosTab m ρ c (ix2 (⟨n.val, by omega⟩ : Fin 16640) l) = 1 := by
  unfold cosTab W1 hostOps0
  after_results
  pointwise

theorem sinTabA_ctx (c : Dev nD) (n : Fin 256) (l : Fin 128) :
    sinTabA m ρ c (ix2 (⟨n.val, by omega⟩ : Fin 16640) l) = 0 := by
  unfold sinTabA W1 hostOps0
  after_results
  pointwise

theorem sinTabB_ctx (c : Dev nD) (n : Fin 256) (l : Fin 128) :
    sinTabB m ρ c (ix2 (⟨n.val, by omega⟩ : Fin 16640) l) = 0 := by
  unfold sinTabB W1 hostOps0
  after_results
  pointwise

/-- Four arrays of sixteen lanes side by side. -/
def tab4 (a b c d : Vec Ideal S16384x16 .f32) : Vec Ideal S16384x64 .f32 :=
  concatenate S16384x64 1 [⟨S16384x16, a⟩, ⟨S16384x16, b⟩, ⟨S16384x16, c⟩, ⟨S16384x16, d⟩]
    concatenates_S16384x16_S16384x16_S16384x16_S16384x16_S16384x64_d1

/-- A constant on the context rows, then four groups of lanes twice over. -/
def fullTab (w : BitVec 32) (a b c d : Vec Ideal S16384x16 .f32) : Vec Ideal S16640x128 .f32 :=
  concatenate S16640x128 0
    [⟨S256x128, broadcastInDim S256x128 ![] bcast_S_S256x128 (constant (F := Ideal) S_ .f32 w)⟩,
      ⟨S16384x128, concatenate S16384x128 1 [⟨S16384x64, tab4 a b c d⟩, ⟨S16384x64, tab4 a b c d⟩]
        concatenates_S16384x64_S16384x64_S16384x128_d1⟩]
    concatenates_S256x128_S16384x128_S16640x128_d0

/-- The array of zeros between the sines. -/
def zeros : Vec Ideal S16384x16 .f32 :=
  broadcastInDim S16384x16 ![] bcast_S_S16384x16 (constant (F := Ideal) S_ .f32 0x00000000#32)

theorem fullTab_lat (w : BitVec 32) (a b c d : Vec Ideal S16384x16 .f32) (n : Fin 16384) (l : Fin 128) :
    fullTab w a b c d (ix2 (⟨256 + n.val, by omega⟩ : Fin 16640) l)
      = quarter (fun i => a (ix2 n i)) (fun i => b (ix2 n i)) (fun i => c (ix2 n i)) (fun i => d (ix2 n i)) l := by
  have hl := l.isLt
  unfold quarter
  pointwise [fullTab, tab4]
  split_ifs <;> first
    | exact Eq.trans (congrArg a (congrArg (ix2 n) (Fin.ext (by dsimp only; omega)))) (if_pos (by omega)).symm
    | exact Eq.trans (congrArg b (congrArg (ix2 n) (Fin.ext (by dsimp only; omega))))
        ((if_neg (by omega)).trans (if_pos (by omega))).symm
    | exact Eq.trans (congrArg c (congrArg (ix2 n) (Fin.ext (by dsimp only; omega))))
        ((if_neg (by omega)).trans ((if_neg (by omega)).trans (if_pos (by omega)))).symm
    | exact Eq.trans (congrArg d (congrArg (ix2 n) (Fin.ext (by dsimp only; omega))))
        ((if_neg (by omega)).trans ((if_neg (by omega)).trans (if_neg (by omega)))).symm

theorem cosTab_eq (c : Dev nD) : cosTab m ρ c
    = fullTab 0x3F800000#32 (arg1 m c) (arg1 m c) (arg3 m c) (arg3 m c) := by
  unfold cosTab W1 hostOps0 fullTab tab4
  after_results
  rfl

theorem sinTabA_eq (c : Dev nD) : sinTabA m ρ c
    = fullTab 0x00000000#32 (Host.negf (F := Ideal) (φ := .f32) (arg2 m c)) zeros (Host.negf (F := Ideal) (φ := .f32) (arg4 m c)) zeros := by
  unfold sinTabA W1 hostOps0 fullTab tab4 zeros
  after_results
  rfl

theorem sinTabB_eq (c : Dev nD) : sinTabB m ρ c
    = fullTab 0x00000000#32 zeros (arg2 m c) zeros (arg4 m c) := by
  unfold sinTabB W1 hostOps0 fullTab tab4 zeros
  after_results
  rfl

theorem cosTab_lat (c : Dev nD) (n : Fin 16384) (l : Fin 128) :
    cosTab m ρ c (ix2 (⟨256 + n.val, by omega⟩ : Fin 16640) l)
      = quarter (fun i => arg1 m c (ix2 n i)) (fun i => arg1 m c (ix2 n i)) (fun i => arg3 m c (ix2 n i))
        (fun i => arg3 m c (ix2 n i)) l := by
  rw [cosTab_eq, fullTab_lat]

theorem sinTabA_lat (c : Dev nD) (n : Fin 16384) (l : Fin 128) :
    sinTabA m ρ c (ix2 (⟨256 + n.val, by omega⟩ : Fin 16640) l)
      = quarter (fun i => -arg2 m c (ix2 n i)) (fun _ => 0) (fun i => -arg4 m c (ix2 n i)) (fun _ => 0) l := by
  rw [sinTabA_eq, fullTab_lat]
  have z : ∀ i, zeros (ix2 n i) = 0 := fun i => by pointwise [zeros]
  simp only [z]
  rfl

theorem sinTabB_lat (c : Dev nD) (n : Fin 16384) (l : Fin 128) :
    sinTabB m ρ c (ix2 (⟨256 + n.val, by omega⟩ : Fin 16640) l)
      = quarter (fun _ => 0) (fun i => arg2 m c (ix2 n i)) (fun _ => 0) (fun i => arg4 m c (ix2 n i)) l := by
  rw [sinTabB_eq, fullTab_lat]
  have z : ∀ i, zeros (ix2 n i) = 0 := fun i => by pointwise [zeros]
  simp only [z]

end Cert.Proof.Tables

end
-- ==== Proof.Data.lean ====
module

public import proofs.«01_k».proof.Proof.AttnArray
public import proofs.«01_k».proof.Proof.PrepArrays
public import proofs.«01_k».proof.Proof.Tables

/-!
# The real data behind the arguments, and the result both programs compute

`Data` holds the real numbers that finite arguments are: queries, keys and values of every head, and the
rotation tables.  `spec` is the result at one index as a formula over them: the differential attention of
one token, its row norm and the two scalings.
-/

@[expose] public section

set_option maxRecDepth 16384

noncomputable section

namespace Cert.Proof.Data

open Idealize.ShloMosaic Idealize.ShloMosaic.TcCoe
open Cert.Proof.AttnRow Cert.Proof.AttnArray Cert.Proof.AttnValue Cert.Proof.PrepBody Cert.Proof.PrepArrays

/-- Queries, keys and values by batch entry, token, head and lane; the tables by latent token and lane. -/
structure Data where
  q : Fin 2 → ℕ → Fin 4 → Fin 128 → ℝ
  k : Fin 2 → ℕ → Fin 4 → Fin 128 → ℝ
  v : Fin 2 → ℕ → Fin 4 → Fin 128 → ℝ
  cr : ℕ → ℕ → ℝ
  sr : ℕ → ℕ → ℝ
  cc : ℕ → ℕ → ℝ
  sc : ℕ → ℕ → ℝ

variable (D : Data)

/-- The axial rotation of 128 lanes (two maps of 64) at latent token `p`: in each map lanes 0–31 turn by the row
    angle, lanes 32–63 by the column angle, each lane with its partner 16 lanes away. -/
def rotate (x : Fin 128 → ℝ) (p : ℕ) (l : Fin 128) : ℝ :=
  if l.val % 64 < 16 then x l * D.cr p (l.val % 16) - x ⟨(l.val + 16) % 128, Nat.mod_lt _ (by omega)⟩ * D.sr p (l.val % 16)
  else if l.val % 64 < 32 then x l * D.cr p (l.val % 16) + x ⟨l.val - 16, by omega⟩ * D.sr p (l.val % 16)
  else if l.val % 64 < 48 then x l * D.cc p (l.val % 16) - x ⟨(l.val + 16) % 128, Nat.mod_lt _ (by omega)⟩ * D.sc p (l.val % 16)
  else x l * D.cc p (l.val % 16) + x ⟨l.val - 16, by omega⟩ * D.sc p (l.val % 16)

/-- A context token is left as it is, a latent token is rotated. -/
def placed (x : Fin 128 → ℝ) (n : ℕ) (l : Fin 128) : ℝ := if n < 256 then x l else rotate D x (n - 256) l

/-- Lane `d` of map `m`. -/
def lane (m : Fin 2) (d : Fin 64) : Fin 128 := ⟨64 * m.val + d.val, by have := m.isLt; have := d.isLt; omega⟩

/-- The scaled score of map `m` of head `h` between tokens `n` and `κ`. -/
def dots (b : Fin 2) (h : Fin 4) (n : ℕ) (m : Fin 2) (κ : ℕ) : ℝ :=
  (∑ d : Fin 64, placed D (D.q b n h) n (lane m d) * placed D (D.k b κ h) κ (lane m d)) * 8⁻¹

/-- The head's values, then ones. -/
def vals (b : Fin 2) (h : Fin 4) (κ : ℕ) (e : Fin 136) : ℝ := if he : e.val < 128 then D.v b κ h ⟨e.val, he⟩ else 1

/-- The result at one index. -/
def spec (lam : ℝ) (w : EReal) (b : Fin 2) (n : ℕ) (h : Fin 4) (l : Fin 128) : EReal :=
  rowNorm (rowOf (keyCount n) (dots D b h n) (vals D b h) lam) w l

/-- The arguments hold the data. -/
structure Holds (a0 : Vec Ideal Cert.KernelIdeal.S2x16640x4096 .bf16) (a1 a2 a3 a4 : Vec Ideal Cert.KernelIdeal.S16384x16 .f32) : Prop where
  q : ∀ b (n : Fin 16640) h l, a0 (ix3 b n (colAt 4 (col h l))) = ((D.q b n h l : ℝ) : EReal)
  k : ∀ b (n : Fin 16640) h l, a0 (ix3 b n (colAt 5 (col h l))) = ((D.k b n h l : ℝ) : EReal)
  v : ∀ b (n : Fin 16640) h l, a0 (ix3 b n (colAt 6 (col h l))) = ((D.v b n h l : ℝ) : EReal)
  cr : ∀ (n : Fin 16384) (i : Fin 16), a1 (ix2 n i) = ((D.cr n i : ℝ) : EReal)
  sr : ∀ (n : Fin 16384) (i : Fin 16), a2 (ix2 n i) = ((D.sr n i : ℝ) : EReal)
  cc : ∀ (n : Fin 16384) (i : Fin 16), a3 (ix2 n i) = ((D.cc n i : ℝ) : EReal)
  sc : ∀ (n : Fin 16384) (i : Fin 16), a4 (ix2 n i) = ((D.sc n i : ℝ) : EReal)

/-- The queries that the attention call reads: each map's own lanes, scaled to the base 2. -/
def maskedQ (b : Fin 2) (h : Fin 4) (n : Fin 16640) (m : Fin 2) (l : Fin 128) : ℝ :=
  if (l.val < 64 ↔ m.val = 0) then placed D (D.q b n h) n l * (8⁻¹ * (Real.log 2)⁻¹) else 0

/-- The masked 128-lane product is the map's own 64-lane product, in the base 2. -/
theorem score_masked (b : Fin 2) (h : Fin 4) (n : Fin 16640) (m : Fin 2) (κ : ℕ) :
    score (maskedQ D b h n m) (fun κ => placed D (D.k b κ h) κ) κ = dots D b h n m κ * (Real.log 2)⁻¹ := by
  have split : ∀ f : Fin 128 → ℝ, ∑ x, f x = (∑ d : Fin 64, f (lane 0 d)) + ∑ d : Fin 64, f (lane 1 d) := by
    intro f
    refine (Fin.sum_univ_add (a := 64) (b := 64) f).trans ?_
    refine congrArg₂ _ (Finset.sum_congr rfl fun d _ => congrArg f (Fin.ext ?_))
      (Finset.sum_congr rfl fun d _ => congrArg f (Fin.ext ?_))
    · show d.val = 64 * 0 + d.val; omega
    · show 64 + d.val = 64 * 1 + d.val; omega
  unfold score dots
  rw [split, Finset.sum_mul, Finset.sum_mul]
  match m with
  | 0 =>
    rw [Finset.sum_eq_zero (f := fun d : Fin 64 => _ * maskedQ D b h n 0 (lane 1 d)), add_zero]
    · refine Finset.sum_congr rfl fun d _ => ?_
      rw [maskedQ, if_pos (by simp [lane])]
      ring
    · intro d _
      rw [maskedQ, if_neg (by simp [lane]), mul_zero]
  | 1 =>
    rw [Finset.sum_eq_zero (f := fun d : Fin 64 => _ * maskedQ D b h n 1 (lane 0 d)), zero_add]
    · refine Finset.sum_congr rfl fun d _ => ?_
      rw [maskedQ, if_pos (by simp [lane])]
      ring
    · intro d _
      rw [maskedQ, if_neg (by simp [lane]), mul_zero]

section
open Cert.KernelIdeal Cert.KernelIdeal.Gen Cert.Proof.Tables
variable (m : (ℓ : Loc nD τ sig) → Buf (Elt Ideal) ℓ) (ρ : Dev nD → PrngReg) (c : Dev nD)
  (H : Holds D (m ((c : Thread nD τ).loc main_arg0)) (arg1 m c) (arg2 m c) (arg3 m c) (arg4 m c))
include H

/-- The kernel's rotation of 128 lanes is the axial one. -/
theorem rope_placed (x : Fin 128 → ℝ) (n : Fin 16640) (l : Fin 128) :
    rope (fun l => ((x l : ℝ) : EReal)) (fun l => cosTab m ρ c (ix2 n l)) (fun l => sinTabA m ρ c (ix2 n l))
      (fun l => sinTabB m ρ c (ix2 n l)) l = ((placed D x n l : ℝ) : EReal) := by
  unfold rope placed
  by_cases hn : n.val < 256
  · rw [if_pos hn]
    have hc : cosTab m ρ c (ix2 n l) = 1 := cosTab_ctx m ρ c ⟨n.val, hn⟩ l
    have ha : sinTabA m ρ c (ix2 n l) = 0 := sinTabA_ctx m ρ c ⟨n.val, hn⟩ l
    have hb : sinTabB m ρ c (ix2 n l) = 0 := sinTabB_ctx m ρ c ⟨n.val, hn⟩ l
    simp only [hc, ha, hb, mul_one, mul_zero, add_zero]
  · rw [if_neg hn]
    obtain ⟨n, hlt⟩ := n
    obtain ⟨p, hp⟩ : ∃ p : Fin 16384, 256 + p.val = n := by
      dsimp only at hn
      exact ⟨⟨n - 256, by omega⟩, by dsimp only; omega⟩
    subst hp
    have hc := cosTab_lat m ρ c p l
    have ha := sinTabA_lat m ρ c p l
    have hb := sinTabB_lat m ρ c p l
    simp only [hc, ha, hb]
    have e16 : (l.val + 128 - 112) % 128 = (l.val + 16) % 128 := by omega
    simp only [quarter, rotate, e16, H.cr, H.sr, H.cc, H.sc, show 256 + p.val - 256 = p.val by omega]
    have low : 16 ≤ l.val % 64 → (l.val + 128 - 16) % 128 = l.val - 16 := by omega
    split_ifs with h1 h2 h3
    · simp only [mul_zero, add_zero]
      rw [← EReal.coe_neg]
      norm_cast
      ring
    · simp only [mul_zero, add_zero, low (by omega)]
      norm_cast
    · simp only [mul_zero, add_zero]
      rw [← EReal.coe_neg]
      norm_cast
      ring
    · simp only [mul_zero, add_zero, low (by omega)]
      norm_cast

/-- THE KERNEL'S RESULT at one index. -/
theorem kernel_value (lam : ℝ)
    (hlam : lambda (fun i j => m ((c : Thread nD τ).loc main_arg5) (ix2 i j)) = (lam : EReal))
    (b : Fin 2) (n : Fin 16640) (h : Fin 4) (l : Fin 128) :
    W4 m ρ c (Proc.devRef .tc main_v17) (ix3 b n (col h l))
      = spec D lam (m ((c : Thread nD τ).loc main_arg6) (ix1 l)) b n h l := by
  have e0 : V1 m ρ c main_arg0 = m ((c : Thread nD τ).loc main_arg0) := W1_args m ρ c main_arg0 (by decide)
  have rot : ∀ (o : Fin 8) (x : Fin 2 → ℕ → Fin 4 → Fin 128 → ℝ)
      (_ : ∀ b (n : Fin 16640) h l, V1 m ρ c main_arg0 (ix3 b n (colAt o (col h l))) = ((x b n h l : ℝ) : EReal))
      (b : Fin 2) (n : Fin 16640) (h : Fin 4) (l : Fin 128),
      rotated (V1 m ρ) o c b n h l = ((placed D (x b n h) n l : ℝ) : EReal) := by
    intro o x hx b n h l
    unfold rotated
    simp only [hx]
    exact rope_placed D m ρ c H (x b n h) n l
  have hκ : (Named.named κ "qscale" 0x3E38AA3B#32 : Ideal .f32) = ((8⁻¹ * (Real.log 2)⁻¹ : ℝ) : EReal) :=
    IdealRules.named_const.ideal_named_scalar _ _ _ _ rfl
  have hQ : ∀ b h m' n d, V3 m ρ c main_v15_0 (ix5 b h m' n d) = ((maskedQ D b h n m' d : ℝ) : EReal) := by
    intro b h m' n d
    have e : V3 m ρ c main_v15_0 = (dat0 (V1 m ρ) c).arrAt 6 cfg0.N :=
      (W3_of m ρ c main_v15_0 (by decide)).trans (W2_arr m ρ c 6)
    rw [e, queries_array, rot 4 D.q (fun b n h l => by rw [e0]; exact H.q b n h l), hκ]
    unfold maskedQ
    split_ifs
    · norm_cast
    · norm_cast
  have hK : ∀ b h (k : Fin 16640) d, V3 m ρ c main_v15_1 (ix3 b k (col h d)) = ((placed D (D.k b k h) k d : ℝ) : EReal) := by
    intro b h k d
    have e : V3 m ρ c main_v15_1 = (dat0 (V1 m ρ) c).arrAt 7 cfg0.N :=
      (W3_of m ρ c main_v15_1 (by decide)).trans (W2_arr m ρ c 7)
    rw [e, keys_array, rot 5 D.k (fun b n h l => by rw [e0]; exact H.k b n h l)]
  have hW : ∀ b h (k : Fin 16640) e, V3 m ρ c main_v15_2 (ix4 b h e k) = ((vals D b h k e : ℝ) : EReal) := by
    intro b h k e
    have q : V3 m ρ c main_v15_2 = (dat0 (V1 m ρ) c).arrAt 8 cfg0.N :=
      (W3_of m ρ c main_v15_2 (by decide)).trans (W2_arr m ρ c 8)
    rw [q, values_array, e0]
    unfold vals
    split_ifs
    · exact H.v b k h _
    · norm_cast
  have e5 : V3 m ρ c main_arg5 = m ((c : Thread nD τ).loc main_arg5) := W3_args m ρ c main_arg5 (by decide)
  have e16 : V3 m ρ c main_v16 (ix2 0 l) = m ((c : Thread nD τ).loc main_arg6) (ix1 l) := by
    have e6 : W2 m ρ c (Proc.devRef .tc main_arg6) = m ((c : Thread nD τ).loc main_arg6) := W2_args m ρ c main_arg6 (by decide)
    show W3 m ρ c (Proc.devRef .tc main_v16) (ix2 0 l) = _
    unfold W3 hostOps1
    after_results
    rw [e6]
    pointwise
    trace_state
  rw [show W4 m ρ c (Proc.devRef .tc main_v17) = (dat1 (V3 m ρ) c).arrAt 5 cfg1.N from W4_arr m ρ c 5,
    attention_array (V3 m ρ) c (fun b h n m' d => maskedQ D b h n m' d) (fun b h k d => placed D (D.k b k h) k d)
      (fun b h k e => vals D b h k e) (fun b h n m' k => dots D b h n m' k) lam hQ hK hW
      (fun b h n m' k => score_masked D b h n m' k) (fun b h k => by unfold vals; exact dif_neg (by decide)) (by rw [e5]; exact hlam), e16]
  rfl

end

end Cert.Proof.Data

end

end
-- ==== Proof.Pre.lean ====
module

public import proofs.«01_k».proof.Proof.Data
public import proofs.«01_k».proof.Proof.Gen.Pre_finite_inputs
public import Idealize.ShloMosaic.Lib.ReduceAll
public import Idealize.ShloMosaic.Lib.Affine

/-! # What the precondition says: the inputs that the result reads are real numbers -/

@[expose] public section

set_option maxRecDepth 16384

noncomputable section

open Idealize.ShloMosaic Idealize.ShloMosaic.TcCoe
open Cert.Pre_finite_inputs
open Cert.Proof.PrepBody Cert.Proof.Data Cert.Proof.PrepArrays Cert.Proof.AttnRow

namespace Cert.Proof.Pre

attribute [local instance] Cert.Pre_finite_inputs.Gen.facts

/-- An extended real whose absolute value lies below plus infinity is real. -/
theorem real_of_lt (x : EReal) (h : Ideal.cmp .olt (max x (-x)) (Ideal.ofBits .f32 0x7F800000#32) = 1#1) :
    x = ((x.toReal : ℝ) : EReal) := by
  have ht : Ideal.ofBits .f32 0x7F800000#32 = ⊤ := by simp [Ideal.ofBits, Ideal.ieee]
  have hb : ∀ p : Bool, BitVec.ofBool p = 1#1 → p = true := by decide
  have hlt : max x (-x) < ⊤ := by
    have := hb _ h
    rw [ht] at this
    exact of_decide_eq_true this
  refine (EReal.coe_toReal ?_ ?_).symm
  · rintro rfl
    simp at hlt
  · rintro rfl
    simp at hlt

variable (a0 : FVec Ideal S2x16640x4096 .bf16) (a1 a2 a3 a4 : FVec Ideal S16384x16 .f32) (a5 : FVec Ideal S4x64 .f32)
  (a6 : FVec Ideal S128 .f32)

/-- The predicate, read: every element of the arrays it names is real. -/
theorem finite (h : fn (F := Ideal) a0 a1 a2 a3 a4 a5 a6 = fun _ => 1#1) :
    (∀ (b : Fin 2) (n : Fin 16640) (j : Fin 1536), a0 (ix3 b n ⟨2048 + j.val, by omega⟩) = ((a0 (ix3 b n ⟨2048 + j.val, by omega⟩)).toReal : EReal))
      ∧ (∀ i, a1 i = ((a1 i).toReal : EReal)) ∧ (∀ i, a2 i = ((a2 i).toReal : EReal)) ∧ (∀ i, a3 i = ((a3 i).toReal : EReal))
      ∧ (∀ i, a4 i = ((a4 i).toReal : EReal)) ∧ ∀ i, a5 i = ((a5 i).toReal : EReal) := by
  have e := congrFun h ix0
  simp only [fn, fn_part1] at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  haveI : Subsingleton S_.Idx := ⟨fun i j => funext fun a => a.elim0⟩
  have r0 := Host.reduce_andi_all _ _ _ _ _ e0
  have r1 := Host.reduce_andi_all _ _ _ _ _ e1
  have r2 := Host.reduce_andi_all _ _ _ _ _ e2
  have r3 := Host.reduce_andi_all _ _ _ _ _ e3
  have r4 := Host.reduce_andi_all _ _ _ _ _ e4
  have r5 := Host.reduce_andi_all _ _ _ _ _ e5
  refine ⟨fun b n j => ?_, fun i => real_of_lt _ (r1 i), fun i => real_of_lt _ (r2 i), fun i => real_of_lt _ (r3 i),
    fun i => real_of_lt _ (r4 i), fun i => real_of_lt _ (r5 i)⟩
  have e : extractStridedSlice S2x16640x1536 ![0, 0, 2048] a0 Facts.slices_S2x16640x4096_S2x16640x1536_0_0_2048 (ix3 b n j)
      = a0 (ix3 b n ⟨2048 + j.val, by omega⟩) := by
    pointwise
  have r : Ideal.cmp .olt
      (max (extractStridedSlice S2x16640x1536 ![0, 0, 2048] a0 Facts.slices_S2x16640x4096_S2x16640x1536_0_0_2048 (ix3 b n j))
        (-(extractStridedSlice S2x16640x1536 ![0, 0, 2048] a0 Facts.slices_S2x16640x4096_S2x16640x1536_0_0_2048 (ix3 b n j))))
      (Ideal.ofBits .f32 0x7F800000#32) = 1#1 := r0 (ix3 b n j)
  rw [e] at r
  exact real_of_lt _ r

/-- The real data behind inputs that satisfy the predicate. -/
theorem exists_data (h : fn (F := Ideal) a0 a1 a2 a3 a4 a5 a6 = fun _ => 1#1) :
    (∃ D : Data, Holds D a0 a1 a2 a3 a4) ∧ ∃ lam : ℝ, lambda (fun i j => a5 (ix2 i j)) = (lam : EReal) := by
  obtain ⟨f0, f1, f2, f3, f4, f5⟩ := finite a0 a1 a2 a3 a4 a5 a6 h
  have g0 : ∀ (o : Fin 8), 4 ≤ o.val → o.val < 7 → ∀ (b : Fin 2) (n : Fin 16640) (k : Fin 4) (l : Fin 128),
      a0 (ix3 b n (colAt o (col k l))) = ((a0 (ix3 b n (colAt o (col k l)))).toReal : EReal) := by
    intro o h4 h7 b n k l
    have hk := k.isLt
    have hl := l.isLt
    have e : colAt o (col k l) = ⟨2048 + (512 * (o.val - 4) + 128 * k.val + l.val), by omega⟩ :=
      Fin.ext (by show o.val * 512 + (128 * k.val + l.val) = 2048 + (512 * (o.val - 4) + 128 * k.val + l.val); omega)
    rw [e]
    exact f0 b n ⟨512 * (o.val - 4) + 128 * k.val + l.val, by omega⟩
  refine ⟨⟨{
      q := fun b n k l => if hn : n < 16640 then (a0 (ix3 b ⟨n, hn⟩ (colAt 4 (col k l)))).toReal else 0
      k := fun b n k l => if hn : n < 16640 then (a0 (ix3 b ⟨n, hn⟩ (colAt 5 (col k l)))).toReal else 0
      v := fun b n k l => if hn : n < 16640 then (a0 (ix3 b ⟨n, hn⟩ (colAt 6 (col k l)))).toReal else 0
      cr := fun n i => if hn : n < 16384 ∧ i < 16 then (a1 (ix2 ⟨n, hn.1⟩ ⟨i, hn.2⟩)).toReal else 0
      sr := fun n i => if hn : n < 16384 ∧ i < 16 then (a2 (ix2 ⟨n, hn.1⟩ ⟨i, hn.2⟩)).toReal else 0
      cc := fun n i => if hn : n < 16384 ∧ i < 16 then (a3 (ix2 ⟨n, hn.1⟩ ⟨i, hn.2⟩)).toReal else 0
      sc := fun n i => if hn : n < 16384 ∧ i < 16 then (a4 (ix2 ⟨n, hn.1⟩ ⟨i, hn.2⟩)).toReal else 0 },
    { q := fun b n k l => ?_, k := fun b n k l => ?_, v := fun b n k l => ?_
      cr := fun n i => ?_, sr := fun n i => ?_, cc := fun n i => ?_, sc := fun n i => ?_ }⟩,
    lambda_real _ (fun i j => (a5 (ix2 i j)).toReal) fun i j => f5 _⟩
  · dsimp only; rw [dif_pos n.isLt]; exact g0 4 (by decide) (by decide) b n k l
  · dsimp only; rw [dif_pos n.isLt]; exact g0 5 (by decide) (by decide) b n k l
  · dsimp only; rw [dif_pos n.isLt]; exact g0 6 (by decide) (by decide) b n k l
  · dsimp only; rw [dif_pos (And.intro n.isLt i.isLt)]; exact f1 _
  · dsimp only; rw [dif_pos (And.intro n.isLt i.isLt)]; exact f2 _
  · dsimp only; rw [dif_pos (And.intro n.isLt i.isLt)]; exact f3 _
  · dsimp only; rw [dif_pos (And.intro n.isLt i.isLt)]; exact f4 _

end Cert.Proof.Pre

end
-- ==== Proof.RefRope.lean ====
module

public import proofs.«01_k».proof.Proof.Data
public import proofs.«01_k».proof.Proof.Gen.ReferenceIdeal.Read

/-! The queries and the keys of the reference, read at an index: a row of the context is the
projection's row, a row of a latent is the row turned by its angles. -/

@[expose] public section

set_option maxRecDepth 16384

noncomputable section

open Idealize.ShloMosaic Idealize.ShloMosaic.TcCoe
open Cert.ReferenceIdeal Cert.ReferenceIdeal.Read
open Cert.Proof.PrepBody Cert.Proof.Data Cert.Proof.PrepArrays Cert.Proof.AttnArray

namespace Cert.Proof.RefRope

/-- The type of the projection. -/
abbrev Proj : Type := (⟨S2x16640x4096, .bf16⟩ : BufTy).Contents (Elt Ideal)
/-- The type of a table of angles. -/
abbrev Table : Type := (⟨S16384x16, .f32⟩ : BufTy).Contents (Elt Ideal)

theorem query_heads (x0 : Proj) (b : Fin 2) (n : Fin 16640) (h : Fin 4) (m : Fin 2) (d : Fin 64) :
    val_main_v18 (F := Ideal) x0 (ix5 b n h m d) = x0 (ix3 b n (colAt 4 (col h (lane m d)))) := by
  pointwise [val_main_v18, val_main_v17, val_main_v16]
  exact congrArg x0 (congrArg (ix3 b n) (Fin.ext (by simp [colAt, col, lane]; omega)))

theorem key_heads (x0 : Proj) (b : Fin 2) (n : Fin 16640) (h : Fin 4) (m : Fin 2) (d : Fin 64) :
    val_main_v21 (F := Ideal) x0 (ix5 b n h m d) = x0 (ix3 b n (colAt 5 (col h (lane m d)))) := by
  pointwise [val_main_v21, val_main_v20, val_main_v19]
  exact congrArg x0 (congrArg (ix3 b n) (Fin.ext (by simp [colAt, col, lane]; omega)))

theorem value_heads (x0 : Proj) (b : Fin 2) (n : Fin 16640) (h : Fin 4) (e : Fin 128) :
    val_main_v24 (F := Ideal) x0 (ix4 b n h e) = x0 (ix3 b n (colAt 6 (col h e))) := by
  pointwise [val_main_v24, val_main_v23, val_main_v22]
  exact congrArg x0 (congrArg (ix3 b n) (Fin.ext (by simp [colAt, col]; omega)))

/-- A map's 64 lanes turned: lanes 0–31 by the row angle, lanes 32–63 by the column angle. -/
def turned (y : Fin 64 → EReal) (cr sr cc sc : Fin 16 → EReal) (d : Fin 64) : EReal :=
  if _ : d.val < 32 then
    if _ : d.val < 16 then y d * cr ⟨d.val, by omega⟩ - y ⟨16 + d.val, by omega⟩ * sr ⟨d.val, by omega⟩
    else y ⟨d.val - 16, by omega⟩ * sr ⟨d.val - 16, by omega⟩
      + y ⟨16 + (d.val - 16), by omega⟩ * cr ⟨d.val - 16, by omega⟩
  else
    if _ : d.val - 32 < 16 then
      y ⟨32 + (d.val - 32), by omega⟩ * cc ⟨d.val - 32, by omega⟩
        - y ⟨32 + (16 + (d.val - 32)), by omega⟩ * sc ⟨d.val - 32, by omega⟩
    else y ⟨32 + (d.val - 32 - 16), by omega⟩ * sc ⟨d.val - 32 - 16, by omega⟩
      + y ⟨32 + (16 + (d.val - 32 - 16)), by omega⟩ * cc ⟨d.val - 32 - 16, by omega⟩

theorem rotated_queries (x0 : Proj) (x1 x2 x3 x4 : Table) (b : Fin 2) (p : Fin 16384) (h : Fin 4) (m : Fin 2) (d : Fin 64) :
    val_main_v66 (F := Ideal) x0 x1 x2 x3 x4 (ix5 b p h m d)
      = turned (fun d => val_main_v18 (F := Ideal) x0 (ix5 b ⟨256 + p.val, by omega⟩ h m d))
          (fun i => x1 (ix2 p i)) (fun i => x2 (ix2 p i)) (fun i => x3 (ix2 p i)) (fun i => x4 (ix2 p i)) d := by
  pointwise [val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66]
  rfl

theorem rotated_keys (x0 : Proj) (x1 x2 x3 x4 : Table) (b : Fin 2) (p : Fin 16384) (h : Fin 4) (m : Fin 2) (d : Fin 64) :
    val_main_v109 (F := Ideal) x0 x1 x2 x3 x4 (ix5 b p h m d)
      = turned (fun d => val_main_v21 (F := Ideal) x0 (ix5 b ⟨256 + p.val, by omega⟩ h m d))
          (fun i => x1 (ix2 p i)) (fun i => x2 (ix2 p i)) (fun i => x3 (ix2 p i)) (fun i => x4 (ix2 p i)) d := by
  pointwise [val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109]
  rfl

theorem all_keys (x0 : Proj) (x1 x2 x3 x4 : Table) (b : Fin 2) (n : Fin 16640) (h : Fin 4) (m : Fin 2) (d : Fin 64) :
    val_main_v110 (F := Ideal) x0 x1 x2 x3 x4 (ix5 b n h m d)
      = if _ : n.val < 256 then val_main_v21 (F := Ideal) x0 (ix5 b n h m d)
        else val_main_v109 (F := Ideal) x0 x1 x2 x3 x4 (ix5 b ⟨n.val - 256, by omega⟩ h m d) := by
  pointwise [val_main_v110, val_main_v67]

variable (D : Data)

/-- Over real numbers the turned lanes are `rotate`'s. -/
theorem turned_real (y : Fin 64 → EReal) (cr sr cc sc : Fin 16 → EReal) (x : Fin 128 → ℝ) (p : ℕ) (m : Fin 2)
    (hy : ∀ d, y d = (x (lane m d) : EReal)) (hcr : ∀ i : Fin 16, cr i = (D.cr p i : EReal))
    (hsr : ∀ i : Fin 16, sr i = (D.sr p i : EReal)) (hcc : ∀ i : Fin 16, cc i = (D.cc p i : EReal))
    (hsc : ∀ i : Fin 16, sc i = (D.sc p i : EReal)) (d : Fin 64) :
    turned y cr sr cc sc d = (rotate D x p (lane m d) : EReal) := by
  obtain ⟨m, hm⟩ := m
  obtain ⟨d, hd⟩ := d
  have hmod : (64 * m + d) % 64 = d := by omega
  simp only [turned, hy, hcr, hsr, hcc, hsc, rotate, lane, hmod, ← EReal.coe_mul, ← EReal.coe_add, ← EReal.coe_sub]
  have key : ∀ i j : ℕ, ∀ hi : i < 128, ∀ hj : j < 128, i = j → x ⟨i, hi⟩ = x ⟨j, hj⟩ := by
    intro i j hi hj e
    subst e
    rfl
  by_cases h1 : d < 32
  · by_cases h2 : d < 16
    · have e1 : (64 * m + d) % 16 = d := by omega
      rw [dif_pos h1, dif_pos h2, if_pos h2, e1]
      rw [key (64 * m + (16 + d)) ((64 * m + d + 16) % 128) (by omega) (by omega) (by omega)]
    · have e1 : (64 * m + d) % 16 = d - 16 := by omega
      rw [dif_pos h1, dif_neg h2, if_neg h2, if_pos h1, e1]
      rw [key (64 * m + (d - 16)) (64 * m + d - 16) (by omega) (by omega) (by omega),
        key (64 * m + (16 + (d - 16))) (64 * m + d) (by omega) (by omega) (by omega), add_comm]
  · by_cases h2 : d - 32 < 16
    · have e1 : (64 * m + d) % 16 = d - 32 := by omega
      rw [dif_neg h1, dif_pos h2, if_neg (by omega), if_neg h1, if_pos (by omega), e1]
      rw [key (64 * m + (32 + (16 + (d - 32)))) ((64 * m + d + 16) % 128) (by omega) (by omega) (by omega),
        key (64 * m + (32 + (d - 32))) (64 * m + d) (by omega) (by omega) (by omega)]
    · have e1 : (64 * m + d) % 16 = d - 32 - 16 := by omega
      rw [dif_neg h1, dif_neg h2, if_neg (by omega), if_neg h1, if_neg (by omega), e1]
      rw [key (64 * m + (32 + (d - 32 - 16))) (64 * m + d - 16) (by omega) (by omega) (by omega),
        key (64 * m + (32 + (16 + (d - 32 - 16)))) (64 * m + d) (by omega) (by omega) (by omega), add_comm]

section

variable (x0 : Proj) (x1 x2 x3 x4 : Table) (H : Holds D x0 x1 x2 x3 x4)
include H

/-- A latent's query after the rotation. -/
theorem query_latent (b : Fin 2) (p : Fin 16384) (h : Fin 4) (m : Fin 2) (d : Fin 64) :
    val_main_v66 (F := Ideal) x0 x1 x2 x3 x4 (ix5 b p h m d)
      = (placed D (D.q b (256 + p.val) h) (256 + p.val) (lane m d) : EReal) := by
  rw [rotated_queries, placed, if_neg (by omega), Nat.add_sub_cancel_left]
  refine turned_real D _ _ _ _ _ _ p.val m (fun d => ?_) (fun i => ?_) (fun i => ?_) (fun i => ?_) (fun i => ?_) d
  · exact (query_heads x0 b _ h m d).trans (H.q _ _ _ _)
  · exact H.cr _ _
  · exact H.sr _ _
  · exact H.cc _ _
  · exact H.sc _ _

/-- A token's key, a latent's after the rotation. -/
theorem key_placed (b : Fin 2) (n : Fin 16640) (h : Fin 4) (m : Fin 2) (d : Fin 64) :
    val_main_v110 (F := Ideal) x0 x1 x2 x3 x4 (ix5 b n h m d)
      = (placed D (D.k b n.val h) n.val (lane m d) : EReal) := by
  rw [all_keys, placed]
  by_cases hn : n.val < 256
  · rw [dif_pos hn, if_pos hn]
    exact (key_heads x0 b _ h m d).trans (H.k _ _ _ _)
  · rw [dif_neg hn, if_neg hn, rotated_keys]
    refine turned_real D _ _ _ _ _ _ (n.val - 256) m (fun d => ?_) (fun i => ?_) (fun i => ?_) (fun i => ?_) (fun i => ?_) d
    · refine (key_heads x0 b _ h m d).trans ((H.k _ _ _ _).trans ?_)
      have e : 256 + (n.val - 256) = n.val := by omega
      dsimp only
      rw [e]
    · exact H.cr _ _
    · exact H.sr _ _
    · exact H.cc _ _
    · exact H.sc _ _

/-- A context token's query. -/
theorem query_context (b : Fin 2) (n : Fin 256) (h : Fin 4) (m : Fin 2) (d : Fin 64) :
    val_main_v134 (F := Ideal) x0 (ix5 b n h m d) = (placed D (D.q b n.val h) n.val (lane m d) : EReal) := by
  pointwise [val_main_v134]
  rw [placed, if_pos n.isLt]
  exact (query_heads x0 b _ h m d).trans (H.q _ _ _ _)

/-- A context token's key. -/
theorem key_context (b : Fin 2) (n : Fin 256) (h : Fin 4) (m : Fin 2) (d : Fin 64) :
    val_main_v135 (F := Ideal) x0 (ix5 b n h m d) = (placed D (D.k b n.val h) n.val (lane m d) : EReal) := by
  pointwise [val_main_v135]
  rw [placed, if_pos n.isLt]
  exact (key_heads x0 b _ h m d).trans (H.k _ _ _ _)

/-- A token's value. -/
theorem value_token (b : Fin 2) (n : Fin 16640) (h : Fin 4) (e : Fin 128) :
    val_main_v24 (F := Ideal) x0 (ix4 b n h e) = (D.v b n.val h e : EReal) :=
  (value_heads x0 b n h e).trans (H.v _ _ _ _)

end

end Cert.Proof.RefRope

end
-- ==== Proof.RefMath.lean ====
module

public import proofs.«01_k».proof.Proof.AttnRow

/-! # Facts about rows of any length that the reference's attention uses -/

@[expose] public section

noncomputable section

open Idealize.ShloMosaic Cert.Proof.Softmax Cert.Proof.AttnValue

namespace Cert.Proof.RefMath

theorem eighth : Ideal.ofBits .f32 0x3E000000#32 = ((8⁻¹ : ℝ) : EReal) := by
  simp [Ideal.ofBits, Ideal.ieee]
  rw [← EReal.coe_mul]
  norm_num

/-- The host's maximum over one axis, read as a fold over that axis's coordinates. -/
theorem reduce_max_read {s t u : Shape} {a : Fin s.rank} {N : ℕ} (hN : s.size a = N) (y : s.Idx → Ideal .f32) (init : u.Idx → Ideal .f32)
    (h' : s.ReducesTo [a] t) (h : s.Reduces [a] t) (hu : 0 < u.numel) (j : t.Idx) (idx : Fin N → s.Idx)
    (hidx : ∀ k : Fin (s.size a), h.lift j k = idx (Fin.cast hN k)) :
    Host.reduce FloatOps.maximumf y init h' hu j
      = (Finset.univ : Finset (Fin N)).fold (max : EReal → EReal → EReal) (init (Shape.Idx.first hu)) (fun k => y (idx k)) := by
  subst hN
  rw [Host.reduce_eq_fold_single FloatOps.maximumf y _ h' h hu]
  exact congrArg (fun f => Finset.fold (max : EReal → EReal → EReal) (init (Shape.Idx.first hu)) f (Finset.univ : Finset (Fin (s.size a))))
    (funext fun k => congrArg y (hidx k))

variable {N : ℕ} [NeZero N]

/-- The greatest of a row of reals, taken twice from minus infinity, is a real. -/
theorem top_of_reals (f : Fin N → EReal) (g : Fin N → ℝ) (h : ∀ k, f k = (g k : EReal)) :
    ∃ M : ℝ, max (Ideal.ofBits .f32 0xFF800000#32)
      ((Finset.univ : Finset (Fin N)).fold max (Ideal.ofBits .f32 0xFF800000#32) f) = (M : EReal) := by
  obtain ⟨M, hM⟩ := fold_max_real f g h
  exact ⟨M, by rw [hM, ofBits_neg_inf, max_bot_left]⟩

/-- An exponential over the sum of a row's exponentials. -/
theorem weight_of_reals (e : EReal) (f : Fin N → EReal) (x : ℝ) (g : Fin N → ℝ) (he : e = (Real.exp x : EReal))
    (hf : ∀ k, f k = (Real.exp (g k) : EReal)) :
    Ideal.div e (∑ k, f k) = ((Real.exp x / ∑ k, Real.exp (g k) : ℝ) : EReal) := by
  simp only [he, hf, sum_coe]
  rw [div_coe _ _ (sum_exp_pos _).ne']

/-- The values weighted by the difference of two softmax rows. -/
theorem row_of_reals (s₀ s₁ v : Fin N → ℝ) (m₀ m₁ lam : ℝ) (a w : Fin N → EReal) (ha : ∀ k, a k = (v k : EReal))
    (hw : ∀ k, w k = ((Real.exp (s₀ k - m₀) / (∑ k', Real.exp (s₀ k' - m₀))
      - lam * (Real.exp (s₁ k - m₁) / ∑ k', Real.exp (s₁ k' - m₁)) : ℝ) : EReal)) :
    ∑ k, a k * w k = ((softAvg s₀ v - lam * softAvg s₁ v : ℝ) : EReal) := by
  rw [sum_mul_coe _ _ _ _ ha hw, ← diff_weights s₀ s₁ v m₀ m₁ lam]
  exact congrArg _ (Finset.sum_congr rfl fun k _ => mul_comm _ _)

end Cert.Proof.RefMath

end
-- ==== Proof.RefLatent.lean ====
module

public import proofs.«01_k».proof.Proof.RefRope
public import proofs.«01_k».proof.Proof.RefMath

/-! # The reference's attention of the latents over all the tokens, read at an index -/

@[expose] public section

set_option maxRecDepth 16384

noncomputable section

open Idealize.ShloMosaic Idealize.ShloMosaic.TcCoe
open Cert.ReferenceIdeal Cert.ReferenceIdeal.Read
open Cert.Proof.PrepBody Cert.Proof.Data Cert.Proof.PrepArrays Cert.Proof.AttnArray Cert.Proof.AttnRow
open Cert.Proof.AttnValue Cert.Proof.Softmax Cert.Proof.RefMath Cert.Proof.RefRope

namespace Cert.Proof.RefLatent

/-- The type of the lambda parameters. -/
abbrev Lambdas : Type := (⟨S4x64, .f32⟩ : BufTy).Contents (Elt Ideal)

theorem scores_read (x0 : Proj) (x1 x2 x3 x4 : RefRope.Table) (b : Fin 2) (h : Fin 4) (m : Fin 2) (p : Fin 16384) (κ : Fin 16640) :
    val_main_v113 (F := Ideal) x0 x1 x2 x3 x4 (ix5 b h m p κ)
      = (∑ d : Fin 64, val_main_v66 (F := Ideal) x0 x1 x2 x3 x4 (ix5 b p h m d) * val_main_v110 (F := Ideal) x0 x1 x2 x3 x4 (ix5 b κ h m d))
        * Ideal.ofBits .f32 0x3E000000#32 := by
  pointwise [val_main_v111, val_main_v112, val_main_v113, val_main_cst_2]

theorem top_read (x0 : Proj) (x1 x2 x3 x4 : RefRope.Table) (b : Fin 2) (h : Fin 4) (m : Fin 2) (p : Fin 16384) :
    val_main_v116 (F := Ideal) x0 x1 x2 x3 x4 (ix4 b h m p)
      = max (Ideal.ofBits .f32 0xFF800000#32) ((Finset.univ : Finset (Fin 16640)).fold max (Ideal.ofBits .f32 0xFF800000#32)
          (fun κ => val_main_v113 (F := Ideal) x0 x1 x2 x3 x4 (ix5 b h m p κ))) := by
  rw [val_main_v116_apply, val_main_v115_apply, val_main_v114]
  generalize val_main_v113 (F := Ideal) x0 x1 x2 x3 x4 = y
  rw [reduce_max_read (N := 16640) rfl y _ Gen.reducesTo_S2x4x2x16384x16640_S2x4x2x16384_d4 (by decide) Gen.h_S_ (ix4 b h m p) (fun κ => ix5 b h m p κ)
    (fun k => funext fun a => Fin.ext (by match a with | ⟨0, _⟩ => rfl | ⟨1, _⟩ => rfl | ⟨2, _⟩ => rfl | ⟨3, _⟩ => rfl | ⟨4, _⟩ => rfl))]
  rfl

theorem exps_read (x0 : Proj) (x1 x2 x3 x4 : RefRope.Table) (b : Fin 2) (h : Fin 4) (m : Fin 2) (p : Fin 16384) (κ : Fin 16640) :
    val_main_v120 (F := Ideal) x0 x1 x2 x3 x4 (ix5 b h m p κ)
      = Ideal.exp (val_main_v113 (F := Ideal) x0 x1 x2 x3 x4 (ix5 b h m p κ) - val_main_v116 (F := Ideal) x0 x1 x2 x3 x4 (ix4 b h m p)) := by
  pointwise [val_main_v120, val_main_v119, val_main_v118, val_main_v117]

theorem weights_read (x0 : Proj) (x1 x2 x3 x4 : RefRope.Table) (b : Fin 2) (h : Fin 4) (m : Fin 2) (p : Fin 16384) (κ : Fin 16640) :
    val_main_v124 (F := Ideal) x0 x1 x2 x3 x4 (ix5 b h m p κ)
      = Ideal.div (val_main_v120 (F := Ideal) x0 x1 x2 x3 x4 (ix5 b h m p κ)) (∑ κ' : Fin 16640, val_main_v120 (F := Ideal) x0 x1 x2 x3 x4 (ix5 b h m p κ')) := by
  pointwise [val_main_v124, val_main_v123, val_main_v122, val_main_v121, val_main_cst_5]

theorem maps_read (x0 : Proj) (x1 x2 x3 x4 : RefRope.Table) (x5 : Lambdas) (b : Fin 2) (h : Fin 4) (p : Fin 16384) (κ : Fin 16640) :
    val_main_v131 (F := Ideal) x0 x1 x2 x3 x4 x5 (ix4 b h p κ)
      = val_main_v124 (F := Ideal) x0 x1 x2 x3 x4 (ix5 b h 0 p κ) - val_main_v15 (F := Ideal) x5 ix0 * val_main_v124 (F := Ideal) x0 x1 x2 x3 x4 (ix5 b h 1 p κ) := by
  have e0 : idx_main_v125 (idx_main_v126 (ix4 b h p κ)) = ix5 b h 0 p κ := funext fun a => Fin.ext (by
    have hb := b.isLt
    have hh := h.isLt
    have hp := p.isLt
    have hκ := κ.isLt
    match a with
    | ⟨0, _⟩ => show (((b.val * 4 + h.val) * 16384 + p.val) * 16640 + κ.val) / 1090519040 = b.val; omega
    | ⟨1, _⟩ => show (((b.val * 4 + h.val) * 16384 + p.val) * 16640 + κ.val) / 272629760 % 4 = h.val; omega
    | ⟨2, _⟩ => rfl
    | ⟨3, _⟩ => show (((b.val * 4 + h.val) * 16384 + p.val) * 16640 + κ.val) / 16640 % 16384 = p.val; omega
    | ⟨4, _⟩ => show (((b.val * 4 + h.val) * 16384 + p.val) * 16640 + κ.val) % 16640 = κ.val; omega)
  have e1 : idx_main_v127 (idx_main_v128 (ix4 b h p κ)) = ix5 b h 1 p κ := funext fun a => Fin.ext (by
    have hb := b.isLt
    have hh := h.isLt
    have hp := p.isLt
    have hκ := κ.isLt
    match a with
    | ⟨0, _⟩ => show (((b.val * 4 + h.val) * 16384 + p.val) * 16640 + κ.val) / 1090519040 = b.val; omega
    | ⟨1, _⟩ => show (((b.val * 4 + h.val) * 16384 + p.val) * 16640 + κ.val) / 272629760 % 4 = h.val; omega
    | ⟨2, _⟩ => rfl
    | ⟨3, _⟩ => show (((b.val * 4 + h.val) * 16384 + p.val) * 16640 + κ.val) / 16640 % 16384 = p.val; omega
    | ⟨4, _⟩ => show (((b.val * 4 + h.val) * 16384 + p.val) * 16640 + κ.val) % 16640 = κ.val; omega)
  have e2 : idx_main_v129 (ix4 b h p κ) = ix0 := funext fun a => a.elim0
  rw [val_main_v131_apply, val_main_v126_apply, val_main_v125_apply, val_main_v130_apply, val_main_v129_apply, val_main_v128_apply, val_main_v127_apply, e0, e1, e2]
  rfl

theorem rows_read (x0 : Proj) (x1 x2 x3 x4 : RefRope.Table) (x5 : Lambdas) (b : Fin 2) (h : Fin 4) (p : Fin 16384) (e : Fin 128) :
    val_main_v133 (F := Ideal) x0 x1 x2 x3 x4 x5 (ix4 b p h e)
      = ∑ κ : Fin 16640, val_main_v24 (F := Ideal) x0 (ix4 b κ h e) * val_main_v131 (F := Ideal) x0 x1 x2 x3 x4 x5 (ix4 b h p κ) := by
  pointwise [val_main_v133, val_main_v132]

variable (D : Data) (x0 : Proj) (x1 x2 x3 x4 : RefRope.Table) (H : Holds D x0 x1 x2 x3 x4)
include H

/-- The scaled scores. -/
theorem scores (b : Fin 2) (h : Fin 4) (m : Fin 2) (p : Fin 16384) (κ : Fin 16640) :
    val_main_v113 (F := Ideal) x0 x1 x2 x3 x4 (ix5 b h m p κ) = (dots D b h (256 + p.val) m κ.val : EReal) := by
  rw [scores_read, sum_mul_coe _ _ _ _ (fun d => query_latent D x0 x1 x2 x3 x4 H b p h m d)
    (fun d => key_placed D x0 x1 x2 x3 x4 H b κ h m d), eighth, ← EReal.coe_mul, dots]

/-- A row's greatest score is a real number. -/
theorem top_real (b : Fin 2) (h : Fin 4) (m : Fin 2) (p : Fin 16384) :
    ∃ M : ℝ, val_main_v116 (F := Ideal) x0 x1 x2 x3 x4 (ix4 b h m p) = (M : EReal) := by
  obtain ⟨M, hM⟩ := top_of_reals _ _ (fun κ => scores D x0 x1 x2 x3 x4 H b h m p κ)
  exact ⟨M, (top_read x0 x1 x2 x3 x4 b h m p).trans hM⟩

section

variable (b : Fin 2) (h : Fin 4) (p : Fin 16384) (M : Fin 2 → ℝ)
  (hM : ∀ m, val_main_v116 (F := Ideal) x0 x1 x2 x3 x4 (ix4 b h m p) = (M m : EReal))
include hM

/-- The weights before they are normalised. -/
theorem exps (m : Fin 2) (κ : Fin 16640) :
    val_main_v120 (F := Ideal) x0 x1 x2 x3 x4 (ix5 b h m p κ) = (Real.exp (dots D b h (256 + p.val) m κ.val - M m) : EReal) := by
  rw [exps_read, scores D x0 x1 x2 x3 x4 H, hM, ← EReal.coe_sub, Ideal.exp_coe]

/-- The weights. -/
theorem weights (m : Fin 2) (κ : Fin 16640) :
    val_main_v124 (F := Ideal) x0 x1 x2 x3 x4 (ix5 b h m p κ)
      = (Real.exp (dots D b h (256 + p.val) m κ.val - M m) / (∑ κ' : Fin 16640, Real.exp (dots D b h (256 + p.val) m κ'.val - M m)) : ℝ) :=
  (weights_read x0 x1 x2 x3 x4 b h m p κ).trans
    (weight_of_reals _ _ _ (fun κ' : Fin 16640 => dots D b h (256 + p.val) m κ'.val - M m) (exps D x0 x1 x2 x3 x4 H b h p M hM m κ)
      (fun κ' => exps D x0 x1 x2 x3 x4 H b h p M hM m κ'))

end

/-- A row of the difference of the two maps' averages. -/
theorem row (x5 : Lambdas) (lam : ℝ) (hlam : val_main_v15 (F := Ideal) x5 ix0 = (lam : EReal)) (b : Fin 2) (h : Fin 4)
    (p : Fin 16384) (e : Fin 128) :
    val_main_v133 (F := Ideal) x0 x1 x2 x3 x4 x5 (ix4 b p h e)
      = rowOf 16640 (dots D b h (256 + p.val)) (vals D b h) lam e := by
  obtain ⟨M0, h0⟩ := top_real D x0 x1 x2 x3 x4 H b h 0 p
  obtain ⟨M1, h1⟩ := top_real D x0 x1 x2 x3 x4 H b h 1 p
  have hM : ∀ m : Fin 2, val_main_v116 (F := Ideal) x0 x1 x2 x3 x4 (ix4 b h m p) = (((if m = 0 then M0 else M1 : ℝ)) : EReal) := by
    intro m
    match m with
    | 0 => exact h0
    | 1 => exact h1
  refine (rows_read x0 x1 x2 x3 x4 x5 b h p e).trans ?_
  rw [rowOf]
  refine row_of_reals (fun κ : Fin 16640 => dots D b h (256 + p.val) 0 κ.val) (fun κ : Fin 16640 => dots D b h (256 + p.val) 1 κ.val) _
    M0 M1 lam _ _ (fun κ => ?_) (fun κ => ?_)
  · refine (value_token D x0 x1 x2 x3 x4 H b κ h e).trans ?_
    rw [vals, dif_pos e.isLt]
  · rw [maps_read, weights D x0 x1 x2 x3 x4 H b h p _ hM, weights D x0 x1 x2 x3 x4 H b h p _ hM, hlam, ← EReal.coe_mul, ← EReal.coe_sub]
    rfl

end Cert.Proof.RefLatent

end
-- ==== Proof.RefContext.lean ====
module

public import proofs.«01_k».proof.Proof.RefRope
public import proofs.«01_k».proof.Proof.RefMath

/-! # The reference's attention of the context over itself, read at an index -/

@[expose] public section

set_option maxRecDepth 16384

noncomputable section

open Idealize.ShloMosaic Idealize.ShloMosaic.TcCoe
open Cert.ReferenceIdeal Cert.ReferenceIdeal.Read
open Cert.Proof.PrepBody Cert.Proof.Data Cert.Proof.PrepArrays Cert.Proof.AttnArray Cert.Proof.AttnRow
open Cert.Proof.AttnValue Cert.Proof.Softmax Cert.Proof.RefMath Cert.Proof.RefRope

namespace Cert.Proof.RefContext

/-- The type of the lambda parameters. -/
abbrev Lambdas : Type := (⟨S4x64, .f32⟩ : BufTy).Contents (Elt Ideal)

/-- A context token's value. -/
theorem value_context (D : Data) (x0 : Proj) (x1 x2 x3 x4 : RefRope.Table) (H : Holds D x0 x1 x2 x3 x4) (b : Fin 2) (n : Fin 256) (h : Fin 4) (e : Fin 128) :
    val_main_v136 (F := Ideal) x0 (ix4 b n h e) = (D.v b n.val h e : EReal) := by
  pointwise [val_main_v136]
  exact value_token D x0 x1 x2 x3 x4 H b _ h e

theorem scores_read (x0 : Proj) (b : Fin 2) (h : Fin 4) (m : Fin 2) (p : Fin 256) (κ : Fin 256) :
    val_main_v139 (F := Ideal) x0 (ix5 b h m p κ)
      = (∑ d : Fin 64, val_main_v134 (F := Ideal) x0 (ix5 b p h m d) * val_main_v135 (F := Ideal) x0 (ix5 b κ h m d))
        * Ideal.ofBits .f32 0x3E000000#32 := by
  pointwise [val_main_v137, val_main_v138, val_main_v139, val_main_cst_6]

theorem top_read (x0 : Proj) (b : Fin 2) (h : Fin 4) (m : Fin 2) (p : Fin 256) :
    val_main_v142 (F := Ideal) x0 (ix4 b h m p)
      = max (Ideal.ofBits .f32 0xFF800000#32) ((Finset.univ : Finset (Fin 256)).fold max (Ideal.ofBits .f32 0xFF800000#32)
          (fun κ => val_main_v139 (F := Ideal) x0 (ix5 b h m p κ))) := by
  rw [val_main_v142_apply, val_main_v141_apply, val_main_v140]
  generalize val_main_v139 (F := Ideal) x0 = y
  rw [reduce_max_read (N := 256) rfl y _ Gen.reducesTo_S2x4x2x256x256_S2x4x2x256_d4 (by decide) Gen.h_S_ (ix4 b h m p) (fun κ => ix5 b h m p κ)
    (fun k => funext fun a => Fin.ext (by match a with | ⟨0, _⟩ => rfl | ⟨1, _⟩ => rfl | ⟨2, _⟩ => rfl | ⟨3, _⟩ => rfl | ⟨4, _⟩ => rfl))]
  rfl

theorem exps_read (x0 : Proj) (b : Fin 2) (h : Fin 4) (m : Fin 2) (p : Fin 256) (κ : Fin 256) :
    val_main_v146 (F := Ideal) x0 (ix5 b h m p κ)
      = Ideal.exp (val_main_v139 (F := Ideal) x0 (ix5 b h m p κ) - val_main_v142 (F := Ideal) x0 (ix4 b h m p)) := by
  pointwise [val_main_v146, val_main_v145, val_main_v144, val_main_v143]

theorem weights_read (x0 : Proj) (b : Fin 2) (h : Fin 4) (m : Fin 2) (p : Fin 256) (κ : Fin 256) :
    val_main_v150 (F := Ideal) x0 (ix5 b h m p κ)
      = Ideal.div (val_main_v146 (F := Ideal) x0 (ix5 b h m p κ)) (∑ κ' : Fin 256, val_main_v146 (F := Ideal) x0 (ix5 b h m p κ')) := by
  pointwise [val_main_v150, val_main_v149, val_main_v148, val_main_v147, val_main_cst_9]

theorem maps_read (x0 : Proj) (x5 : Lambdas) (b : Fin 2) (h : Fin 4) (p : Fin 256) (κ : Fin 256) :
    val_main_v157 (F := Ideal) x0 x5 (ix4 b h p κ)
      = val_main_v150 (F := Ideal) x0 (ix5 b h 0 p κ) - val_main_v15 (F := Ideal) x5 ix0 * val_main_v150 (F := Ideal) x0 (ix5 b h 1 p κ) := by
  have e0 : idx_main_v151 (idx_main_v152 (ix4 b h p κ)) = ix5 b h 0 p κ := funext fun a => Fin.ext (by
    have hb := b.isLt
    have hh := h.isLt
    have hp := p.isLt
    have hκ := κ.isLt
    match a with
    | ⟨0, _⟩ => show (((b.val * 4 + h.val) * 256 + p.val) * 256 + κ.val) / 262144 = b.val; omega
    | ⟨1, _⟩ => show (((b.val * 4 + h.val) * 256 + p.val) * 256 + κ.val) / 65536 % 4 = h.val; omega
    | ⟨2, _⟩ => rfl
    | ⟨3, _⟩ => show (((b.val * 4 + h.val) * 256 + p.val) * 256 + κ.val) / 256 % 256 = p.val; omega
    | ⟨4, _⟩ => show (((b.val * 4 + h.val) * 256 + p.val) * 256 + κ.val) % 256 = κ.val; omega)
  have e1 : idx_main_v153 (idx_main_v154 (ix4 b h p κ)) = ix5 b h 1 p κ := funext fun a => Fin.ext (by
    have hb := b.isLt
    have hh := h.isLt
    have hp := p.isLt
    have hκ := κ.isLt
    match a with
    | ⟨0, _⟩ => show (((b.val * 4 + h.val) * 256 + p.val) * 256 + κ.val) / 262144 = b.val; omega
    | ⟨1, _⟩ => show (((b.val * 4 + h.val) * 256 + p.val) * 256 + κ.val) / 65536 % 4 = h.val; omega
    | ⟨2, _⟩ => rfl
    | ⟨3, _⟩ => show (((b.val * 4 + h.val) * 256 + p.val) * 256 + κ.val) / 256 % 256 = p.val; omega
    | ⟨4, _⟩ => show (((b.val * 4 + h.val) * 256 + p.val) * 256 + κ.val) % 256 = κ.val; omega)
  have e2 : idx_main_v155 (ix4 b h p κ) = ix0 := funext fun a => a.elim0
  rw [val_main_v157_apply, val_main_v152_apply, val_main_v151_apply, val_main_v156_apply, val_main_v155_apply, val_main_v154_apply, val_main_v153_apply, e0, e1, e2]
  rfl

theorem rows_read (x0 : Proj) (x5 : Lambdas) (b : Fin 2) (h : Fin 4) (p : Fin 256) (e : Fin 128) :
    val_main_v159 (F := Ideal) x0 x5 (ix4 b p h e)
      = ∑ κ : Fin 256, val_main_v136 (F := Ideal) x0 (ix4 b κ h e) * val_main_v157 (F := Ideal) x0 x5 (ix4 b h p κ) := by
  pointwise [val_main_v159, val_main_v158]

variable (D : Data) (x0 : Proj) (x1 x2 x3 x4 : RefRope.Table) (H : Holds D x0 x1 x2 x3 x4)
include H

/-- The scaled scores. -/
theorem scores (b : Fin 2) (h : Fin 4) (m : Fin 2) (p : Fin 256) (κ : Fin 256) :
    val_main_v139 (F := Ideal) x0 (ix5 b h m p κ) = (dots D b h (p.val) m κ.val : EReal) := by
  rw [scores_read, sum_mul_coe _ _ _ _ (fun d => query_context D x0 x1 x2 x3 x4 H b p h m d)
    (fun d => key_context D x0 x1 x2 x3 x4 H b κ h m d), eighth, ← EReal.coe_mul, dots]

/-- A row's greatest score is a real number. -/
theorem top_real (b : Fin 2) (h : Fin 4) (m : Fin 2) (p : Fin 256) :
    ∃ M : ℝ, val_main_v142 (F := Ideal) x0 (ix4 b h m p) = (M : EReal) := by
  obtain ⟨M, hM⟩ := top_of_reals _ _ (fun κ => scores D x0 x1 x2 x3 x4 H b h m p κ)
  exact ⟨M, (top_read x0 b h m p).trans hM⟩

section

variable (b : Fin 2) (h : Fin 4) (p : Fin 256) (M : Fin 2 → ℝ)
  (hM : ∀ m, val_main_v142 (F := Ideal) x0 (ix4 b h m p) = (M m : EReal))
include hM

/-- The weights before they are normalised. -/
theorem exps (m : Fin 2) (κ : Fin 256) :
    val_main_v146 (F := Ideal) x0 (ix5 b h m p κ) = (Real.exp (dots D b h (p.val) m κ.val - M m) : EReal) := by
  rw [exps_read, scores D x0 x1 x2 x3 x4 H, hM, ← EReal.coe_sub, Ideal.exp_coe]

/-- The weights. -/
theorem weights (m : Fin 2) (κ : Fin 256) :
    val_main_v150 (F := Ideal) x0 (ix5 b h m p κ)
      = (Real.exp (dots D b h (p.val) m κ.val - M m) / (∑ κ' : Fin 256, Real.exp (dots D b h (p.val) m κ'.val - M m)) : ℝ) :=
  (weights_read x0 b h m p κ).trans
    (weight_of_reals _ _ _ (fun κ' : Fin 256 => dots D b h (p.val) m κ'.val - M m) (exps D x0 x1 x2 x3 x4 H b h p M hM m κ)
      (fun κ' => exps D x0 x1 x2 x3 x4 H b h p M hM m κ'))

end

/-- A row of the difference of the two maps' averages. -/
theorem row (x5 : Lambdas) (lam : ℝ) (hlam : val_main_v15 (F := Ideal) x5 ix0 = (lam : EReal)) (b : Fin 2) (h : Fin 4)
    (p : Fin 256) (e : Fin 128) :
    val_main_v159 (F := Ideal) x0 x5 (ix4 b p h e)
      = rowOf 256 (dots D b h (p.val)) (vals D b h) lam e := by
  obtain ⟨M0, h0⟩ := top_real D x0 x1 x2 x3 x4 H b h 0 p
  obtain ⟨M1, h1⟩ := top_real D x0 x1 x2 x3 x4 H b h 1 p
  have hM : ∀ m : Fin 2, val_main_v142 (F := Ideal) x0 (ix4 b h m p) = (((if m = 0 then M0 else M1 : ℝ)) : EReal) := by
    intro m
    match m with
    | 0 => exact h0
    | 1 => exact h1
  refine (rows_read x0 x5 b h p e).trans ?_
  rw [rowOf]
  refine row_of_reals (fun κ : Fin 256 => dots D b h (p.val) 0 κ.val) (fun κ : Fin 256 => dots D b h (p.val) 1 κ.val) _
    M0 M1 lam _ _ (fun κ => ?_) (fun κ => ?_)
  · refine (value_context D x0 x1 x2 x3 x4 H b κ h e).trans ?_
    rw [vals, dif_pos e.isLt]
  · rw [maps_read, weights D x0 x1 x2 x3 x4 H b h p _ hM, weights D x0 x1 x2 x3 x4 H b h p _ hM, hlam, ← EReal.coe_mul, ← EReal.coe_sub]
    rfl

end Cert.Proof.RefContext

end
-- ==== Proof.RefValue.lean ====
module

public import proofs.«01_k».proof.Proof.RefLatent
public import proofs.«01_k».proof.Proof.RefContext

/-! # The reference's result at an index -/

@[expose] public section

set_option maxRecDepth 16384

noncomputable section

open Idealize.ShloMosaic Idealize.ShloMosaic.TcCoe
open Cert.ReferenceIdeal Cert.ReferenceIdeal.Read
open Cert.Proof.PrepBody Cert.Proof.Data Cert.Proof.PrepArrays Cert.Proof.AttnArray Cert.Proof.AttnRow
open Cert.Proof.RefRope
open Cert.Proof.RefLatent (Lambdas)

namespace Cert.Proof.RefValue

/-- The type of the norm's weight. -/
abbrev Weight : Type := (⟨S128, .f32⟩ : BufTy).Contents (Elt Ideal)

theorem lambda_read (x5 : Lambdas) : val_main_v15 (F := Ideal) x5 ix0 = lambda (fun i j => x5 (ix2 i j)) := by
  unfold lambda
  pointwise [val_main_v0, val_main_v1, val_main_v2, val_main_v3, val_main_v4, val_main_v5, val_main_v6, val_main_v7, val_main_v8,
    val_main_v9, val_main_v10, val_main_v11, val_main_v12, val_main_v13, val_main_v14, val_main_v15, val_main_cst, val_main_cst_0,
    val_main_cst_1]

theorem rows_joined (x0 : Proj) (x1 x2 x3 x4 : RefRope.Table) (x5 : Lambdas) (b : Fin 2) (n : Fin 16640) (h : Fin 4) (e : Fin 128) :
    val_main_v160 (F := Ideal) x0 x1 x2 x3 x4 x5 (ix4 b n h e)
      = if _ : n.val < 256 then val_main_v159 (F := Ideal) x0 x5 (ix4 b ⟨n.val, by omega⟩ h e)
        else val_main_v133 (F := Ideal) x0 x1 x2 x3 x4 x5 (ix4 b ⟨n.val - 256, by omega⟩ h e) := by
  pointwise [val_main_v160]

theorem norm_read (x0 : Proj) (x1 x2 x3 x4 : RefRope.Table) (x5 : Lambdas) (x6 : Weight) (b : Fin 2) (n : Fin 16640) (h : Fin 4) (l : Fin 128) :
    val_main_v175 (F := Ideal) x0 x1 x2 x3 x4 x5 x6 (ix4 b n h l)
      = rowNorm (fun e => val_main_v160 (F := Ideal) x0 x1 x2 x3 x4 x5 (ix4 b n h e)) (x6 (ix1 l)) l := by
  unfold rowNorm
  pointwise [val_main_v161, val_main_v162, val_main_v163, val_main_v164, val_main_v165, val_main_v166, val_main_v167, val_main_v168,
    val_main_v169, val_main_v170, val_main_v171, val_main_v172, val_main_v173, val_main_v174, val_main_v175, val_main_cst_10,
    val_main_cst_11, val_main_cst_12, val_main_cst_13]

theorem result_read (x0 : Proj) (x1 x2 x3 x4 : RefRope.Table) (x5 : Lambdas) (x6 : Weight) (b : Fin 2) (n : Fin 16640) (h : Fin 4) (l : Fin 128) :
    val_main_v176 (F := Ideal) x0 x1 x2 x3 x4 x5 x6 (ix3 b n (col h l))
      = val_main_v175 (F := Ideal) x0 x1 x2 x3 x4 x5 x6 (ix4 b n h l) := by
  have e0 : idx_main_v176 (ix3 b n (col h l)) = ix4 b n h l := funext fun a => Fin.ext (by
    have hb := b.isLt
    have hn := n.isLt
    have hh := h.isLt
    have hl := l.isLt
    match a with
    | ⟨0, _⟩ => show ((b.val * 16640 + n.val) * 512 + (128 * h.val + l.val)) / 8519680 = b.val; omega
    | ⟨1, _⟩ => show ((b.val * 16640 + n.val) * 512 + (128 * h.val + l.val)) / 512 % 16640 = n.val; omega
    | ⟨2, _⟩ => show ((b.val * 16640 + n.val) * 512 + (128 * h.val + l.val)) / 128 % 4 = h.val; omega
    | ⟨3, _⟩ => show ((b.val * 16640 + n.val) * 512 + (128 * h.val + l.val)) % 128 = l.val; omega)
  rw [val_main_v176_apply, e0]

/-- The reference's result at an index is `spec`. -/
theorem reference_value (D : Data) (x0 : Proj) (x1 x2 x3 x4 : RefRope.Table) (x5 : Lambdas) (x6 : Weight) (H : Holds D x0 x1 x2 x3 x4)
    (lam : ℝ) (hlam : lambda (fun i j => x5 (ix2 i j)) = (lam : EReal)) (b : Fin 2) (n : Fin 16640) (h : Fin 4) (l : Fin 128) :
    val_main_v176 (F := Ideal) x0 x1 x2 x3 x4 x5 x6 (ix3 b n (col h l)) = spec D lam (x6 (ix1 l)) b n.val h l := by
  have hl : val_main_v15 (F := Ideal) x5 ix0 = (lam : EReal) := (lambda_read x5).trans hlam
  rw [result_read, norm_read, spec]
  refine congrArg (fun f => rowNorm f (x6 (ix1 l)) l) (funext fun e => ?_)
  rw [rows_joined]
  by_cases hn : n.val < 256
  · rw [dif_pos hn, keyCount, if_pos hn]
    exact RefContext.row D x0 x1 x2 x3 x4 H x5 lam hl b h ⟨n.val, hn⟩ e
  · rw [dif_neg hn, keyCount, if_neg hn]
    have e1 : 256 + (n.val - 256) = n.val := by omega
    refine (RefLatent.row D x0 x1 x2 x3 x4 H x5 lam hl b h ⟨n.val - 256, by omega⟩ e).trans ?_
    dsimp only
    rw [e1]

end Cert.Proof.RefValue

end

end
-- ==== Proof.Assemble.lean ====
module

public import proofs.«01_k».proof.Defs
public import proofs.«01_k».proof.Proof.KernelRun
public import proofs.«01_k».proof.Proof.Pre
public import proofs.«01_k».proof.Proof.RefValue

/-! # The two runs: the reference's ends with no semaphore counter raised, and both end with equal results -/

@[expose] public section

set_option maxRecDepth 16384

noncomputable section

open Idealize.ShloMosaic Idealize.ShloMosaic.TcCoe Idealize.SL.Sem

namespace Cert.Proof.Assemble

/-- The reference has no semaphore. -/
theorem no_semaphore : ∀ sm : SemLoc Cert.ReferenceIdeal.sig, False := by decide

/-- The reference runs, its arguments end unchanged and every counter is zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0) :=
  (θ_run Cert.ReferenceIdeal.defs _ _).mono (fun _ h => ⟨fun c => (h c).2, funext fun s => (no_semaphore s.2).elim⟩)
    (Cert.ReferenceIdeal.Value.run m g)

/-- From arguments that agree, and that satisfy the precondition, kernel and reference end with the same result. -/
theorem algebraic : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.Gen.facts) := by
  intro m g m' g' hpre hargs
  refine ⟨fun c => Cert.KernelIdeal.Gen.W4 m g c (Proc.devRef .tc Cert.KernelIdeal.main_v17), KernelRun.kernel_run m g, ?_⟩
  refine (θ_run Cert.ReferenceIdeal.defs _ _).mono (fun r h c => ?_) (Cert.ReferenceIdeal.Value.run m' g')
  refine ⟨?_, (h c).2⟩
  obtain ⟨h0, h1, h2, h3, h4, h5, h6⟩ := hargs c
  obtain ⟨⟨D, H⟩, lam, hlam⟩ := Pre.exists_data _ _ _ _ _ _ _ (hpre c)
  refine ((h c).1.trans (Cert.ReferenceIdeal.Read.val_main_v176_eq (StableHlo.launchContents m' c))).trans ?_
  change Cert.ReferenceIdeal.Read.val_main_v176 (F := Ideal) (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6)) = _
  rw [h0, h1, h2, h3, h4, h5, h6]
  funext i
  obtain ⟨b, n, k, l, rfl⟩ : ∃ (b : Fin 2) (n : Fin 16640) (k : Fin 4) (l : Fin 128), i = ix3 b n (PrepBody.col k l) := by
    obtain ⟨b, n, j, rfl⟩ : ∃ (b : Fin 2) (n : Fin 16640) (j : Fin 512), i = ix3 b n j := ⟨_, _, _, eq_ix3 i⟩
    refine ⟨b, n, ⟨j.val / 128, by omega⟩, ⟨j.val % 128, by omega⟩, congrArg (ix3 b n) (Fin.ext ?_)⟩
    show j.val = 128 * (j.val / 128) + j.val % 128
    omega
  exact (RefValue.reference_value D _ _ _ _ _ _ _ H lam hlam b n k l).trans (Data.kernel_value D m g c H lam hlam b n k l).symm

end Cert.Proof.Assemble

end
-- ==== Proof.Stream.lean ====
module

public import Idealize.ShloMosaic.Lib.Pointwise

/-! # One normed and modulated row

The formulas both input projections share: a row of the residual stream over the root of its mean square, times the
norm's weight and one plus the modulation's scale, plus the modulation's shift. -/

@[expose] public section

noncomputable section

namespace Cert.Proof.Stream

open Idealize.ShloMosaic

/-- The reciprocal root of a row's mean square. -/
def invRoot (f : Fin 1024 → EReal) : EReal :=
  Ideal.rsqrt (Ideal.div (∑ x, f x * f x) (Ideal.ofBits .f32 0x44800000#32) + Ideal.ofBits .f32 0x358637BD#32)

/-- One lane of a normed and modulated row. -/
def modulated (f w sh sc : Fin 1024 → EReal) (e : Fin 1024) : EReal :=
  f e * invRoot f * (w e * (Ideal.ofBits .f32 0x3F800000#32 + sc e)) + sh e

/-- The same with the weight multiplied in first. -/
theorem modulated_assoc (f w sh sc : Fin 1024 → EReal) (e : Fin 1024) :
    f e * invRoot f * w e * (Ideal.ofBits .f32 0x3F800000#32 + sc e) + sh e = modulated f w sh sc e := by
  rw [modulated, mul_assoc (f e * invRoot f)]

/-- The modulation of row `n`: the context rows take the context's, the others the latent's. -/
def rowMod (n : ℕ) (ctx lat : Fin 3072 → EReal) : Fin 3072 → EReal := if n < 256 then ctx else lat

/-- Lane `e` of third `o` of the modulation. -/
def third (o : Fin 3) (e : Fin 1024) : Fin 3072 := ⟨1024 * o.val + e.val, by omega⟩

/-- Row `n` normed and modulated by its stream's modulation. -/
def streamRow (n : ℕ) (f w : Fin 1024 → EReal) (ctx lat : Fin 3072 → EReal) (e : Fin 1024) : EReal :=
  modulated f w (fun e => rowMod n ctx lat (third 0 e)) (fun e => rowMod n ctx lat (third 1 e)) e

end Cert.Proof.Stream

end

end
-- ==== Proof.EvenBody.lean ====
module

public import proofs.«01_k».proof.Proof.Stream
public import proofs.«01_k».proof.Proof.Gen.EvenIdeal.Value
public import Idealize.ShloMosaic.Lib.Pipeline.Value
import Idealize.ShloMosaic.Lib.Pointwise

/-! # What the even input projection's body leaves

At the first column block of a row block the body leaves the normed and modulated rows in its scratch buffer; the
second column block finds them there. Its output block is their product with the weight's columns. -/

@[expose] public section

set_option maxRecDepth 16384

noncomputable section

namespace Cert.Proof.EvenBody

open Idealize.ShloMosaic Idealize.ShloMosaic.TcCoe Idealize.ShloMosaic.Tactic
open Cert.EvenIdeal Cert.EvenIdeal.Gen Cert.Proof.Stream

section

variable {F : FTy → Type} [FloatOps F] [Named F]

/-- A whole read after a whole store reads what was stored. -/
theorem readCov_cons_whole {Val : EltTy → Type} [∀ e, Nonempty (Val e)] {sig : RefSig} {κ : Kind} {sp : Space}
    {S : Shape} {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h inb w L, View.ld_unit_zero h]

theorem offsets_zero2 : (![0, 0] : Fin 2 → ℕ) = fun _ => 0 := by decide
theorem offsets_zero3 : (![0, 0, 0] : Fin 3 → ℕ) = fun _ => 0 := by decide

/-- The rows of a block of latent rows. -/
def latRows (x0 : Vec F S1x1280x1024 .f32) (x1 : Vec F S1x1x3072 .f32) (x3 : Vec F S1x1024 .f32) : Vec F S1280x1024 .bf16 :=
  k0_pay2 x0 x3 (View.ld x1 (Rect.unit (s := S1x1x3072) ![0, 0, 1024] S1x1x1024.size inb_S1x1x3072_S1x1x1024_0_0_1024))
    (View.ld x1 (Rect.unit (s := S1x1x3072) ![0, 0, 0] S1x1x1024.size inb_S1x1x3072_S1x1x1024_0_0_0))

/-- The rows of a first block, which starts with the context rows. -/
def firstRows (i : grid0.Coords) (x0 : Vec F S1x1280x1024 .f32) (x1 : Vec F S1x1x3072 .f32) (x2 : Vec F S1x3072 .f32)
    (x3 : Vec F S1x1024 .f32) : Vec F S1280x1024 .bf16 :=
  k0_pay1 i (k0_pay4 x0)
    (k0_pay5 (View.ld x1 (Rect.unit (s := S1x1x3072) ![0, 0, 0] S1x1x1024.size inb_S1x1x3072_S1x1x1024_0_0_0)))
    (k0_pay6 (BitVec.ofNat 32 (i 1).val) x3
      (View.ld x1 (Rect.unit (s := S1x1x3072) ![0, 0, 1024] S1x1x1024.size inb_S1x1x3072_S1x1x1024_0_0_1024))
      (View.ld x2 (Rect.unit (s := S1x3072) ![0, 1024] S1x1024.size inb_S1x3072_S1x1024_0_1024)))
    (View.ld x2 (Rect.unit (s := S1x3072) ![0, 0] S1x1024.size inb_S1x3072_S1x1024_0_0))

variable (c : Dev nD) (i : grid0.Coords) (arg3 : Memref sig .tc .vmem S1x1280x1024 .f32) (harg3 : arg3.IsWhole)
    (arg4 : Memref sig .tc .vmem S1x1x3072 .f32) (harg4 : arg4.IsWhole) (arg5 : Memref sig .tc .vmem S1x3072 .f32) (harg5 : arg5.IsWhole)
    (arg6 : Memref sig .tc .vmem S1x1024 .f32) (harg6 : arg6.IsWhole) (arg7 : Memref sig .tc .vmem S1024x2048 .bf16) (harg7 : arg7.IsWhole)
    (arg8 : Memref sig .tc .vmem S1x1280x2048 .bf16) (harg8 : arg8.IsWhole) (arg9 : Memref sig .tc .vmem S1280x1024 .bf16) (harg9 : arg9.IsWhole)
    (x0 : Vec F S1x1280x1024 .f32) (x1 : Vec F S1x1x3072 .f32) (x2 : Vec F S1x3072 .f32) (x3 : Vec F S1x1024 .f32) (x4 : Vec F S1024x2048 .bf16)

theorem scratch_A (hc0 : cond0_0 i) (hc1 : ¬cond0_1 i) :
    sout0_A_0 c i arg3 harg3 arg4 harg4 arg5 harg5 arg6 harg6 arg7 harg7 arg8 harg8 arg9 harg9 hc0 hc1 x0 x1 x2 x3 x4
      = firstRows i x0 x1 x2 x3 := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_unit_zero offsets_zero2]
  simp only [View.readAt_eq_ld, harg3.read_unread, harg4.read_unread, harg5.read_unread, harg6.read_unread,
    View.ld_unit_zero (S := S1x1280x1024) offsets_zero3, View.ld_unit_zero (S := S1x1024) offsets_zero2]
  rfl

theorem scratch_C (hc0 : ¬cond0_0 i) (hc1 : cond0_1 i) :
    sout0_C_0 c i arg3 harg3 arg4 harg4 arg5 harg5 arg6 harg6 arg7 harg7 arg8 harg8 arg9 harg9 hc0 hc1 x0 x1 x2 x3 x4
      = latRows x0 x1 x3 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4)]
  unfold kernelRun0_C
  dsimp only
  sl_unfold_words
  rw [View.canon_unit_zero offsets_zero2]
  simp only [View.readAt_eq_ld, harg3.read_unread, harg4.read_unread, harg6.read_unread,
    View.ld_unit_zero (S := S1x1280x1024) offsets_zero3, View.ld_unit_zero (S := S1x1024) offsets_zero2]
  rfl

theorem out_A (hc0 : cond0_0 i) (hc1 : ¬cond0_1 i) :
    out0_A_5 c i arg3 harg3 arg4 harg4 arg5 harg5 arg6 harg6 arg7 harg7 arg8 harg8 arg9 harg9 hc0 hc1 x0 x1 x2 x3 x4
      = k0_pay3 (firstRows i x0 x1 x2 x3) x4 := by
  unfold out0_A_5
  rw [View.read_writes_eq_canon _ _ _ (cover0_A_5 c i arg3 harg3 arg4 harg4 arg5 harg5 arg6 harg6 arg7 harg7 arg8 harg8 arg9 harg9 hc0 hc1 x0 x1 x2 x3 x4)]
  unfold kernelRun0_A
  dsimp only
  sl_unfold_words
  rw [View.canon_unit_zero offsets_zero3]
  simp only [readCov_cons_whole (S := S1280x1024) _ offsets_zero2, View.readAt_eq_ld, harg3.read_unread, harg4.read_unread,
    harg5.read_unread, harg6.read_unread, harg7.read_unread,
    View.ld_unit_zero (S := S1x1280x1024) offsets_zero3, View.ld_unit_zero (S := S1x1024) offsets_zero2,
    View.ld_unit_zero (S := S1024x2048) offsets_zero2]
  rfl

theorem out_C (hc0 : ¬cond0_0 i) (hc1 : cond0_1 i) :
    out0_C_5 c i arg3 harg3 arg4 harg4 arg5 harg5 arg6 harg6 arg7 harg7 arg8 harg8 arg9 harg9 hc0 hc1 x0 x1 x2 x3 x4
      = k0_pay3 (latRows x0 x1 x3) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4)]
  unfold kernelRun0_C
  dsimp only
  sl_unfold_words
  rw [View.canon_unit_zero offsets_zero3]
  simp only [readCov_cons_whole (S := S1280x1024) _ offsets_zero2, View.readAt_eq_ld, harg3.read_unread, harg4.read_unread,
    harg6.read_unread, harg7.read_unread,
    View.ld_unit_zero (S := S1x1280x1024) offsets_zero3, View.ld_unit_zero (S := S1x1024) offsets_zero2,
    View.ld_unit_zero (S := S1024x2048) offsets_zero2]
  rfl

theorem out_B (hc0 : ¬cond0_0 i) (hc1 : ¬cond0_1 i) (xs0 : Vec F S1280x1024 .bf16) :
    out0_B_5 c i arg3 harg3 arg4 harg4 arg5 harg5 arg6 harg6 arg7 harg7 arg8 harg8 arg9 harg9 hc0 hc1 x0 x1 x2 x3 x4 xs0
      = k0_pay3 xs0 x4 := by
  unfold out0_B_5
  rw [View.read_writes_eq_canon _ _ _ (cover0_B_5 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero offsets_zero3]
  simp only [View.readAt_eq_ld, harg7.read_unread, harg9.read_unread,
    View.ld_unit_zero (S := S1280x1024) offsets_zero2, View.ld_unit_zero (S := S1024x2048) offsets_zero2]

end

section

variable (x0 : Vec Ideal S1x1280x1024 .f32) (x1 : Vec Ideal S1x1x3072 .f32) (x2 : Vec Ideal S1x3072 .f32)
  (x3 : Vec Ideal S1x1024 .f32)

/-- A latent row at a lane. -/
theorem latRows_apply (r : Fin 1280) (e : Fin 1024) :
    latRows x0 x1 x3 (ix2 r e)
      = modulated (fun k => x0 (ix3 0 r k)) (fun k => x3 (ix2 0 k)) (fun k => x1 (ix3 0 0 (third 0 k)))
          (fun k => x1 (ix3 0 0 (third 1 k))) e := by
  unfold modulated invRoot third
  pointwise [latRows, k0_pay2]

theorem select_ctx {α : Type} (r : Fin 1280) (a b : α) :
    Scalar.select (IntOp.cmpi CmpIPredicate.slt (IntOp.addi (Scalar.muli (BitVec.ofNat 32 0) 1280#32) (BitVec.ofNat 32 r.val)) 256#32) a b
      = if r.val < 256 then a else b := by
  by_cases h : r.val < 256
  · rw [if_pos h]
    have : IntOp.cmpi CmpIPredicate.slt (IntOp.addi (Scalar.muli (BitVec.ofNat 32 0) 1280#32) (BitVec.ofNat 32 r.val)) 256#32 = 1#1 := by revert r; decide +kernel
    rw [this]; rfl
  · rw [if_neg h]
    have : IntOp.cmpi CmpIPredicate.slt (IntOp.addi (Scalar.muli (BitVec.ofNat 32 0) 1280#32) (BitVec.ofNat 32 r.val)) 256#32 = 0#1 := by revert r; decide +kernel
    rw [this]; rfl

/-- A row of a first block at a lane. -/
theorem firstRows_apply (i : grid0.Coords) (hi : (i 1).val = 0) (r : Fin 1280) (e : Fin 1024) :
    firstRows i x0 x1 x2 x3 (ix2 r e)
      = streamRow r.val (fun k => x0 (ix3 0 r k)) (fun k => x3 (ix2 0 k)) (fun k => x2 (ix2 0 k)) (fun k => x1 (ix3 0 0 k)) e := by
  unfold streamRow modulated invRoot third rowMod
  pointwise [firstRows, k0_pay1, k0_pay4, k0_pay5, k0_pay6]
  rw [hi]
  simp only [select_ctx]
  by_cases h : r.val < 256
  · simp only [if_pos h]
  · simp only [if_neg h]

/-- The output block is the rows times the weight's columns. -/
theorem product_apply (xs : Vec Ideal S1280x1024 .bf16) (x4 : Vec Ideal S1024x2048 .bf16) (r : Fin 1280) (j : Fin 2048) :
    k0_pay3 xs x4 (ix3 0 r j) = ∑ e : Fin 1024, xs (ix2 r e) * x4 (ix2 e j) := by
  pointwise [k0_pay3]

end

end Cert.Proof.EvenBody

end

end
-- ==== Proof.EvenArray.lean ====
module

public import proofs.«01_k».proof.Proof.EvenBody

/-! # The array the even input projection leaves

The grid runs over the batch entry, the row block and the column block. Row `n` of the array is the normed and
modulated row of the residual stream times the weight. -/

@[expose] public section

set_option maxRecDepth 16384

noncomputable section

namespace Cert.Proof.EvenArray

open Idealize.ShloMosaic Idealize.ShloMosaic.TcCoe Idealize.ShloMosaic.StableHlo
open Idealize.ShloMosaic.Pipeline
open Cert.EvenIdeal Cert.EvenIdeal.Gen Cert.Proof.Stream Cert.Proof.EvenBody

variable (m : (ℓ : Loc nD τ sig) → Buf (Elt Ideal) ℓ)

theorem N_52 : grid0.N = 52 := by decide +kernel

theorem idx0 (t : Fin grid0.N) :
    (win0_0.index t 0 = t.val / 26 ∧ win0_0.index t 1 = t.val / 2 % 13 ∧ win0_0.index t 2 = 0)
    ∧ (win0_1.index t 0 = t.val / 26 ∧ win0_1.index t 1 = 0 ∧ win0_1.index t 2 = 0)
    ∧ (win0_2.index t 0 = 0 ∧ win0_2.index t 1 = 0) := by
  revert t; decide +kernel

theorem idx1 (t : Fin grid0.N) :
    (win0_3.index t 0 = 0 ∧ win0_3.index t 1 = 0)
    ∧ (win0_4.index t 0 = 0 ∧ win0_4.index t 1 = t.val % 2)
    ∧ (win0_5.index t 0 = t.val / 26 ∧ win0_5.index t 1 = t.val / 2 % 13 ∧ win0_5.index t 2 = t.val % 2) := by
  revert t; decide +kernel

theorem coord1 (t : Fin grid0.N) : (grid0.coords t 1).val = t.val / 2 % 13 := by
  revert t; decide +kernel

/-- The batch entry, row and column that row `r` and column `j` of point `t`'s block are. -/
def batch (t : Fin grid0.N) : Fin 2 := ⟨t.val / 26, by have := t.isLt; have := N_52; omega⟩
def row (t : Fin grid0.N) (r : Fin 1280) : Fin 16640 := ⟨t.val / 2 % 13 * 1280 + r.val, by have := r.isLt; omega⟩
def column (t : Fin grid0.N) (j : Fin 2048) : Fin 4096 := ⟨t.val % 2 * 2048 + j.val, by have := j.isLt; omega⟩

abbrev arg0 (c : Dev nD) : Vec Ideal S2x16640x1024 .f32 := m ((c : Thread nD τ).loc main_arg0)
abbrev arg1 (c : Dev nD) : Vec Ideal S2x3072 .f32 := m ((c : Thread nD τ).loc main_arg1)
abbrev arg2 (c : Dev nD) : Vec Ideal S3072 .f32 := m ((c : Thread nD τ).loc main_arg2)
abbrev arg3 (c : Dev nD) : Vec Ideal S1024 .f32 := m ((c : Thread nD τ).loc main_arg3)
abbrev arg4 (c : Dev nD) : Vec Ideal S1024x4096 .f32 := m ((c : Thread nD τ).loc main_arg4)

theorem host0 (c : Dev nD) (b : Fin 2) (k : Fin 3072) : V m c main_v0 (ix3 b 0 k) = arg1 m c (ix2 b k) := by
  unfold V hostOps0
  after_results
  pointwise

theorem host1 (c : Dev nD) (k : Fin 3072) : V m c main_v1 (ix2 0 k) = arg2 m c (ix1 k) := by
  unfold V hostOps0
  after_results
  pointwise

theorem host2 (c : Dev nD) (e : Fin 1024) (j : Fin 4096) : V m c main_v2 (ix2 e j) = arg4 m c (ix2 e j) := by
  unfold V hostOps0
  after_results
  pointwise

theorem host3 (c : Dev nD) (k : Fin 1024) : V m c main_v3 (ix2 0 k) = arg3 m c (ix1 k) := by
  unfold V hostOps0
  after_results
  pointwise

theorem in0 (c : Dev nD) (t : Fin grid0.N) (r : Fin 1280) (k : Fin 1024) :
    iblk m c 0 t (ix3 0 r k) = arg0 m c (ix3 (batch t) (row t r) k) := by
  obtain ⟨⟨h0, h1, h2⟩, -, -⟩ := idx0 t
  refine Eq.trans ?_ (congrFun (V_main_arg0 m c) _)
  show V m c main_arg0 ((win0_0.rect t).emb (ix3 0 r k)) = _
  refine congrArg _ (funext fun a => Fin.ext ?_)
  rw [win0_0.rect_emb_val t (ix3 0 r k) a]
  match a with
  | ⟨0, _⟩ => show win0_0.index t 0 * 1 + 0 = t.val / 26; rw [h0]; omega
  | ⟨1, _⟩ => show win0_0.index t 1 * 1280 + r.val = t.val / 2 % 13 * 1280 + r.val; rw [h1]
  | ⟨2, _⟩ => show win0_0.index t 2 * 1024 + k.val = k.val; rw [h2]; omega

theorem in1 (c : Dev nD) (t : Fin grid0.N) (k : Fin 3072) :
    iblk m c 1 t (ix3 0 0 k) = arg1 m c (ix2 (batch t) k) := by
  obtain ⟨-, ⟨h0, h1, h2⟩, -⟩ := idx0 t
  refine Eq.trans ?_ (host0 m c (batch t) k)
  show V m c main_v0 ((win0_1.rect t).emb (ix3 0 0 k)) = _
  refine congrArg _ (funext fun a => Fin.ext ?_)
  rw [win0_1.rect_emb_val t (ix3 0 0 k) a]
  match a with
  | ⟨0, _⟩ => show win0_1.index t 0 * 1 + 0 = t.val / 26; rw [h0]; omega
  | ⟨1, _⟩ => show win0_1.index t 1 * 1 + 0 = 0; rw [h1]
  | ⟨2, _⟩ => show win0_1.index t 2 * 3072 + k.val = k.val; rw [h2]; omega

theorem in2 (c : Dev nD) (t : Fin grid0.N) (k : Fin 3072) : iblk m c 2 t (ix2 0 k) = arg2 m c (ix1 k) := by
  obtain ⟨-, -, ⟨h0, h1⟩⟩ := idx0 t
  refine Eq.trans ?_ (host1 m c k)
  show V m c main_v1 ((win0_2.rect t).emb (ix2 0 k)) = _
  refine congrArg _ (funext fun a => Fin.ext ?_)
  rw [win0_2.rect_emb_val t (ix2 0 k) a]
  match a with
  | ⟨0, _⟩ => show win0_2.index t 0 * 1 + 0 = 0; rw [h0]
  | ⟨1, _⟩ => show win0_2.index t 1 * 3072 + k.val = k.val; rw [h1]; omega

theorem in3 (c : Dev nD) (t : Fin grid0.N) (k : Fin 1024) : iblk m c 3 t (ix2 0 k) = arg3 m c (ix1 k) := by
  obtain ⟨⟨h0, h1⟩, -, -⟩ := idx1 t
  refine Eq.trans ?_ (host3 m c k)
  show V m c main_v3 ((win0_3.rect t).emb (ix2 0 k)) = _
  refine congrArg _ (funext fun a => Fin.ext ?_)
  rw [win0_3.rect_emb_val t (ix2 0 k) a]
  match a with
  | ⟨0, _⟩ => show win0_3.index t 0 * 1 + 0 = 0; rw [h0]
  | ⟨1, _⟩ => show win0_3.index t 1 * 1024 + k.val = k.val; rw [h1]; omega

theorem in4 (c : Dev nD) (t : Fin grid0.N) (e : Fin 1024) (j : Fin 2048) :
    iblk m c 4 t (ix2 e j) = arg4 m c (ix2 e (column t j)) := by
  obtain ⟨-, ⟨h0, h1⟩, -⟩ := idx1 t
  refine Eq.trans ?_ (host2 m c e (column t j))
  show V m c main_v2 ((win0_4.rect t).emb (ix2 e j)) = _
  refine congrArg _ (funext fun a => Fin.ext ?_)
  rw [win0_4.rect_emb_val t (ix2 e j) a]
  match a with
  | ⟨0, _⟩ => show win0_4.index t 0 * 1024 + e.val = e.val; rw [h0]; omega
  | ⟨1, _⟩ => show win0_4.index t 1 * 2048 + j.val = t.val % 2 * 2048 + j.val; rw [h1]

/-- The normed and modulated row `n` of batch entry `b`. -/
def rowOf (c : Dev nD) (b : Fin 2) (n : Fin 16640) : Fin 1024 → EReal :=
  streamRow n.val (fun k => arg0 m c (ix3 b n k)) (fun k => arg3 m c (ix1 k)) (fun k => arg2 m c (ix1 k)) (fun k => arg1 m c (ix2 b k))

theorem first_block (c : Dev nD) (t : Fin grid0.N) (h : t.val / 2 % 13 = 0) (r : Fin 1280) (e : Fin 1024) :
    firstRows (F := Ideal) (grid0.coords t) (iblk m c 0 t) (iblk m c 1 t) (iblk m c 2 t) (iblk m c 3 t) (ix2 r e) = rowOf m c (batch t) (row t r) e := by
  rw [firstRows_apply _ _ _ _ _ ((coord1 t).trans h)]
  simp only [in0, in1, in2, in3]
  have hr : (row t r).val = r.val := by show t.val / 2 % 13 * 1280 + r.val = r.val; rw [h]; omega
  unfold rowOf
  rw [hr]

theorem later_block (c : Dev nD) (t : Fin grid0.N) (h : ¬t.val / 2 % 13 = 0) (r : Fin 1280) (e : Fin 1024) :
    latRows (F := Ideal) (iblk m c 0 t) (iblk m c 1 t) (iblk m c 3 t) (ix2 r e) = rowOf m c (batch t) (row t r) e := by
  rw [latRows_apply]
  simp only [in0, in1, in3]
  have hr : ¬(row t r).val < 256 := by show ¬t.val / 2 % 13 * 1280 + r.val < 256; omega
  unfold rowOf streamRow rowMod
  rw [if_neg hr]

/-- The scratch rows after an even point: those of its block. -/
theorem scratch_even (c : Dev nD) (t : Fin grid0.N) (h : t.val % 2 = 0) (r : Fin 1280) (e : Fin 1024) :
    (outsAt0 m c t.val t.isLt).2 (ix2 r e) = rowOf m c (batch t) (row t r) e := by
  by_cases h0 : t.val % 26 = 0
  · rw [outsAt0_A m c t h0 (by omega)]
    dsimp only
    rw [scratch_A]
    exact first_block m c t (by omega) r e
  · rw [outsAt0_C m c t h0 (by omega)]
    dsimp only
    rw [scratch_C]
    exact later_block m c t (by omega) r e

/-- One element of point `t`'s output block. -/
theorem block_apply (c : Dev nD) (t : Fin grid0.N) (r : Fin 1280) (j : Fin 2048) :
    (outsAt0 m c t.val t.isLt).1 (ix3 0 r j)
      = ∑ e : Fin 1024, rowOf m c (batch t) (row t r) e * arg4 m c (ix2 e (column t j)) := by
  by_cases h0 : t.val % 26 = 0
  · rw [outsAt0_A m c t h0 (by omega)]
    dsimp only
    rw [out_A, product_apply]
    exact Finset.sum_congr rfl fun e _ => congrArg₂ (· * ·) (first_block m c t (by omega) r e) (in4 m c t e j)
  · by_cases h1 : t.val % 2 = 0
    · rw [outsAt0_C m c t h0 (by omega)]
      dsimp only
      rw [out_C, product_apply]
      exact Finset.sum_congr rfl fun e _ => congrArg₂ (· * ·) (later_block m c t (by omega) r e) (in4 m c t e j)
    · rw [outsAt0_B m c t h0 (by omega)]
      dsimp only
      rw [out_B, product_apply]
      refine Finset.sum_congr rfl fun e _ => congrArg₂ (· * ·) ?_ (in4 m c t e j)
      have hp := scratch_even m c ⟨t.val - 1, by omega⟩ (by show (t.val - 1) % 2 = 0; omega) r e
      refine hp.trans ?_
      have eb : batch ⟨t.val - 1, by omega⟩ = batch t := Fin.ext (by show (t.val - 1) / 26 = t.val / 26; omega)
      have er : row ⟨t.val - 1, by omega⟩ r = row t r := Fin.ext (by
        show (t.val - 1) / 2 % 13 * 1280 + r.val = t.val / 2 % 13 * 1280 + r.val
        have : (t.val - 1) / 2 = t.val / 2 := by omega
        rw [this])
      rw [eb, er]

theorem out5_emb (t : Fin grid0.N) (r : Fin 1280) (j : Fin 2048) :
    (win0_5.rect t).emb (ix3 0 r j) = ix3 (batch t) (row t r) (column t j) := by
  obtain ⟨-, -, ⟨h0, h1, h2⟩⟩ := idx1 t
  refine funext fun a => Fin.ext ?_
  rw [win0_5.rect_emb_val t (ix3 0 r j) a]
  match a with
  | ⟨0, _⟩ => show win0_5.index t 0 * 1 + 0 = t.val / 26; rw [h0]; omega
  | ⟨1, _⟩ => show win0_5.index t 1 * 1280 + r.val = t.val / 2 % 13 * 1280 + r.val; rw [h1]
  | ⟨2, _⟩ => show win0_5.index t 2 * 2048 + j.val = t.val % 2 * 2048 + j.val; rw [h2]

/-- The point and the block row and column of an entry of the array. -/
def pointOf (b : Fin 2) (n : Fin 16640) (q : Fin 4096) : Fin grid0.N :=
  ⟨b.val * 26 + n.val / 1280 * 2 + q.val / 2048, by rw [N_52]; have := b.isLt; have := n.isLt; have := q.isLt; omega⟩

theorem emb_pointOf (b : Fin 2) (n : Fin 16640) (q : Fin 4096) :
    (win0_5.rect (pointOf b n q)).emb (ix3 0 ⟨n.val % 1280, Nat.mod_lt _ (by omega)⟩ ⟨q.val % 2048, Nat.mod_lt _ (by omega)⟩) = ix3 b n q := by
  have hb := b.isLt
  have hn := n.isLt
  have hq := q.isLt
  rw [out5_emb]
  have e0 : batch (pointOf b n q) = b := Fin.ext (by show (b.val * 26 + n.val / 1280 * 2 + q.val / 2048) / 26 = b.val; omega)
  have e1 : row (pointOf b n q) ⟨n.val % 1280, Nat.mod_lt _ (by omega)⟩ = n :=
    Fin.ext (by show (b.val * 26 + n.val / 1280 * 2 + q.val / 2048) / 2 % 13 * 1280 + n.val % 1280 = n.val; omega)
  have e2 : column (pointOf b n q) ⟨q.val % 2048, Nat.mod_lt _ (by omega)⟩ = q :=
    Fin.ext (by show (b.val * 26 + n.val / 1280 * 2 + q.val / 2048) % 2 * 2048 + q.val % 2048 = q.val; omega)
  rw [e0, e1, e2]

/-- The array after the call. -/
theorem array_apply (c : Dev nD) (b : Fin 2) (n : Fin 16640) (q : Fin 4096) :
    (dats m 0 c).arrAt 5 cfg0.N (ix3 b n q) = ∑ e : Fin 1024, rowOf m c b n e * arg4 m c (ix2 e q) := by
  refine (dats m 0 c).arrAt_forall_of_flushed 5
    (fun i v => ∀ (b : Fin 2) (n : Fin 16640) (q : Fin 4096), i = ix3 b n q →
      v = ∑ e : Fin 1024, rowOf m c b n e * arg4 m c (ix2 e q))
    ?_ cfg0.N (pointOf b n q) _ (pointOf b n q).isLt (flush0_5 _) ?_ b n q rfl
  · intro t _ y b n q he
    obtain ⟨r, j, rfl⟩ : ∃ (r : Fin 1280) (j : Fin 2048), y = ix3 0 r j :=
      ⟨y 1, y 2, funext fun a => match a with
        | ⟨0, _⟩ => Subsingleton.elim (α := Fin 1) _ _
        | ⟨1, _⟩ => rfl
        | ⟨2, _⟩ => rfl⟩
    change (win0_5.rect t).emb (ix3 0 r j) = _ at he
    rw [out5_emb] at he
    obtain rfl : batch t = b := congrFun he 0
    obtain rfl : row t r = n := congrFun he 1
    obtain rfl : column t j = q := congrFun he 2
    show (dats m 0 c).after 5 t (ix3 0 r j) = _
    rw [after0_5]
    exact block_apply m c t r j
  · show ix3 b n q ∈ ((View.whole main_v4).slice (win0_5.rect (pointOf b n q))).set
    rw [← emb_pointOf b n q]
    exact ((View.whole main_v4).slice (win0_5.rect (pointOf b n q))).emb_mem_set _

end Cert.Proof.EvenArray

end

end
-- ==== Proof.EvenRef.lean ====
module

public import proofs.«01_k».proof.Proof.Stream
public import proofs.«01_k».proof.Proof.Gen.EvenRefIdeal.Read
import Idealize.ShloMosaic.Lib.Pointwise

/-! # The even projection's reference at an index -/

@[expose] public section

set_option maxRecDepth 16384

noncomputable section

open Idealize.ShloMosaic Idealize.ShloMosaic.TcCoe
open Cert.EvenRefIdeal Cert.EvenRefIdeal.Read
open Cert.Proof.Stream

namespace Cert.Proof.EvenRef

abbrev Rows : Type := (⟨S2x16640x1024, .f32⟩ : BufTy).Contents (Elt Ideal)
abbrev ModL : Type := (⟨S2x3072, .f32⟩ : BufTy).Contents (Elt Ideal)
abbrev ModC : Type := (⟨S3072, .f32⟩ : BufTy).Contents (Elt Ideal)
abbrev NormW : Type := (⟨S1024, .f32⟩ : BufTy).Contents (Elt Ideal)
abbrev InW : Type := (⟨S1024x4096, .f32⟩ : BufTy).Contents (Elt Ideal)

variable (x0 : Rows) (x1 : ModL) (x2 : ModC) (x3 : NormW) (x4 : InW)

theorem latent_row (b : Fin 2) (n : Fin 16384) (e : Fin 1024) :
    val_main_v27 (F := Ideal) x0 x1 x3 (ix3 b n e)
      = modulated (fun k => x0 (ix3 b ⟨256 + n.val, by omega⟩ k)) (fun k => x3 (ix1 k)) (fun k => x1 (ix2 b (third 0 k)))
          (fun k => x1 (ix2 b (third 1 k))) e := by
  rw [← modulated_assoc]
  unfold invRoot third
  pointwise [val_main_v0, val_main_v1, val_main_v6, val_main_v7, val_main_v8, val_main_v9, val_main_v10, val_main_v11, val_main_v12,
    val_main_v13, val_main_v14, val_main_v15, val_main_v16, val_main_v17, val_main_v18, val_main_v19, val_main_v20, val_main_v21,
    val_main_v22, val_main_v23, val_main_v24, val_main_v25, val_main_v26, val_main_v27, val_main_cst, val_main_cst_0, val_main_cst_1,
    val_main_cst_2]

theorem context_row (b : Fin 2) (n : Fin 256) (e : Fin 1024) :
    val_main_v49 (F := Ideal) x0 x2 x3 (ix3 b n e)
      = modulated (fun k => x0 (ix3 b ⟨n.val, by omega⟩ k)) (fun k => x3 (ix1 k)) (fun k => x2 (ix1 (third 0 k)))
          (fun k => x2 (ix1 (third 1 k))) e := by
  rw [← modulated_assoc]
  unfold invRoot third
  pointwise [val_main_v3, val_main_v4, val_main_v28, val_main_v29, val_main_v30, val_main_v31, val_main_v32, val_main_v33, val_main_v34,
    val_main_v35, val_main_v36, val_main_v37, val_main_v38, val_main_v39, val_main_v40, val_main_v41, val_main_v42, val_main_v43,
    val_main_v44, val_main_v45, val_main_v46, val_main_v47, val_main_v48, val_main_v49, val_main_cst_3, val_main_cst_4, val_main_cst_5,
    val_main_cst_6]

theorem context_dot (b : Fin 2) (n : Fin 256) (q : Fin 4096) :
    val_main_v50 (F := Ideal) x0 x2 x3 x4 (ix3 b n q)
      = ∑ e : Fin 1024, val_main_v49 (F := Ideal) x0 x2 x3 (ix3 b n e) * x4 (ix2 e q) := by
  pointwise [val_main_v50]

theorem latent_dot (b : Fin 2) (n : Fin 16384) (q : Fin 4096) :
    val_main_v51 (F := Ideal) x0 x1 x3 x4 (ix3 b n q)
      = ∑ e : Fin 1024, val_main_v27 (F := Ideal) x0 x1 x3 (ix3 b n e) * x4 (ix2 e q) := by
  pointwise [val_main_v51]

theorem rows_joined (b : Fin 2) (n : Fin 16640) (q : Fin 4096) :
    val_main_v53 (F := Ideal) x0 x1 x2 x3 x4 (ix3 b n q)
      = if _ : n.val < 256 then val_main_v50 (F := Ideal) x0 x2 x3 x4 (ix3 b ⟨n.val, by omega⟩ q)
        else val_main_v51 (F := Ideal) x0 x1 x3 x4 (ix3 b ⟨n.val - 256, by omega⟩ q) := by
  pointwise [val_main_v52, val_main_v53]

/-- The reference's result at an index. -/
theorem result_apply (b : Fin 2) (n : Fin 16640) (q : Fin 4096) :
    val_main_v53 (F := Ideal) x0 x1 x2 x3 x4 (ix3 b n q)
      = ∑ e : Fin 1024, streamRow n.val (fun k => x0 (ix3 b n k)) (fun k => x3 (ix1 k)) (fun k => x2 (ix1 k)) (fun k => x1 (ix2 b k)) e
          * x4 (ix2 e q) := by
  rw [rows_joined]
  unfold streamRow rowMod
  by_cases h : n.val < 256
  · rw [dif_pos h]
    simp only [if_pos h]
    rw [context_dot]
    simp only [context_row]
  · rw [dif_neg h]
    simp only [if_neg h]
    rw [latent_dot]
    simp only [latent_row]
    have e1 : (⟨256 + (n.val - 256), by omega⟩ : Fin 16640) = n := Fin.ext (by show 256 + (n.val - 256) = n.val; omega)
    rw [e1]

end Cert.Proof.EvenRef

end

end
-- ==== Proof.EvenClaim.lean ====
module

public import proofs.«01_k».proof.Defs
public import proofs.«01_k».proof.Proof.EvenArray
public import proofs.«01_k».proof.Proof.EvenRef
public import proofs.«01_k».proof.Proof.Gen.EvenRefIdeal.Run

/-! # The even input projection: the reference's run, and both runs with equal results -/

@[expose] public section

set_option maxRecDepth 16384

noncomputable section

open Idealize.ShloMosaic Idealize.ShloMosaic.TcCoe Idealize.SL.Sem

namespace Cert.Proof.EvenClaim

/-- The reference has no semaphore. -/
theorem no_semaphore : ∀ sm : SemLoc Cert.EvenRefIdeal.sig, False := by decide

/-- The reference runs, its arguments end unchanged and every counter is zero. -/
theorem reference_frame (m : (ℓ : Loc Cert.EvenRefIdeal.nD Cert.EvenRefIdeal.τ Cert.EvenRefIdeal.sig) → Buf (Elt Ideal) ℓ)
    (g : Dev Cert.EvenRefIdeal.nD → PrngReg) :
    θ_run (Cert.EvenRefIdeal.defs (F := Ideal)) (onTc (τ := Cert.EvenRefIdeal.τ) (Cert.EvenRefIdeal.main (F := Ideal)))
      ⟨m, fun _ => 0, g⟩ (fun r => (∀ c : Dev Cert.EvenRefIdeal.nD,
      r.2.mem ((c.tc : Thread Cert.EvenRefIdeal.nD Cert.EvenRefIdeal.τ).loc Cert.EvenRefIdeal.main_arg0) = m ((c.tc : Thread Cert.EvenRefIdeal.nD Cert.EvenRefIdeal.τ).loc Cert.EvenRefIdeal.main_arg0)
      ∧ r.2.mem ((c.tc : Thread Cert.EvenRefIdeal.nD Cert.EvenRefIdeal.τ).loc Cert.EvenRefIdeal.main_arg1) = m ((c.tc : Thread Cert.EvenRefIdeal.nD Cert.EvenRefIdeal.τ).loc Cert.EvenRefIdeal.main_arg1)
      ∧ r.2.mem ((c.tc : Thread Cert.EvenRefIdeal.nD Cert.EvenRefIdeal.τ).loc Cert.EvenRefIdeal.main_arg2) = m ((c.tc : Thread Cert.EvenRefIdeal.nD Cert.EvenRefIdeal.τ).loc Cert.EvenRefIdeal.main_arg2)
      ∧ r.2.mem ((c.tc : Thread Cert.EvenRefIdeal.nD Cert.EvenRefIdeal.τ).loc Cert.EvenRefIdeal.main_arg3) = m ((c.tc : Thread Cert.EvenRefIdeal.nD Cert.EvenRefIdeal.τ).loc Cert.EvenRefIdeal.main_arg3)
      ∧ r.2.mem ((c.tc : Thread Cert.EvenRefIdeal.nD Cert.EvenRefIdeal.τ).loc Cert.EvenRefIdeal.main_arg4) = m ((c.tc : Thread Cert.EvenRefIdeal.nD Cert.EvenRefIdeal.τ).loc Cert.EvenRefIdeal.main_arg4))
      ∧ r.2.sem = fun _ => 0) :=
  (θ_run Cert.EvenRefIdeal.defs _ _).mono (fun _ h => ⟨fun c => (h c).2, funext fun s => (no_semaphore s.2).elim⟩)
    (Cert.EvenRefIdeal.Value.run m g)

/-- From arguments that agree, kernel and reference end with the same result. -/
theorem algebraic : Cert.algebraic_EvenIdeal_EvenRefIdeal (hEvenIdeal := Cert.EvenIdeal.Gen.facts)
    (hEvenRefIdeal := Cert.EvenRefIdeal.Gen.facts) := by
  intro m g m' g' _ hargs
  refine ⟨fun c => (Cert.EvenIdeal.Gen.dats m 0 c).arrAt 5 Cert.EvenIdeal.cfg0.N, Cert.EvenIdeal.Value.run_blocks m g, ?_⟩
  refine (θ_run Cert.EvenRefIdeal.defs _ _).mono (fun r h c => ?_) (Cert.EvenRefIdeal.Value.run m' g')
  refine ⟨?_, (h c).2⟩
  obtain ⟨h0, h1, h2, h3, h4⟩ := hargs c
  refine ((h c).1.trans (Cert.EvenRefIdeal.Read.val_main_v53_eq _ _ _ _ _)).trans ?_
  change Cert.EvenRefIdeal.Read.val_main_v53 (F := Ideal)
    (m' ((c.tc : Thread Cert.EvenRefIdeal.nD Cert.EvenRefIdeal.τ).loc Cert.EvenRefIdeal.main_arg0))
    (m' ((c.tc : Thread Cert.EvenRefIdeal.nD Cert.EvenRefIdeal.τ).loc Cert.EvenRefIdeal.main_arg1))
    (m' ((c.tc : Thread Cert.EvenRefIdeal.nD Cert.EvenRefIdeal.τ).loc Cert.EvenRefIdeal.main_arg2))
    (m' ((c.tc : Thread Cert.EvenRefIdeal.nD Cert.EvenRefIdeal.τ).loc Cert.EvenRefIdeal.main_arg3))
    (m' ((c.tc : Thread Cert.EvenRefIdeal.nD Cert.EvenRefIdeal.τ).loc Cert.EvenRefIdeal.main_arg4)) = _
  rw [h0, h1, h2, h3, h4]
  funext i
  obtain ⟨b, n, q, rfl⟩ : ∃ (b : Fin 2) (n : Fin 16640) (q : Fin 4096), i = ix3 b n q := ⟨_, _, _, eq_ix3 i⟩
  exact (EvenRef.result_apply _ _ _ _ _ b n q).trans (EvenArray.array_apply m c b n q).symm

end Cert.Proof.EvenClaim

end

end
-- ==== Proof.Silu.lean ====
module

public import Idealize.ShloMosaic.Lib.Pointwise
public import Mathlib.Analysis.SpecialFunctions.Pow.Real

/-! # The gate x · 1 / (1 + exp(-x)) over the extended reals

The kernel takes the exponential to the base 2 of x · (-1 / ln 2), the reference the natural one of -x. The two
exponentials are equal at every extended real. -/

@[expose] public section

set_option maxRecDepth 16384

noncomputable section

open Idealize.ShloMosaic

namespace Cert.Proof.Silu

/-- The kernel's exponential is the reference's. -/
theorem exp2_neg (x : EReal) : Ideal.exp2 (x * ((-((Real.log 2)⁻¹) : ℝ) : EReal)) = Ideal.exp (-x) := by
  have hl : (0 : ℝ) < Real.log 2 := Real.log_pos (by norm_num)
  have hn : -((Real.log 2)⁻¹) < (0 : ℝ) := neg_lt_zero.mpr (inv_pos.mpr hl)
  induction x using EReal.rec with
  | bot => rw [EReal.bot_mul_coe_of_neg hn, EReal.neg_bot]; rfl
  | top => rw [EReal.top_mul_coe_of_neg hn, EReal.neg_top]; rfl
  | coe r =>
    rw [← EReal.coe_mul, ← EReal.coe_neg, Ideal.exp2_coe, Ideal.exp_coe]
    congr 1
    change (2 : ℝ) ^ (r * -((Real.log 2)⁻¹)) = _
    rw [Real.rpow_def_of_pos (by norm_num)]
    congr 1
    field_simp

/-- The gate. -/
def silu (x : EReal) : EReal := x * Ideal.div 1 (1 + Ideal.exp (-x))

/-- The gate as the kernel takes it. -/
theorem silu_exp2 (x : EReal) : x * Ideal.div 1 (1 + Ideal.exp2 (x * ((-((Real.log 2)⁻¹) : ℝ) : EReal))) = silu x := by
  rw [exp2_neg, silu]

end Cert.Proof.Silu

end

end
-- ==== Proof.FinishRow.lean ====
module

public import proofs.«01_k».proof.Proof.Stream
public import proofs.«01_k».proof.Proof.Silu

/-! # One row of the result

The scans' row is gated, normed in eight groups of 256 lanes and projected; the product, scaled by the modulation's
gate, is added to the residual stream, and the sum is normed once more. -/

@[expose] public section

set_option maxRecDepth 16384

noncomputable section

open Idealize.ShloMosaic
open Cert.Proof.Stream Cert.Proof.Silu

namespace Cert.Proof.FinishRow

/-- Lane `l` of group `j` among the 2048 lanes. -/
def lane (j : Fin 8) (l : Fin 256) : Fin 2048 := ⟨j.val * 256 + l.val, by omega⟩

/-- One lane of a group over the root of the group's mean square, times its weight. -/
def groupNormed (g w : Fin 256 → EReal) (l : Fin 256) : EReal :=
  g l * Ideal.rsqrt (Ideal.div (∑ u, g u * g u) (Ideal.ofBits .f32 0x43800000#32) + Ideal.ofBits .f32 0x358637BD#32) * w l

/-- Lane `k` of a gated row, normed in its group. -/
def normedRow (g w : Fin 2048 → EReal) (k : Fin 2048) : EReal :=
  groupNormed (fun u => g (lane ⟨k.val / 256, by omega⟩ u)) (fun u => w (lane ⟨k.val / 256, by omega⟩ u)) ⟨k.val % 256, by omega⟩

theorem normedRow_lane (g w : Fin 2048 → EReal) (j : Fin 8) (l : Fin 256) :
    normedRow g w (lane j l) = groupNormed (fun u => g (lane j u)) (fun u => w (lane j u)) l := by
  have e1 : (⟨(lane j l).val / 256, by omega⟩ : Fin 8) = j := Fin.ext (by show (j.val * 256 + l.val) / 256 = j.val; omega)
  have e2 : (⟨(lane j l).val % 256, by omega⟩ : Fin 256) = l := Fin.ext (by show (j.val * 256 + l.val) % 256 = l.val; omega)
  rw [normedRow, e1, e2]

/-- The residual row with the gated product added, normed. -/
def finalRow (h gate p w : Fin 1024 → EReal) (e : Fin 1024) : EReal :=
  (h e + gate e * p e) * invRoot (fun e => h e + gate e * p e) * w e

end Cert.Proof.FinishRow

end

end
-- ==== Proof.OutBody.lean ====
module

public import proofs.«01_k».proof.Proof.FinishRow
public import proofs.«01_k».proof.Proof.Gen.OutIdeal.Value
public import Idealize.ShloMosaic.Lib.Pipeline.Value
public import Idealize.ShloMosaic.Lib.Pipeline.ValueKit.Tiles
import Idealize.ShloMosaic.Lib.Pointwise

/-! # What the last call's body leaves -/

@[expose] public section

set_option maxRecDepth 16384

noncomputable section

namespace Cert.Proof.OutBody

open Idealize.ShloMosaic Idealize.ShloMosaic.TcCoe Idealize.ShloMosaic.Tactic
open Cert.OutIdeal Cert.OutIdeal.Gen Cert.Proof.Silu Cert.Proof.Stream Cert.Proof.FinishRow

theorem offsets_zero2 : (![0, 0] : Fin 2 → ℕ) = fun _ => 0 := by decide
theorem offsets_zero3 : (![0, 0, 0] : Fin 3 → ℕ) = fun _ => 0 := by decide

section

variable {F : FTy → Type} [FloatOps F] [Named F]
variable (c : Dev nD) (i : grid0.Coords) (arg2 : Memref sig .tc .vmem S1x256x2048 .f32) (harg2 : arg2.IsWhole)
  (arg3 : Memref sig .tc .vmem S1x256x2048 .f32) (harg3 : arg3.IsWhole) (arg4 : Memref sig .tc .vmem S1x256x2048 .bf16) (harg4 : arg4.IsWhole)
  (arg5 : Memref sig .tc .vmem S1x256x2048 .bf16) (harg5 : arg5.IsWhole) (arg6 : Memref sig .tc .vmem S1x256x1024 .f32) (harg6 : arg6.IsWhole)
  (arg7 : Memref sig .tc .vmem S1x256x1024 .f32) (harg7 : arg7.IsWhole) (arg8 : Memref sig .tc .vmem S1x2048 .f32) (harg8 : arg8.IsWhole)
  (arg9 : Memref sig .tc .vmem S2048x1024 .bf16) (harg9 : arg9.IsWhole) (arg10 : Memref sig .tc .vmem S1x1x3072 .f32) (harg10 : arg10.IsWhole)
  (arg11 : Memref sig .tc .vmem S1x1024 .f32) (harg11 : arg11.IsWhole) (arg12 : Memref sig .tc .vmem S1x512x1024 .f32) (harg12 : arg12.IsWhole)
  (arg13 : Memref sig .tc .vmem S512x2048 .bf16) (harg13 : arg13.IsWhole)
  (x0 x1 : Vec F S1x256x2048 .f32) (x2 x3 : Vec F S1x256x2048 .bf16) (x4 x5 : Vec F S1x256x1024 .f32) (x6 : Vec F S1x2048 .f32)
  (x7 : Vec F S2048x1024 .bf16) (x8 : Vec F S1x1x3072 .f32) (x9 : Vec F S1x1024 .f32)

/-- The sixteen tiles the body stores into its scratch buffer, the last first: two blocks of 256 rows, eight groups of 256 lanes. -/
def tiles (x0 x1 : Vec F S1x256x2048 .f32) (x2 x3 : Vec F S1x256x2048 .bf16) (x6 : Vec F S1x2048 .f32) :
    List (View.Piece (Elt F) S512x2048 .bf16) :=
  [⟨Rect.unit ![256, 1792] S256x256.size inb_S512x2048_S256x256_256_1792, k0_pay27 (k0_pay15 x1 x3) (View.ld x6 (Rect.unit ![0, 1792] S1x256.size inb_S1x2048_S1x256_0_1792))⟩,
   ⟨Rect.unit ![256, 1536] S256x256.size inb_S512x2048_S256x256_256_1536, k0_pay26 (k0_pay15 x1 x3) (View.ld x6 (Rect.unit ![0, 1536] S1x256.size inb_S1x2048_S1x256_0_1536))⟩,
   ⟨Rect.unit ![256, 1280] S256x256.size inb_S512x2048_S256x256_256_1280, k0_pay25 (k0_pay24 (k0_pay15 x1 x3) (View.ld x6 (Rect.unit ![0, 1280] S1x256.size inb_S1x2048_S1x256_0_1280)))⟩,
   ⟨Rect.unit ![256, 1024] S256x256.size inb_S512x2048_S256x256_256_1024, k0_pay23 (k0_pay15 x1 x3) (View.ld x6 (Rect.unit ![0, 1024] S1x256.size inb_S1x2048_S1x256_0_1024))⟩,
   ⟨Rect.unit ![256, 768] S256x256.size inb_S512x2048_S256x256_256_768, k0_pay22 (k0_pay21 (k0_pay15 x1 x3)) (View.ld x6 (Rect.unit ![0, 768] S1x256.size inb_S1x2048_S1x256_0_768))⟩,
   ⟨Rect.unit ![256, 512] S256x256.size inb_S512x2048_S256x256_256_512, k0_pay20 (k0_pay15 x1 x3) (View.ld x6 (Rect.unit ![0, 512] S1x256.size inb_S1x2048_S1x256_0_512))⟩,
   ⟨Rect.unit ![256, 256] S256x256.size inb_S512x2048_S256x256_256_256, k0_pay19 (k0_pay17 x1 x3) (k0_pay18 x1 x3) (Scalar.ofBits .f32 0x358637BD#32) (View.ld x6 (Rect.unit ![0, 256] S1x256.size inb_S1x2048_S1x256_0_256))⟩,
   ⟨Rect.unit ![256, 0] S256x256.size inb_S512x2048_S256x256_256_0, k0_pay16 x1 x3 (View.ld x6 (Rect.unit ![0, 0] S1x256.size inb_S1x2048_S1x256_0_0))⟩,
   ⟨Rect.unit ![0, 1792] S256x256.size inb_S512x2048_S256x256_0_1792, k0_pay14 (k0_pay2 x0 x2) (View.ld x6 (Rect.unit ![0, 1792] S1x256.size inb_S1x2048_S1x256_0_1792))⟩,
   ⟨Rect.unit ![0, 1536] S256x256.size inb_S512x2048_S256x256_0_1536, k0_pay13 (k0_pay2 x0 x2) (View.ld x6 (Rect.unit ![0, 1536] S1x256.size inb_S1x2048_S1x256_0_1536))⟩,
   ⟨Rect.unit ![0, 1280] S256x256.size inb_S512x2048_S256x256_0_1280, k0_pay12 (k0_pay11 (k0_pay2 x0 x2) (View.ld x6 (Rect.unit ![0, 1280] S1x256.size inb_S1x2048_S1x256_0_1280)))⟩,
   ⟨Rect.unit ![0, 1024] S256x256.size inb_S512x2048_S256x256_0_1024, k0_pay10 (k0_pay2 x0 x2) (View.ld x6 (Rect.unit ![0, 1024] S1x256.size inb_S1x2048_S1x256_0_1024))⟩,
   ⟨Rect.unit ![0, 768] S256x256.size inb_S512x2048_S256x256_0_768, k0_pay9 (k0_pay8 (k0_pay2 x0 x2)) (View.ld x6 (Rect.unit ![0, 768] S1x256.size inb_S1x2048_S1x256_0_768))⟩,
   ⟨Rect.unit ![0, 512] S256x256.size inb_S512x2048_S256x256_0_512, k0_pay7 (k0_pay2 x0 x2) (View.ld x6 (Rect.unit ![0, 512] S1x256.size inb_S1x2048_S1x256_0_512))⟩,
   ⟨Rect.unit ![0, 256] S256x256.size inb_S512x2048_S256x256_0_256, k0_pay6 (k0_pay4 x0 x2) (k0_pay5 x0 x2) (View.ld x6 (Rect.unit ![0, 256] S1x256.size inb_S1x2048_S1x256_0_256))⟩,
   ⟨Rect.unit ![0, 0] S256x256.size inb_S512x2048_S256x256_0_0, k0_pay3 x0 x2 (View.ld x6 (Rect.unit ![0, 0] S1x256.size inb_S1x2048_S1x256_0_0))⟩]

/-- What the body reads back from the scratch buffer. -/
def rows (x0 x1 : Vec F S1x256x2048 .f32) (x2 x3 : Vec F S1x256x2048 .bf16) (x6 : Vec F S1x2048 .f32) : Vec F S512x2048 .bf16 :=
  View.canon (tiles x0 x1 x2 x3 x6)

theorem tiles_cover (y : S512x2048.Idx) : ∃ p ∈ tiles x0 x1 x2 x3 x6, y ∈ p.1.set :=
  View.cover_of_tiledL (tiles x0 x1 x2 x3 x6) S256x256.size (by sl_kernel_rfl) y

/-- The gate's part of the modulation. -/
def gate (x8 : Vec F S1x1x3072 .f32) : Vec F S1x1x1024 .f32 :=
  View.ld x8 (Rect.unit (s := S1x1x3072) ![0, 0, 2048] S1x1x1024.size inb_S1x1x3072_S1x1x1024_0_0_2048)

/-- The two halves the body stores, from the normed rows. -/
def halves (s : Vec F S512x2048 .bf16) (x4 x5 : Vec F S1x256x1024 .f32) (x7 : Vec F S2048x1024 .bf16) (x8 : Vec F S1x1x3072 .f32)
    (x9 : Vec F S1x1024 .f32) : List (View.Piece (Elt F) S1x512x1024 .f32) :=
  [⟨Rect.unit ![0, 256, 0] S1x256x1024.size inb_S1x512x1024_S1x256x1024_0_256_0, k0_pay1 (k0_pay31 s x7 (gate x8) x5) (k0_pay32 s x7 (gate x8) x5) x9⟩,
   ⟨Rect.unit ![0, 0, 0] S1x256x1024.size inb_S1x512x1024_S1x256x1024_0_0_0, k0_pay30 s x7 (gate x8) x4 x9⟩]

theorem out_A : out0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9
      = View.canon (halves (rows x0 x1 x2 x3 x6) x4 x5 x7 x8 x9) := by
  have hr : arg13.view.readCov (tiles x0 x1 x2 x3 x6) (Rect.unit (s := S512x2048) ![0, 0] S512x2048.size inb_S512x2048_S512x2048_0_0).toLoadRect
      = rows x0 x1 x2 x3 x6 := by
    rw [View.readCov_eq_canon_ld _ _ _ (tiles_cover x0 x1 x2 x3 x6), View.ld_unit_zero offsets_zero2]
    rfl
  rw [← hr]
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9)]
  unfold kernelRun0_A
  dsimp only
  sl_unfold_words
  simp only [View.readAt_eq_ld, harg2.read_unread, harg3.read_unread, harg4.read_unread, harg5.read_unread, harg6.read_unread, harg7.read_unread,
    harg8.read_unread, harg9.read_unread, harg10.read_unread, harg11.read_unread,
    View.ld_unit_zero (S := S1x256x2048) offsets_zero3, View.ld_unit_zero (S := S1x256x1024) offsets_zero3,
    View.ld_unit_zero (S := S2048x1024) offsets_zero2, View.ld_unit_zero (S := S1x1024) offsets_zero2]
  rfl

end

section

variable (x0 x1 : Vec Ideal S1x256x2048 .f32) (x2 x3 : Vec Ideal S1x256x2048 .bf16) (x6 : Vec Ideal S1x2048 .f32)

/-- The literal the kernel multiplies the gate's argument by. -/
theorem named_log2e : (Named.named κ "log2e" 0xBFB8AA3B#32 : Ideal .f32) = ((-((Real.log 2)⁻¹) : ℝ) : EReal) := rfl

theorem gated_first (r : Fin 256) (k : Fin 2048) : k0_pay2 x0 x2 (ix2 r k) = x0 (ix3 0 r k) * silu (x2 (ix3 0 r k)) := by
  rw [← silu_exp2, ← named_log2e]
  pointwise [k0_pay2]
  rfl

theorem gated_second (r : Fin 256) (k : Fin 2048) : k0_pay15 x1 x3 (ix2 r k) = x1 (ix3 0 r k) * silu (x3 (ix3 0 r k)) := by
  rw [← silu_exp2, ← named_log2e]
  pointwise [k0_pay15]
  rfl

/-- The gated rows of one half of the block. -/
def gatedHalf (h : Fin 2) : FVec Ideal S256x2048 .f32 := match h with
  | ⟨0, _⟩ => k0_pay2 x0 x2
  | ⟨_ + 1, _⟩ => k0_pay15 x1 x3

/-- Row `n` and lane `k` of the normed rows. -/
def normedAt (n : Fin 512) (k : Fin 2048) : EReal :=
  normedRow (fun k => gatedHalf x0 x1 x2 x3 ⟨n.val / 256, by omega⟩ (ix2 ⟨n.val % 256, by omega⟩ k)) (fun k => x6 (ix2 0 k)) k

/-- A tile whose entries are the normed groups' is the normed rows at its place. -/
theorem tile_at (h : Fin 2) (j : Fin 8) (r l : Fin 256) {n : Fin 512} {k : Fin 2048} (hn : n.val = 256 * h.val + r.val)
    (hk : k.val = 256 * j.val + l.val) {e : EReal}
    (he : e = groupNormed (fun u => gatedHalf x0 x1 x2 x3 h (ix2 r (lane j u))) (fun u => x6 (ix2 0 (lane j u))) l) :
    e = normedAt x0 x1 x2 x3 x6 n k := by
  obtain rfl : k = lane j l := Fin.ext (by show k.val = j.val * 256 + l.val; omega)
  have e0 : (⟨n.val / 256, by omega⟩ : Fin 2) = h := Fin.ext (by show n.val / 256 = h.val; omega)
  have e1 : (⟨n.val % 256, by omega⟩ : Fin 256) = r := Fin.ext (by show n.val % 256 = r.val; omega)
  rw [he, normedAt, normedRow_lane, e0, e1]

/-- The scratch rows: each group of 256 lanes of the gated rows, normed. -/
theorem rows_apply (n : Fin 512) (k : Fin 2048) : rows x0 x1 x2 x3 x6 (ix2 n k) = normedAt x0 x1 x2 x3 x6 n k := by
  unfold rows tiles
  canon_tiles x hx
  all_goals
    obtain ⟨r, l, rfl⟩ : ∃ r l : Fin 256, x = ix2 r l := ⟨_, _, eq_ix2 x⟩
  · refine tile_at x0 x1 x2 x3 x6 1 7 r l (by change n.val = (256 : ℕ) + r.val at hx0; simpa using hx0) (by change k.val = (1792 : ℕ) + l.val at hx1; simpa using hx1) ?_
    unfold gatedHalf groupNormed lane
    pointwise [k0_pay27]
  · refine tile_at x0 x1 x2 x3 x6 1 6 r l (by change n.val = (256 : ℕ) + r.val at hx0; simpa using hx0) (by change k.val = (1536 : ℕ) + l.val at hx1; simpa using hx1) ?_
    unfold gatedHalf groupNormed lane
    pointwise [k0_pay26]
  · refine tile_at x0 x1 x2 x3 x6 1 5 r l (by change n.val = (256 : ℕ) + r.val at hx0; simpa using hx0) (by change k.val = (1280 : ℕ) + l.val at hx1; simpa using hx1) ?_
    unfold gatedHalf groupNormed lane
    pointwise [k0_pay25, k0_pay24]
  · refine tile_at x0 x1 x2 x3 x6 1 4 r l (by change n.val = (256 : ℕ) + r.val at hx0; simpa using hx0) (by change k.val = (1024 : ℕ) + l.val at hx1; simpa using hx1) ?_
    unfold gatedHalf groupNormed lane
    pointwise [k0_pay23]
  · refine tile_at x0 x1 x2 x3 x6 1 3 r l (by change n.val = (256 : ℕ) + r.val at hx0; simpa using hx0) (by change k.val = (768 : ℕ) + l.val at hx1; simpa using hx1) ?_
    unfold gatedHalf groupNormed lane
    pointwise [k0_pay22, k0_pay21]
  · refine tile_at x0 x1 x2 x3 x6 1 2 r l (by change n.val = (256 : ℕ) + r.val at hx0; simpa using hx0) (by change k.val = (512 : ℕ) + l.val at hx1; simpa using hx1) ?_
    unfold gatedHalf groupNormed lane
    pointwise [k0_pay20]
  · refine tile_at x0 x1 x2 x3 x6 1 1 r l (by change n.val = (256 : ℕ) + r.val at hx0; simpa using hx0) (by change k.val = (256 : ℕ) + l.val at hx1; simpa using hx1) ?_
    unfold gatedHalf groupNormed lane
    pointwise [k0_pay19, k0_pay17, k0_pay18]
  · refine tile_at x0 x1 x2 x3 x6 1 0 r l (by change n.val = (256 : ℕ) + r.val at hx0; simpa using hx0) (by change k.val = l.val at hx1; simpa using hx1) ?_
    unfold gatedHalf groupNormed lane
    pointwise [k0_pay16]
  · refine tile_at x0 x1 x2 x3 x6 0 7 r l (by change n.val = r.val at hx0; simpa using hx0) (by change k.val = (1792 : ℕ) + l.val at hx1; simpa using hx1) ?_
    unfold gatedHalf groupNormed lane
    pointwise [k0_pay14]
  · refine tile_at x0 x1 x2 x3 x6 0 6 r l (by change n.val = r.val at hx0; simpa using hx0) (by change k.val = (1536 : ℕ) + l.val at hx1; simpa using hx1) ?_
    unfold gatedHalf groupNormed lane
    pointwise [k0_pay13]
  · refine tile_at x0 x1 x2 x3 x6 0 5 r l (by change n.val = r.val at hx0; simpa using hx0) (by change k.val = (1280 : ℕ) + l.val at hx1; simpa using hx1) ?_
    unfold gatedHalf groupNormed lane
    pointwise [k0_pay12, k0_pay11]
  · refine tile_at x0 x1 x2 x3 x6 0 4 r l (by change n.val = r.val at hx0; simpa using hx0) (by change k.val = (1024 : ℕ) + l.val at hx1; simpa using hx1) ?_
    unfold gatedHalf groupNormed lane
    pointwise [k0_pay10]
  · refine tile_at x0 x1 x2 x3 x6 0 3 r l (by change n.val = r.val at hx0; simpa using hx0) (by change k.val = (768 : ℕ) + l.val at hx1; simpa using hx1) ?_
    unfold gatedHalf groupNormed lane
    pointwise [k0_pay9, k0_pay8]
  · refine tile_at x0 x1 x2 x3 x6 0 2 r l (by change n.val = r.val at hx0; simpa using hx0) (by change k.val = (512 : ℕ) + l.val at hx1; simpa using hx1) ?_
    unfold gatedHalf groupNormed lane
    pointwise [k0_pay7]
  · refine tile_at x0 x1 x2 x3 x6 0 1 r l (by change n.val = r.val at hx0; simpa using hx0) (by change k.val = (256 : ℕ) + l.val at hx1; simpa using hx1) ?_
    unfold gatedHalf groupNormed lane
    pointwise [k0_pay6, k0_pay4, k0_pay5]
  · refine tile_at x0 x1 x2 x3 x6 0 0 r l (by change n.val = r.val at hx0; simpa using hx0) (by change k.val = l.val at hx1; simpa using hx1) ?_
    unfold gatedHalf groupNormed lane
    pointwise [k0_pay3]

variable (s : Vec Ideal S512x2048 .bf16) (x4 x5 : Vec Ideal S1x256x1024 .f32) (x7 : Vec Ideal S2048x1024 .bf16)
  (x8 : Vec Ideal S1x1x3072 .f32) (x9 : Vec Ideal S1x1024 .f32)

theorem product_apply (n : Fin 512) (e : Fin 1024) : k0_pay28 s x7 (ix2 n e) = ∑ k : Fin 2048, s (ix2 n k) * x7 (ix2 k e) := by
  pointwise [k0_pay28]

/-- The first 256 rows of the block. -/
theorem first_half (r : Fin 256) (q : Fin 1024) :
    View.canon (halves s x4 x5 x7 x8 x9) (ix3 0 ⟨r.val, by omega⟩ q)
      = finalRow (fun e => x4 (ix3 0 r e)) (fun e => x8 (ix3 0 0 (third 2 e))) (fun e => k0_pay28 s x7 (ix2 ⟨r.val, by omega⟩ e))
          (fun e => x9 (ix2 0 e)) q := by
  unfold halves
  canon_tiles x hx
  · change r.val = 256 + (x 1).val at hx1
    omega
  · change 0 = (x 0).val at hx0
    change r.val = (x 1).val at hx1
    change q.val = (x 2).val at hx2
    obtain rfl : x = ix3 0 r q := by
      funext a; fin_cases a
      · exact Fin.ext hx0.symm
      · exact Fin.ext hx1.symm
      · exact Fin.ext hx2.symm
    unfold finalRow invRoot third
    pointwise [k0_pay30, k0_pay29, gate]

/-- The last 256 rows of the block. -/
theorem second_half (r : Fin 256) (q : Fin 1024) :
    View.canon (halves s x4 x5 x7 x8 x9) (ix3 0 ⟨256 + r.val, by omega⟩ q)
      = finalRow (fun e => x5 (ix3 0 r e)) (fun e => x8 (ix3 0 0 (third 2 e))) (fun e => k0_pay28 s x7 (ix2 ⟨256 + r.val, by omega⟩ e))
          (fun e => x9 (ix2 0 e)) q := by
  unfold halves
  canon_tiles x hx
  · change 0 = (x 0).val at hx0
    change 256 + r.val = 256 + (x 1).val at hx1
    change q.val = (x 2).val at hx2
    obtain rfl : x = ix3 0 r q := by
      funext a; fin_cases a
      · exact Fin.ext hx0.symm
      · exact Fin.ext (by show (x 1).val = r.val; omega)
      · exact Fin.ext hx2.symm
    unfold finalRow invRoot third
    pointwise [k0_pay1, k0_pay31, k0_pay32, k0_pay29, gate]
  · change 256 + r.val = (x 1).val at hx1
    change (x 1).val < 256 at x1_lt
    omega

end

end Cert.Proof.OutBody

end

end
-- ==== Proof.OutArray.lean ====
module

public import proofs.«01_k».proof.Proof.OutBody

/-! # The array the last call leaves

The grid runs over the batch entry and the block of 512 latent rows. -/

@[expose] public section

set_option maxRecDepth 16384

noncomputable section

namespace Cert.Proof.OutArray

open Idealize.ShloMosaic Idealize.ShloMosaic.TcCoe Idealize.ShloMosaic.StableHlo
open Idealize.ShloMosaic.Pipeline
open Cert.OutIdeal Cert.OutIdeal.Gen Cert.Proof.Stream Cert.Proof.Silu Cert.Proof.FinishRow Cert.Proof.OutBody

variable (m : (ℓ : Loc nD τ sig) → Buf (Elt Ideal) ℓ)

theorem N_64 : grid0.N = 64 := by decide +kernel

theorem idx0 (t : Fin grid0.N) :
    (win0_0.index t 0 = t.val / 32 ∧ win0_0.index t 1 = t.val % 32 * 2 + 1 ∧ win0_0.index t 2 = 0)
    ∧ (win0_1.index t 0 = t.val / 32 ∧ win0_1.index t 1 = t.val % 32 * 2 + 2 ∧ win0_1.index t 2 = 0)
    ∧ (win0_2.index t 0 = t.val / 32 ∧ win0_2.index t 1 = t.val % 32 * 2 + 1 ∧ win0_2.index t 2 = 0)
    ∧ (win0_3.index t 0 = t.val / 32 ∧ win0_3.index t 1 = t.val % 32 * 2 + 2 ∧ win0_3.index t 2 = 0) := by
  revert t; decide +kernel

theorem idx1 (t : Fin grid0.N) :
    (win0_4.index t 0 = t.val / 32 ∧ win0_4.index t 1 = t.val % 32 * 2 + 1 ∧ win0_4.index t 2 = 0)
    ∧ (win0_5.index t 0 = t.val / 32 ∧ win0_5.index t 1 = t.val % 32 * 2 + 2 ∧ win0_5.index t 2 = 0)
    ∧ (win0_8.index t 0 = t.val / 32 ∧ win0_8.index t 1 = 0 ∧ win0_8.index t 2 = 0)
    ∧ (win0_10.index t 0 = t.val / 32 ∧ win0_10.index t 1 = t.val % 32 ∧ win0_10.index t 2 = 0) := by
  revert t; decide +kernel

theorem idx2 (t : Fin grid0.N) :
    (win0_6.index t 0 = 0 ∧ win0_6.index t 1 = 0) ∧ (win0_7.index t 0 = 0 ∧ win0_7.index t 1 = 0)
    ∧ (win0_9.index t 0 = 0 ∧ win0_9.index t 1 = 0) := by
  revert t; decide +kernel

/-- The batch entry and latent row that row `n` of point `t`'s block is. -/
def batch (t : Fin grid0.N) : Fin 2 := ⟨t.val / 32, by have := t.isLt; have := N_64; omega⟩
def row (t : Fin grid0.N) (n : Fin 512) : Fin 16384 := ⟨t.val % 32 * 512 + n.val, by have := n.isLt; omega⟩

/-- Latent row `n` in the joined stream. -/
def joined (n : Fin 16384) : Fin 16640 := ⟨256 + n.val, by have := n.isLt; omega⟩

/-- Row `r` of half `h` of a block. -/
def half (h : Fin 2) (r : Fin 256) : Fin 512 := ⟨256 * h.val + r.val, by have := h.isLt; have := r.isLt; omega⟩

abbrev arg0 (c : Dev nD) : Vec Ideal S2x16640x2048 .f32 := m ((c : Thread nD τ).loc main_arg0)
abbrev arg1 (c : Dev nD) : Vec Ideal S2x16640x6144 .bf16 := m ((c : Thread nD τ).loc main_arg1)
abbrev arg2 (c : Dev nD) : Vec Ideal S2x16640x1024 .f32 := m ((c : Thread nD τ).loc main_arg2)
abbrev arg3 (c : Dev nD) : Vec Ideal S2x3072 .f32 := m ((c : Thread nD τ).loc main_arg3)
abbrev arg4 (c : Dev nD) : Vec Ideal S2048 .f32 := m ((c : Thread nD τ).loc main_arg4)
abbrev arg5 (c : Dev nD) : Vec Ideal S2048x1024 .f32 := m ((c : Thread nD τ).loc main_arg5)
abbrev arg6 (c : Dev nD) : Vec Ideal S1024 .f32 := m ((c : Thread nD τ).loc main_arg6)

theorem host0 (c : Dev nD) (b : Fin 2) (k : Fin 3072) : V m c main_v0 (ix3 b 0 k) = arg3 m c (ix2 b k) := by
  unfold V hostOps0
  after_results
  pointwise

theorem host1 (c : Dev nD) (k : Fin 2048) : V m c main_v1 (ix2 0 k) = arg4 m c (ix1 k) := by
  unfold V hostOps0
  after_results
  pointwise

theorem host2 (c : Dev nD) (k : Fin 2048) (e : Fin 1024) : V m c main_v2 (ix2 k e) = arg5 m c (ix2 k e) := by
  unfold V hostOps0
  after_results
  pointwise

theorem host3 (c : Dev nD) (k : Fin 1024) : V m c main_v3 (ix2 0 k) = arg6 m c (ix1 k) := by
  unfold V hostOps0
  after_results
  pointwise

theorem in0 (c : Dev nD) (t : Fin grid0.N) (r : Fin 256) (k : Fin 2048) :
    iblk m c 0 t (ix3 0 r k) = arg0 m c (ix3 (batch t) (joined (row t (half 0 r))) k) := by
  obtain ⟨⟨h0, h1, h2⟩, -⟩ := idx0 t
  refine Eq.trans ?_ (congrFun (V_main_arg0 m c) _)
  show V m c main_arg0 ((win0_0.rect t).emb (ix3 0 r k)) = _
  refine congrArg _ (funext fun a => Fin.ext ?_)
  rw [win0_0.rect_emb_val t (ix3 0 r k) a]
  match a with
  | ⟨0, _⟩ => show win0_0.index t 0 * 1 + 0 = t.val / 32; rw [h0]; omega
  | ⟨1, _⟩ => show win0_0.index t 1 * 256 + r.val = 256 + (t.val % 32 * 512 + (256 * 0 + r.val)); rw [h1]; omega
  | ⟨2, _⟩ => show win0_0.index t 2 * 2048 + k.val = k.val; rw [h2]; omega

theorem in1 (c : Dev nD) (t : Fin grid0.N) (r : Fin 256) (k : Fin 2048) :
    iblk m c 1 t (ix3 0 r k) = arg0 m c (ix3 (batch t) (joined (row t (half 1 r))) k) := by
  obtain ⟨-, ⟨h0, h1, h2⟩, -⟩ := idx0 t
  refine Eq.trans ?_ (congrFun (V_main_arg0 m c) _)
  show V m c main_arg0 ((win0_1.rect t).emb (ix3 0 r k)) = _
  refine congrArg _ (funext fun a => Fin.ext ?_)
  rw [win0_1.rect_emb_val t (ix3 0 r k) a]
  match a with
  | ⟨0, _⟩ => show win0_1.index t 0 * 1 + 0 = t.val / 32; rw [h0]; omega
  | ⟨1, _⟩ => show win0_1.index t 1 * 256 + r.val = 256 + (t.val % 32 * 512 + (256 * 1 + r.val)); rw [h1]; omega
  | ⟨2, _⟩ => show win0_1.index t 2 * 2048 + k.val = k.val; rw [h2]; omega

theorem in2 (c : Dev nD) (t : Fin grid0.N) (r : Fin 256) (k : Fin 2048) :
    iblk m c 2 t (ix3 0 r k) = arg1 m c (ix3 (batch t) (joined (row t (half 0 r))) ⟨k.val, by omega⟩) := by
  obtain ⟨-, -, ⟨h0, h1, h2⟩, -⟩ := idx0 t
  refine Eq.trans ?_ (congrFun (V_main_arg1 m c) _)
  show V m c main_arg1 ((win0_2.rect t).emb (ix3 0 r k)) = _
  refine congrArg _ (funext fun a => Fin.ext ?_)
  rw [win0_2.rect_emb_val t (ix3 0 r k) a]
  match a with
  | ⟨0, _⟩ => show win0_2.index t 0 * 1 + 0 = t.val / 32; rw [h0]; omega
  | ⟨1, _⟩ => show win0_2.index t 1 * 256 + r.val = 256 + (t.val % 32 * 512 + (256 * 0 + r.val)); rw [h1]; omega
  | ⟨2, _⟩ => show win0_2.index t 2 * 2048 + k.val = k.val; rw [h2]; omega

theorem in3 (c : Dev nD) (t : Fin grid0.N) (r : Fin 256) (k : Fin 2048) :
    iblk m c 3 t (ix3 0 r k) = arg1 m c (ix3 (batch t) (joined (row t (half 1 r))) ⟨k.val, by omega⟩) := by
  obtain ⟨-, -, -, ⟨h0, h1, h2⟩⟩ := idx0 t
  refine Eq.trans ?_ (congrFun (V_main_arg1 m c) _)
  show V m c main_arg1 ((win0_3.rect t).emb (ix3 0 r k)) = _
  refine congrArg _ (funext fun a => Fin.ext ?_)
  rw [win0_3.rect_emb_val t (ix3 0 r k) a]
  match a with
  | ⟨0, _⟩ => show win0_3.index t 0 * 1 + 0 = t.val / 32; rw [h0]; omega
  | ⟨1, _⟩ => show win0_3.index t 1 * 256 + r.val = 256 + (t.val % 32 * 512 + (256 * 1 + r.val)); rw [h1]; omega
  | ⟨2, _⟩ => show win0_3.index t 2 * 2048 + k.val = k.val; rw [h2]; omega

theorem in4 (c : Dev nD) (t : Fin grid0.N) (r : Fin 256) (k : Fin 1024) :
    iblk m c 4 t (ix3 0 r k) = arg2 m c (ix3 (batch t) (joined (row t (half 0 r))) k) := by
  obtain ⟨⟨h0, h1, h2⟩, -⟩ := idx1 t
  refine Eq.trans ?_ (congrFun (V_main_arg2 m c) _)
  show V m c main_arg2 ((win0_4.rect t).emb (ix3 0 r k)) = _
  refine congrArg _ (funext fun a => Fin.ext ?_)
  rw [win0_4.rect_emb_val t (ix3 0 r k) a]
  match a with
  | ⟨0, _⟩ => show win0_4.index t 0 * 1 + 0 = t.val / 32; rw [h0]; omega
  | ⟨1, _⟩ => show win0_4.index t 1 * 256 + r.val = 256 + (t.val % 32 * 512 + (256 * 0 + r.val)); rw [h1]; omega
  | ⟨2, _⟩ => show win0_4.index t 2 * 1024 + k.val = k.val; rw [h2]; omega

theorem in5 (c : Dev nD) (t : Fin grid0.N) (r : Fin 256) (k : Fin 1024) :
    iblk m c 5 t (ix3 0 r k) = arg2 m c (ix3 (batch t) (joined (row t (half 1 r))) k) := by
  obtain ⟨-, ⟨h0, h1, h2⟩, -⟩ := idx1 t
  refine Eq.trans ?_ (congrFun (V_main_arg2 m c) _)
  show V m c main_arg2 ((win0_5.rect t).emb (ix3 0 r k)) = _
  refine congrArg _ (funext fun a => Fin.ext ?_)
  rw [win0_5.rect_emb_val t (ix3 0 r k) a]
  match a with
  | ⟨0, _⟩ => show win0_5.index t 0 * 1 + 0 = t.val / 32; rw [h0]; omega
  | ⟨1, _⟩ => show win0_5.index t 1 * 256 + r.val = 256 + (t.val % 32 * 512 + (256 * 1 + r.val)); rw [h1]; omega
  | ⟨2, _⟩ => show win0_5.index t 2 * 1024 + k.val = k.val; rw [h2]; omega

theorem in6 (c : Dev nD) (t : Fin grid0.N) (k : Fin 2048) : iblk m c 6 t (ix2 0 k) = arg4 m c (ix1 k) := by
  obtain ⟨⟨h0, h1⟩, -, -⟩ := idx2 t
  refine Eq.trans ?_ (host1 m c k)
  show V m c main_v1 ((win0_6.rect t).emb (ix2 0 k)) = _
  refine congrArg _ (funext fun a => Fin.ext ?_)
  rw [win0_6.rect_emb_val t (ix2 0 k) a]
  match a with
  | ⟨0, _⟩ => show win0_6.index t 0 * 1 + 0 = 0; rw [h0]
  | ⟨1, _⟩ => show win0_6.index t 1 * 2048 + k.val = k.val; rw [h1]; omega

theorem in9 (c : Dev nD) (t : Fin grid0.N) (k : Fin 1024) : iblk m c 9 t (ix2 0 k) = arg6 m c (ix1 k) := by
  obtain ⟨-, -, ⟨h0, h1⟩⟩ := idx2 t
  refine Eq.trans ?_ (host3 m c k)
  show V m c main_v3 ((win0_9.rect t).emb (ix2 0 k)) = _
  refine congrArg _ (funext fun a => Fin.ext ?_)
  rw [win0_9.rect_emb_val t (ix2 0 k) a]
  match a with
  | ⟨0, _⟩ => show win0_9.index t 0 * 1 + 0 = 0; rw [h0]
  | ⟨1, _⟩ => show win0_9.index t 1 * 1024 + k.val = k.val; rw [h1]; omega

theorem in7 (c : Dev nD) (t : Fin grid0.N) (k : Fin 2048) (e : Fin 1024) : iblk m c 7 t (ix2 k e) = arg5 m c (ix2 k e) := by
  obtain ⟨-, ⟨h0, h1⟩, -⟩ := idx2 t
  refine Eq.trans ?_ (host2 m c k e)
  show V m c main_v2 ((win0_7.rect t).emb (ix2 k e)) = _
  refine congrArg _ (funext fun a => Fin.ext ?_)
  rw [win0_7.rect_emb_val t (ix2 k e) a]
  match a with
  | ⟨0, _⟩ => show win0_7.index t 0 * 2048 + k.val = k.val; rw [h0]; omega
  | ⟨1, _⟩ => show win0_7.index t 1 * 1024 + e.val = e.val; rw [h1]; omega

theorem in8 (c : Dev nD) (t : Fin grid0.N) (k : Fin 3072) : iblk m c 8 t (ix3 0 0 k) = arg3 m c (ix2 (batch t) k) := by
  obtain ⟨-, -, ⟨h0, h1, h2⟩, -⟩ := idx1 t
  refine Eq.trans ?_ (host0 m c (batch t) k)
  show V m c main_v0 ((win0_8.rect t).emb (ix3 0 0 k)) = _
  refine congrArg _ (funext fun a => Fin.ext ?_)
  rw [win0_8.rect_emb_val t (ix3 0 0 k) a]
  match a with
  | ⟨0, _⟩ => show win0_8.index t 0 * 1 + 0 = t.val / 32; rw [h0]; omega
  | ⟨1, _⟩ => show win0_8.index t 1 * 1 + 0 = 0; rw [h1]
  | ⟨2, _⟩ => show win0_8.index t 2 * 3072 + k.val = k.val; rw [h2]; omega

/-- Row `n` of the scans' output, gated. -/
def gatedRow (c : Dev nD) (b : Fin 2) (n : Fin 16384) (k : Fin 2048) : EReal :=
  arg0 m c (ix3 b (joined n) k) * silu (arg1 m c (ix3 b (joined n) ⟨k.val, by omega⟩))

/-- Row `n` of the gated and normed scans. -/
def normedOf (c : Dev nD) (b : Fin 2) (n : Fin 16384) (k : Fin 2048) : EReal :=
  normedRow (gatedRow m c b n) (fun k => arg4 m c (ix1 k)) k

/-- Row `n` of the result. -/
def rowOf (c : Dev nD) (b : Fin 2) (n : Fin 16384) (q : Fin 1024) : EReal :=
  finalRow (fun e => arg2 m c (ix3 b (joined n) e)) (fun e => arg3 m c (ix2 b (third 2 e)))
    (fun e => ∑ k : Fin 2048, normedOf m c b n k * arg5 m c (ix2 k e)) (fun e => arg6 m c (ix1 e)) q

theorem gated_half (c : Dev nD) (t : Fin grid0.N) (h : Fin 2) (r : Fin 256) (k : Fin 2048) :
    gatedHalf (iblk m c 0 t) (iblk m c 1 t) (iblk m c 2 t) (iblk m c 3 t) h (ix2 r k) = gatedRow m c (batch t) (row t (half h r)) k := by
  unfold gatedHalf gatedRow
  match h with
  | ⟨0, _⟩ => dsimp only; rw [gated_first, in0, in2]; rfl
  | ⟨1, _⟩ => dsimp only; rw [gated_second, in1, in3]; rfl

theorem rows_block (c : Dev nD) (t : Fin grid0.N) (n : Fin 512) (k : Fin 2048) :
    rows (F := Ideal) (iblk m c 0 t) (iblk m c 1 t) (iblk m c 2 t) (iblk m c 3 t) (iblk m c 6 t) (ix2 n k) = normedOf m c (batch t) (row t n) k := by
  rw [rows_apply]
  unfold normedAt normedOf
  simp only [gated_half, in6]
  have e : half ⟨n.val / 256, by omega⟩ ⟨n.val % 256, by omega⟩ = n := Fin.ext (by show 256 * (n.val / 256) + n.val % 256 = n.val; omega)
  rw [e]

/-- One element of point `t`'s output block. -/
theorem block_apply (c : Dev nD) (t : Fin grid0.N) (n : Fin 512) (q : Fin 1024) :
    outsAt0 m c t (ix3 0 n q) = rowOf m c (batch t) (row t n) q := by
  unfold outsAt0
  rw [out_A]
  by_cases h : n.val < 256
  · refine (first_half _ _ _ _ _ _ ⟨n.val, h⟩ q).trans ?_
    simp only [product_apply, rows_block, in4, in7, in8, in9]
    have e : half 0 ⟨n.val, h⟩ = n := Fin.ext (by show 256 * 0 + n.val = n.val; omega)
    rw [e]
    rfl
  · obtain ⟨r, rfl⟩ : ∃ r : Fin 256, n = half 1 r :=
      ⟨⟨n.val - 256, by omega⟩, Fin.ext (by show n.val = 256 * 1 + (n.val - 256); omega)⟩
    refine (second_half _ _ _ _ _ _ r q).trans ?_
    simp only [product_apply, rows_block, in5, in7, in8, in9]
    rfl

theorem out10_emb (t : Fin grid0.N) (n : Fin 512) (q : Fin 1024) :
    (win0_10.rect t).emb (ix3 0 n q) = ix3 (batch t) (row t n) q := by
  obtain ⟨-, -, -, ⟨h0, h1, h2⟩⟩ := idx1 t
  refine funext fun a => Fin.ext ?_
  rw [win0_10.rect_emb_val t (ix3 0 n q) a]
  match a with
  | ⟨0, _⟩ => show win0_10.index t 0 * 1 + 0 = t.val / 32; rw [h0]; omega
  | ⟨1, _⟩ => show win0_10.index t 1 * 512 + n.val = t.val % 32 * 512 + n.val; rw [h1]
  | ⟨2, _⟩ => show win0_10.index t 2 * 1024 + q.val = q.val; rw [h2]; omega

/-- The point of an entry of the array. -/
def pointOf (b : Fin 2) (n : Fin 16384) : Fin grid0.N :=
  ⟨b.val * 32 + n.val / 512, by rw [N_64]; have := b.isLt; have := n.isLt; omega⟩

theorem emb_pointOf (b : Fin 2) (n : Fin 16384) (q : Fin 1024) :
    (win0_10.rect (pointOf b n)).emb (ix3 0 ⟨n.val % 512, Nat.mod_lt _ (by omega)⟩ q) = ix3 b n q := by
  have hb := b.isLt
  have hn := n.isLt
  rw [out10_emb]
  have e0 : batch (pointOf b n) = b := Fin.ext (by show (b.val * 32 + n.val / 512) / 32 = b.val; omega)
  have e1 : row (pointOf b n) ⟨n.val % 512, Nat.mod_lt _ (by omega)⟩ = n :=
    Fin.ext (by show (b.val * 32 + n.val / 512) % 32 * 512 + n.val % 512 = n.val; omega)
  rw [e0, e1]

/-- The array after the call. -/
theorem array_apply (c : Dev nD) (b : Fin 2) (n : Fin 16384) (q : Fin 1024) :
    (dats m 0 c).arrAt 10 cfg0.N (ix3 b n q) = rowOf m c b n q := by
  refine (dats m 0 c).arrAt_forall_of_flushed 10
    (fun i v => ∀ (b : Fin 2) (n : Fin 16384) (q : Fin 1024), i = ix3 b n q → v = rowOf m c b n q)
    ?_ cfg0.N (pointOf b n) _ (pointOf b n).isLt (flush0_10 _) ?_ b n q rfl
  · intro t _ y b n q he
    obtain ⟨r, j, rfl⟩ : ∃ (r : Fin 512) (j : Fin 1024), y = ix3 0 r j :=
      ⟨y 1, y 2, funext fun a => match a with
        | ⟨0, _⟩ => Subsingleton.elim (α := Fin 1) _ _
        | ⟨1, _⟩ => rfl
        | ⟨2, _⟩ => rfl⟩
    change (win0_10.rect t).emb (ix3 0 r j) = _ at he
    rw [out10_emb] at he
    obtain rfl : batch t = b := congrFun he 0
    obtain rfl : row t r = n := congrFun he 1
    obtain rfl : j = q := congrFun he 2
    show (dats m 0 c).after 10 t (ix3 0 r j) = _
    rw [after0_10]
    exact block_apply m c t r j
  · show ix3 b n q ∈ ((View.whole main_v4).slice (win0_10.rect (pointOf b n))).set
    rw [← emb_pointOf b n q]
    exact ((View.whole main_v4).slice (win0_10.rect (pointOf b n))).emb_mem_set _

end Cert.Proof.OutArray

end

end
-- ==== Proof.OutRef.lean ====
module

public import proofs.«01_k».proof.Proof.FinishRow
public import proofs.«01_k».proof.Proof.Gen.OutRefIdeal.Read
import Idealize.ShloMosaic.Lib.Pointwise

/-! # The last call's reference at an index -/

@[expose] public section

set_option maxRecDepth 16384

noncomputable section

open Idealize.ShloMosaic Idealize.ShloMosaic.TcCoe
open Cert.OutRefIdeal Cert.OutRefIdeal.Read
open Cert.Proof.Stream Cert.Proof.Silu Cert.Proof.FinishRow

namespace Cert.Proof.OutRef

abbrev Scans : Type := (⟨S2x16640x2048, .f32⟩ : BufTy).Contents (Elt Ideal)
abbrev Proj : Type := (⟨S2x16640x6144, .bf16⟩ : BufTy).Contents (Elt Ideal)
abbrev Rows : Type := (⟨S2x16640x1024, .f32⟩ : BufTy).Contents (Elt Ideal)
abbrev ModL : Type := (⟨S2x3072, .f32⟩ : BufTy).Contents (Elt Ideal)
abbrev GroupW : Type := (⟨S2048, .f32⟩ : BufTy).Contents (Elt Ideal)
abbrev OutW : Type := (⟨S2048x1024, .f32⟩ : BufTy).Contents (Elt Ideal)
abbrev NormW : Type := (⟨S1024, .f32⟩ : BufTy).Contents (Elt Ideal)

variable (x0 : Scans) (x1 : Proj) (x2 : Rows) (x3 : ModL) (x4 : GroupW) (x5 : OutW) (x6 : NormW)

/-- Row `256 + n` of the scans' output, gated. -/
def gatedRow (b : Fin 2) (n : Fin 16384) (k : Fin 2048) : EReal :=
  x0 (ix3 b ⟨256 + n.val, by omega⟩ k) * silu (x1 (ix3 b ⟨256 + n.val, by omega⟩ ⟨k.val, by omega⟩))

theorem gated (b : Fin 2) (n : Fin 16384) (k : Fin 2048) :
    val_main_v4 (F := Ideal) x0 x1 (ix3 b n k) = gatedRow x0 x1 b n k := by
  unfold gatedRow silu
  pointwise [val_main_v0, val_main_v1, val_main_v2, val_main_v3, val_main_v4, val_main_call0_cst, val_main_call0_cst_0, val_main_call0_v0, val_main_call0_v1, val_main_call0_v2, val_main_call0_v3, val_main_call0_v4, val_main_call0_v5]

theorem grouped (b : Fin 2) (n : Fin 16384) (j : Fin 8) (l : Fin 256) :
    val_main_v5 (F := Ideal) x0 x1 (ix4 b n j l) = val_main_v4 (F := Ideal) x0 x1 (ix3 b n (lane j l)) := by
  unfold lane
  pointwise [val_main_v5]

theorem group_normed (b : Fin 2) (n : Fin 16384) (j : Fin 8) (l : Fin 256) :
    val_main_v19 (F := Ideal) x0 x1 x4 (ix4 b n j l)
      = groupNormed (fun u => val_main_v5 (F := Ideal) x0 x1 (ix4 b n j u)) (fun u => x4 (ix1 (lane j u))) l := by
  unfold groupNormed lane
  pointwise [val_main_v6, val_main_v7, val_main_v8, val_main_v9, val_main_v10, val_main_v11, val_main_v12, val_main_v13, val_main_v14, val_main_v15, val_main_v16, val_main_v17, val_main_v18, val_main_v19, val_main_cst, val_main_cst_0, val_main_cst_1]

theorem flat (b : Fin 2) (n : Fin 16384) (k : Fin 2048) :
    val_main_v20 (F := Ideal) x0 x1 x4 (ix3 b n k)
      = val_main_v19 (F := Ideal) x0 x1 x4 (ix4 b n ⟨k.val / 256, by omega⟩ ⟨k.val % 256, by omega⟩) := by
  pointwise [val_main_v20]

theorem normed (b : Fin 2) (n : Fin 16384) (k : Fin 2048) :
    val_main_v20 (F := Ideal) x0 x1 x4 (ix3 b n k) = normedRow (gatedRow x0 x1 b n) (fun k => x4 (ix1 k)) k := by
  rw [flat, group_normed]
  simp only [grouped, gated]
  rfl

theorem product (b : Fin 2) (n : Fin 16384) (e : Fin 1024) :
    val_main_v24 (F := Ideal) x0 x1 x4 x5 (ix3 b n e)
      = ∑ k : Fin 2048, val_main_v20 (F := Ideal) x0 x1 x4 (ix3 b n k) * x5 (ix2 k e) := by
  pointwise [val_main_v24]

theorem final (b : Fin 2) (n : Fin 16384) (q : Fin 1024) :
    val_main_v40 (F := Ideal) x0 x1 x2 x3 x4 x5 x6 (ix3 b n q)
      = finalRow (fun e => x2 (ix3 b ⟨256 + n.val, by omega⟩ e)) (fun e => x3 (ix2 b (third 2 e)))
          (fun e => val_main_v24 (F := Ideal) x0 x1 x4 x5 (ix3 b n e)) (fun e => x6 (ix1 e)) q := by
  unfold finalRow invRoot third
  pointwise [val_main_v21, val_main_v22, val_main_v23, val_main_v25, val_main_v26, val_main_v27, val_main_v28, val_main_v29, val_main_v30, val_main_v31, val_main_v32, val_main_v33, val_main_v34, val_main_v35, val_main_v36, val_main_v37, val_main_v38, val_main_v39, val_main_v40, val_main_cst_2, val_main_cst_3, val_main_cst_4]

/-- The reference's result at an index. -/
theorem result_apply (b : Fin 2) (n : Fin 16384) (q : Fin 1024) :
    val_main_v40 (F := Ideal) x0 x1 x2 x3 x4 x5 x6 (ix3 b n q)
      = finalRow (fun e => x2 (ix3 b ⟨256 + n.val, by omega⟩ e)) (fun e => x3 (ix2 b (third 2 e)))
          (fun e => ∑ k : Fin 2048, normedRow (gatedRow x0 x1 b n) (fun k => x4 (ix1 k)) k * x5 (ix2 k e)) (fun e => x6 (ix1 e)) q := by
  rw [final]
  simp only [product, normed]

end Cert.Proof.OutRef

end

end
-- ==== Proof.OutClaim.lean ====
module

public import proofs.«01_k».proof.Defs
public import proofs.«01_k».proof.Proof.OutArray
public import proofs.«01_k».proof.Proof.OutRef
public import proofs.«01_k».proof.Proof.Gen.OutRefIdeal.Run

/-! # The call that leaves the result: the reference's run, and both runs with equal results -/

@[expose] public section

set_option maxRecDepth 16384

noncomputable section

open Idealize.ShloMosaic Idealize.ShloMosaic.TcCoe Idealize.SL.Sem

namespace Cert.Proof.OutClaim

/-- The reference has no semaphore. -/
theorem no_semaphore : ∀ sm : SemLoc Cert.OutRefIdeal.sig, False := by decide

/-- The reference runs, its arguments end unchanged and every counter is zero. -/
theorem reference_frame (m : (ℓ : Loc Cert.OutRefIdeal.nD Cert.OutRefIdeal.τ Cert.OutRefIdeal.sig) → Buf (Elt Ideal) ℓ)
    (g : Dev Cert.OutRefIdeal.nD → PrngReg) :
    θ_run (Cert.OutRefIdeal.defs (F := Ideal)) (onTc (τ := Cert.OutRefIdeal.τ) (Cert.OutRefIdeal.main (F := Ideal)))
      ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0) :=
  (θ_run Cert.OutRefIdeal.defs _ _).mono (fun _ h => ⟨fun c => (h c).2, funext fun s => (no_semaphore s.2).elim⟩)
    (Cert.OutRefIdeal.Value.run m g)

/-- From arguments that agree, kernel and reference end with the same result. -/
theorem algebraic : Cert.algebraic_OutIdeal_OutRefIdeal (hOutIdeal := Cert.OutIdeal.Gen.facts)
    (hOutRefIdeal := Cert.OutRefIdeal.Gen.facts) := by
  intro m g m' g' _ hargs
  refine ⟨fun c => (Cert.OutIdeal.Gen.dats m 0 c).arrAt 10 Cert.OutIdeal.cfg0.N, Cert.OutIdeal.Value.run_blocks m g, ?_⟩
  refine (θ_run Cert.OutRefIdeal.defs _ _).mono (fun r h c => ?_) (Cert.OutRefIdeal.Value.run m' g')
  refine ⟨?_, (h c).2⟩
  obtain ⟨h0, h1, h2, h3, h4, h5, h6⟩ := hargs c
  refine ((h c).1.trans (Cert.OutRefIdeal.Read.val_main_v40_eq _ _)).trans ?_
  change Cert.OutRefIdeal.Read.val_main_v40 (F := Ideal)
    (m' ((c.tc : Thread Cert.OutRefIdeal.nD Cert.OutRefIdeal.τ).loc Cert.OutRefIdeal.main_arg0))
    (m' ((c.tc : Thread Cert.OutRefIdeal.nD Cert.OutRefIdeal.τ).loc Cert.OutRefIdeal.main_arg1))
    (m' ((c.tc : Thread Cert.OutRefIdeal.nD Cert.OutRefIdeal.τ).loc Cert.OutRefIdeal.main_arg2))
    (m' ((c.tc : Thread Cert.OutRefIdeal.nD Cert.OutRefIdeal.τ).loc Cert.OutRefIdeal.main_arg3))
    (m' ((c.tc : Thread Cert.OutRefIdeal.nD Cert.OutRefIdeal.τ).loc Cert.OutRefIdeal.main_arg4))
    (m' ((c.tc : Thread Cert.OutRefIdeal.nD Cert.OutRefIdeal.τ).loc Cert.OutRefIdeal.main_arg5))
    (m' ((c.tc : Thread Cert.OutRefIdeal.nD Cert.OutRefIdeal.τ).loc Cert.OutRefIdeal.main_arg6)) = _
  rw [h0, h1, h2, h3, h4, h5, h6]
  funext i
  obtain ⟨b, n, q, rfl⟩ : ∃ (b : Fin 2) (n : Fin 16384) (q : Fin 1024), i = ix3 b n q := ⟨_, _, _, eq_ix3 i⟩
  exact (OutRef.result_apply _ _ _ _ _ _ _ b n q).trans (OutArray.array_apply m c b n q).symm

end Cert.Proof.OutClaim

end

end
-- ==== Proof.MergeBody.lean ====
module

public import proofs.«01_k».proof.Proof.Stream
public import proofs.«01_k».proof.Proof.Silu
public import proofs.«01_k».proof.Proof.Gen.MergeIdeal.Value
public import Idealize.ShloMosaic.Lib.Pipeline.Value
public import Idealize.ShloMosaic.Lib.Pipeline.ValueKit.Tiles
import Idealize.ShloMosaic.Lib.Pointwise

/-! # What the body that closes the even layer leaves

The long convolution's rows and the attention's rows, each gated, are multiplied with the two halves of the output weight; the sum
of the products, scaled by the modulation's gate, is added to the residual stream. -/

@[expose] public section

set_option maxRecDepth 16384

noncomputable section

namespace Cert.Proof.MergeBody

open Idealize.ShloMosaic Idealize.ShloMosaic.TcCoe
open Cert.MergeIdeal Cert.MergeIdeal.Gen Cert.Proof.Silu Cert.Proof.Stream

/-- The literal the kernel multiplies the gate's argument by. -/
theorem named_log2e : (Named.named κ "log2e" 0xBFB8AA3B#32 : Ideal .f32) = ((-((Real.log 2)⁻¹) : ℝ) : EReal) := rfl

theorem cmp_ctx : ∀ (j : Fin 13) (r : Fin 1280),
    IntOp.cmpi CmpIPredicate.slt (IntOp.addi (Scalar.muli (BitVec.ofNat 32 j.val) 1280#32) (BitVec.ofNat 32 r.val)) 256#32
      = if j.val * 1280 + r.val < 256 then 1#1 else 0#1 := by
  decide +kernel

/-- The test that a row is one of the context's. -/
theorem select_ctx {α : Type} (j : Fin 13) (r : Fin 1280) (a b : α) :
    Scalar.select (IntOp.cmpi CmpIPredicate.slt (IntOp.addi (Scalar.muli (BitVec.ofNat 32 j.val) 1280#32) (BitVec.ofNat 32 r.val)) 256#32) a b
      = if j.val * 1280 + r.val < 256 then a else b := by
  rw [cmp_ctx]
  by_cases h : j.val * 1280 + r.val < 256
  · rw [if_pos h, if_pos h]; rfl
  · rw [if_neg h, if_neg h]; rfl

variable (i : grid0.Coords) (x0 x1 : Vec Ideal S1x1280x512 .bf16) (x2 : Vec Ideal S1x1280x512 .f32) (x3 : Vec Ideal S1x1280x512 .bf16)
  (x4 : Vec Ideal S1x1280x1024 .f32) (x5 : Vec Ideal S1x1x3072 .f32) (x6 : Vec Ideal S1x3072 .f32) (x7 x8 : Vec Ideal S512x1024 .bf16)

theorem gated_attention (r : Fin 1280) (k : Fin 512) : k0_pay2 x2 x3 (ix2 r k) = x2 (ix3 0 r k) * silu (x3 (ix3 0 r k)) := by
  rw [← silu_exp2, ← named_log2e]
  pointwise [k0_pay2]
  rfl

theorem convolution_product (r : Fin 1280) (e : Fin 1024) :
    k0_pay3 x0 x1 x7 (ix2 r e) = ∑ k : Fin 512, x0 (ix3 0 r k) * silu (x1 (ix3 0 r k)) * x7 (ix2 k e) := by
  simp only [← silu_exp2, ← named_log2e]
  pointwise [k0_pay3]
  rfl

theorem offsets_zero3 : (![0, 0, 0] : Fin 3 → Nat) = fun _ => 0 := by funext a; fin_cases a <;> rfl
theorem offsets_zero2 : (![0, 0] : Fin 2 → Nat) = fun _ => 0 := by funext a; fin_cases a <;> rfl

/-- One element of the body's output block. -/
theorem out_apply (r : Fin 1280) (e : Fin 1024) :
    out0_9 i x0 x1 x2 x3 x4 x5 x6 x7 x8 (ix3 0 r e)
      = x4 (ix3 0 r e) + (if (i 1).val * 1280 + r.val < 256 then x6 (ix2 0 (third 2 e)) else x5 (ix3 0 0 (third 2 e)))
          * (k0_pay3 x0 x1 x7 (ix2 r e) + ∑ k : Fin 512, k0_pay2 x2 x3 (ix2 r k) * x8 (ix2 k e)) := by
  rw [← select_ctx (i 1) r]
  unfold out0_9
  rw [show View.ld x0 r0_0 = x0 from View.ld_unit_zero (S := S1x1280x512) offsets_zero3 _ x0,
    show View.ld x1 r0_0 = x1 from View.ld_unit_zero (S := S1x1280x512) offsets_zero3 _ x1,
    show View.ld x2 r0_0 = x2 from View.ld_unit_zero (S := S1x1280x512) offsets_zero3 _ x2,
    show View.ld x3 r0_0 = x3 from View.ld_unit_zero (S := S1x1280x512) offsets_zero3 _ x3,
    show View.ld x7 r0_1 = x7 from View.ld_unit_zero (S := S512x1024) offsets_zero2 _ x7]
  unfold third
  canon_tiles x hx
  change 0 = (x 0).val at hx0
  change r.val = (x 1).val at hx1
  change e.val = (x 2).val at hx2
  obtain rfl : x = ix3 0 r e := by
    funext a; fin_cases a
    · exact Fin.ext hx0.symm
    · exact Fin.ext hx1.symm
    · exact Fin.ext hx2.symm
  pointwise [k0_pay1]

end Cert.Proof.MergeBody

end

end
-- ==== Proof.MergeArray.lean ====
module

public import proofs.«01_k».proof.Proof.MergeBody

/-! # The array the call that closes the even layer leaves

The grid runs over the batch entry and the block of 1280 rows. -/

@[expose] public section

set_option maxRecDepth 16384

noncomputable section

namespace Cert.Proof.MergeArray

open Idealize.ShloMosaic Idealize.ShloMosaic.TcCoe Idealize.ShloMosaic.StableHlo
open Idealize.ShloMosaic.Pipeline
open Cert.MergeIdeal Cert.MergeIdeal.Gen Cert.Proof.Stream Cert.Proof.Silu Cert.Proof.MergeBody

variable (m : (ℓ : Loc nD τ sig) → Buf (Elt Ideal) ℓ)

theorem N_26 : grid0.N = 26 := by decide +kernel

theorem idx0 (t : Fin grid0.N) :
    (win0_0.index t 0 = t.val / 13 ∧ win0_0.index t 1 = t.val % 13 ∧ win0_0.index t 2 = 0)
    ∧ (win0_1.index t 0 = t.val / 13 ∧ win0_1.index t 1 = t.val % 13 ∧ win0_1.index t 2 = 3)
    ∧ (win0_2.index t 0 = t.val / 13 ∧ win0_2.index t 1 = t.val % 13 ∧ win0_2.index t 2 = 0)
    ∧ (win0_3.index t 0 = t.val / 13 ∧ win0_3.index t 1 = t.val % 13 ∧ win0_3.index t 2 = 7) := by
  revert t; decide +kernel

theorem idx1 (t : Fin grid0.N) :
    (win0_4.index t 0 = t.val / 13 ∧ win0_4.index t 1 = t.val % 13 ∧ win0_4.index t 2 = 0)
    ∧ (win0_9.index t 0 = t.val / 13 ∧ win0_9.index t 1 = t.val % 13 ∧ win0_9.index t 2 = 0)
    ∧ (win0_5.index t 0 = t.val / 13 ∧ win0_5.index t 1 = 0 ∧ win0_5.index t 2 = 0) := by
  revert t; decide +kernel

theorem idx2 (t : Fin grid0.N) :
    (win0_6.index t 0 = 0 ∧ win0_6.index t 1 = 0) ∧ (win0_7.index t 0 = 0 ∧ win0_7.index t 1 = 0)
    ∧ (win0_8.index t 0 = 0 ∧ win0_8.index t 1 = 0) := by
  revert t; decide +kernel

theorem coord1 (t : Fin grid0.N) : (grid0.coords t 1).val = t.val % 13 := by
  revert t; decide +kernel

/-- The batch entry and the row that row `r` of point `t`'s block is. -/
def batch (t : Fin grid0.N) : Fin 2 := ⟨t.val / 13, by have := t.isLt; have := N_26; omega⟩
def row (t : Fin grid0.N) (r : Fin 1280) : Fin 16640 := ⟨t.val % 13 * 1280 + r.val, by have := r.isLt; omega⟩

abbrev arg0 (c : Dev nD) : Vec Ideal S2x16640x512 .bf16 := m ((c : Thread nD τ).loc main_arg0)
abbrev arg1 (c : Dev nD) : Vec Ideal S2x16640x512 .f32 := m ((c : Thread nD τ).loc main_arg1)
abbrev arg2 (c : Dev nD) : Vec Ideal S2x16640x4096 .bf16 := m ((c : Thread nD τ).loc main_arg2)
abbrev arg3 (c : Dev nD) : Vec Ideal S2x16640x1024 .f32 := m ((c : Thread nD τ).loc main_arg3)
abbrev arg4 (c : Dev nD) : Vec Ideal S2x3072 .f32 := m ((c : Thread nD τ).loc main_arg4)
abbrev arg5 (c : Dev nD) : Vec Ideal S3072 .f32 := m ((c : Thread nD τ).loc main_arg5)
abbrev arg6 (c : Dev nD) : Vec Ideal S1024x1024 .f32 := m ((c : Thread nD τ).loc main_arg6)

theorem host0 (c : Dev nD) (b : Fin 2) (k : Fin 3072) : V m c main_v0 (ix3 b 0 k) = arg4 m c (ix2 b k) := by
  unfold V hostOps0
  after_results
  pointwise

theorem host1 (c : Dev nD) (k : Fin 3072) : V m c main_v1 (ix2 0 k) = arg5 m c (ix1 k) := by
  unfold V hostOps0
  after_results
  pointwise

theorem host3 (c : Dev nD) (k : Fin 512) (e : Fin 1024) : V m c main_v3 (ix2 k e) = arg6 m c (ix2 ⟨k.val, by omega⟩ e) := by
  unfold V hostOps0
  after_results
  pointwise

theorem host5 (c : Dev nD) (k : Fin 512) (e : Fin 1024) : V m c main_v5 (ix2 k e) = arg6 m c (ix2 ⟨512 + k.val, by omega⟩ e) := by
  unfold V hostOps0
  after_results
  pointwise

theorem in0 (c : Dev nD) (t : Fin grid0.N) (r : Fin 1280) (k : Fin 512) :
    iblk m c 0 t (ix3 0 r k) = arg0 m c (ix3 (batch t) (row t r) k) := by
  obtain ⟨⟨h0, h1, h2⟩, -⟩ := idx0 t
  refine Eq.trans ?_ (congrFun (V_main_arg0 m c) _)
  show V m c main_arg0 ((win0_0.rect t).emb (ix3 0 r k)) = _
  refine congrArg _ (funext fun a => Fin.ext ?_)
  rw [win0_0.rect_emb_val t (ix3 0 r k) a]
  match a with
  | ⟨0, _⟩ => show win0_0.index t 0 * 1 + 0 = t.val / 13; rw [h0]; omega
  | ⟨1, _⟩ => show win0_0.index t 1 * 1280 + r.val = t.val % 13 * 1280 + r.val; rw [h1]
  | ⟨2, _⟩ => show win0_0.index t 2 * 512 + k.val = k.val; rw [h2]; omega

theorem in1 (c : Dev nD) (t : Fin grid0.N) (r : Fin 1280) (k : Fin 512) :
    iblk m c 1 t (ix3 0 r k) = arg2 m c (ix3 (batch t) (row t r) ⟨1536 + k.val, by omega⟩) := by
  obtain ⟨-, ⟨h0, h1, h2⟩, -⟩ := idx0 t
  refine Eq.trans ?_ (congrFun (V_main_arg2 m c) _)
  show V m c main_arg2 ((win0_1.rect t).emb (ix3 0 r k)) = _
  refine congrArg _ (funext fun a => Fin.ext ?_)
  rw [win0_1.rect_emb_val t (ix3 0 r k) a]
  match a with
  | ⟨0, _⟩ => show win0_1.index t 0 * 1 + 0 = t.val / 13; rw [h0]; omega
  | ⟨1, _⟩ => show win0_1.index t 1 * 1280 + r.val = t.val % 13 * 1280 + r.val; rw [h1]
  | ⟨2, _⟩ => show win0_1.index t 2 * 512 + k.val = 1536 + k.val; rw [h2]

theorem in2 (c : Dev nD) (t : Fin grid0.N) (r : Fin 1280) (k : Fin 512) :
    iblk m c 2 t (ix3 0 r k) = arg1 m c (ix3 (batch t) (row t r) k) := by
  obtain ⟨-, -, ⟨h0, h1, h2⟩, -⟩ := idx0 t
  refine Eq.trans ?_ (congrFun (V_main_arg1 m c) _)
  show V m c main_arg1 ((win0_2.rect t).emb (ix3 0 r k)) = _
  refine congrArg _ (funext fun a => Fin.ext ?_)
  rw [win0_2.rect_emb_val t (ix3 0 r k) a]
  match a with
  | ⟨0, _⟩ => show win0_2.index t 0 * 1 + 0 = t.val / 13; rw [h0]; omega
  | ⟨1, _⟩ => show win0_2.index t 1 * 1280 + r.val = t.val % 13 * 1280 + r.val; rw [h1]
  | ⟨2, _⟩ => show win0_2.index t 2 * 512 + k.val = k.val; rw [h2]; omega

theorem in3 (c : Dev nD) (t : Fin grid0.N) (r : Fin 1280) (k : Fin 512) :
    iblk m c 3 t (ix3 0 r k) = arg2 m c (ix3 (batch t) (row t r) ⟨3584 + k.val, by omega⟩) := by
  obtain ⟨-, -, -, ⟨h0, h1, h2⟩⟩ := idx0 t
  refine Eq.trans ?_ (congrFun (V_main_arg2 m c) _)
  show V m c main_arg2 ((win0_3.rect t).emb (ix3 0 r k)) = _
  refine congrArg _ (funext fun a => Fin.ext ?_)
  rw [win0_3.rect_emb_val t (ix3 0 r k) a]
  match a with
  | ⟨0, _⟩ => show win0_3.index t 0 * 1 + 0 = t.val / 13; rw [h0]; omega
  | ⟨1, _⟩ => show win0_3.index t 1 * 1280 + r.val = t.val % 13 * 1280 + r.val; rw [h1]
  | ⟨2, _⟩ => show win0_3.index t 2 * 512 + k.val = 3584 + k.val; rw [h2]

theorem in4 (c : Dev nD) (t : Fin grid0.N) (r : Fin 1280) (k : Fin 1024) :
    iblk m c 4 t (ix3 0 r k) = arg3 m c (ix3 (batch t) (row t r) k) := by
  obtain ⟨⟨h0, h1, h2⟩, -⟩ := idx1 t
  refine Eq.trans ?_ (congrFun (V_main_arg3 m c) _)
  show V m c main_arg3 ((win0_4.rect t).emb (ix3 0 r k)) = _
  refine congrArg _ (funext fun a => Fin.ext ?_)
  rw [win0_4.rect_emb_val t (ix3 0 r k) a]
  match a with
  | ⟨0, _⟩ => show win0_4.index t 0 * 1 + 0 = t.val / 13; rw [h0]; omega
  | ⟨1, _⟩ => show win0_4.index t 1 * 1280 + r.val = t.val % 13 * 1280 + r.val; rw [h1]
  | ⟨2, _⟩ => show win0_4.index t 2 * 1024 + k.val = k.val; rw [h2]; omega

theorem in5 (c : Dev nD) (t : Fin grid0.N) (k : Fin 3072) : iblk m c 5 t (ix3 0 0 k) = arg4 m c (ix2 (batch t) k) := by
  obtain ⟨-, -, ⟨h0, h1, h2⟩⟩ := idx1 t
  refine Eq.trans ?_ (host0 m c (batch t) k)
  show V m c main_v0 ((win0_5.rect t).emb (ix3 0 0 k)) = _
  refine congrArg _ (funext fun a => Fin.ext ?_)
  rw [win0_5.rect_emb_val t (ix3 0 0 k) a]
  match a with
  | ⟨0, _⟩ => show win0_5.index t 0 * 1 + 0 = t.val / 13; rw [h0]; omega
  | ⟨1, _⟩ => show win0_5.index t 1 * 1 + 0 = 0; rw [h1]
  | ⟨2, _⟩ => show win0_5.index t 2 * 3072 + k.val = k.val; rw [h2]; omega

theorem in6 (c : Dev nD) (t : Fin grid0.N) (k : Fin 3072) : iblk m c 6 t (ix2 0 k) = arg5 m c (ix1 k) := by
  obtain ⟨⟨h0, h1⟩, -, -⟩ := idx2 t
  refine Eq.trans ?_ (host1 m c k)
  show V m c main_v1 ((win0_6.rect t).emb (ix2 0 k)) = _
  refine congrArg _ (funext fun a => Fin.ext ?_)
  rw [win0_6.rect_emb_val t (ix2 0 k) a]
  match a with
  | ⟨0, _⟩ => show win0_6.index t 0 * 1 + 0 = 0; rw [h0]
  | ⟨1, _⟩ => show win0_6.index t 1 * 3072 + k.val = k.val; rw [h1]; omega

theorem in7 (c : Dev nD) (t : Fin grid0.N) (k : Fin 512) (e : Fin 1024) :
    iblk m c 7 t (ix2 k e) = arg6 m c (ix2 ⟨k.val, by omega⟩ e) := by
  obtain ⟨-, ⟨h0, h1⟩, -⟩ := idx2 t
  refine Eq.trans ?_ (host3 m c k e)
  show V m c main_v3 ((win0_7.rect t).emb (ix2 k e)) = _
  refine congrArg _ (funext fun a => Fin.ext ?_)
  rw [win0_7.rect_emb_val t (ix2 k e) a]
  match a with
  | ⟨0, _⟩ => show win0_7.index t 0 * 512 + k.val = k.val; rw [h0]; omega
  | ⟨1, _⟩ => show win0_7.index t 1 * 1024 + e.val = e.val; rw [h1]; omega

theorem in8 (c : Dev nD) (t : Fin grid0.N) (k : Fin 512) (e : Fin 1024) :
    iblk m c 8 t (ix2 k e) = arg6 m c (ix2 ⟨512 + k.val, by omega⟩ e) := by
  obtain ⟨-, -, ⟨h0, h1⟩⟩ := idx2 t
  refine Eq.trans ?_ (host5 m c k e)
  show V m c main_v5 ((win0_8.rect t).emb (ix2 k e)) = _
  refine congrArg _ (funext fun a => Fin.ext ?_)
  rw [win0_8.rect_emb_val t (ix2 k e) a]
  match a with
  | ⟨0, _⟩ => show win0_8.index t 0 * 512 + k.val = k.val; rw [h0]; omega
  | ⟨1, _⟩ => show win0_8.index t 1 * 1024 + e.val = e.val; rw [h1]; omega

/-- Row `n` of the stream after the layer. -/
def rowOf (c : Dev nD) (b : Fin 2) (n : Fin 16640) (e : Fin 1024) : EReal :=
  arg3 m c (ix3 b n e) + (if n.val < 256 then arg5 m c (ix1 (third 2 e)) else arg4 m c (ix2 b (third 2 e)))
    * (∑ k : Fin 512, arg0 m c (ix3 b n k) * silu (arg2 m c (ix3 b n ⟨1536 + k.val, by omega⟩)) * arg6 m c (ix2 ⟨k.val, by omega⟩ e)
      + ∑ k : Fin 512, arg1 m c (ix3 b n k) * silu (arg2 m c (ix3 b n ⟨3584 + k.val, by omega⟩)) * arg6 m c (ix2 ⟨512 + k.val, by omega⟩ e))

/-- One element of point `t`'s output block. -/
theorem block_apply (c : Dev nD) (t : Fin grid0.N) (r : Fin 1280) (e : Fin 1024) :
    out0_9 (F := Ideal) (grid0.coords t) (iblk m c 0 t) (iblk m c 1 t) (iblk m c 2 t) (iblk m c 3 t) (iblk m c 4 t) (iblk m c 5 t) (iblk m c 6 t)
        (iblk m c 7 t) (iblk m c 8 t) (ix3 0 r e)
      = rowOf m c (batch t) (row t r) e := by
  rw [out_apply, coord1, convolution_product]
  simp only [gated_attention, in0, in1, in2, in3, in4, in5, in6, in7, in8]
  rfl

theorem out9_emb (t : Fin grid0.N) (r : Fin 1280) (e : Fin 1024) :
    (win0_9.rect t).emb (ix3 0 r e) = ix3 (batch t) (row t r) e := by
  obtain ⟨-, ⟨h0, h1, h2⟩, -⟩ := idx1 t
  refine funext fun a => Fin.ext ?_
  rw [win0_9.rect_emb_val t (ix3 0 r e) a]
  match a with
  | ⟨0, _⟩ => show win0_9.index t 0 * 1 + 0 = t.val / 13; rw [h0]; omega
  | ⟨1, _⟩ => show win0_9.index t 1 * 1280 + r.val = t.val % 13 * 1280 + r.val; rw [h1]
  | ⟨2, _⟩ => show win0_9.index t 2 * 1024 + e.val = e.val; rw [h2]; omega

/-- The point of an entry of the array. -/
def pointOf (b : Fin 2) (n : Fin 16640) : Fin grid0.N :=
  ⟨b.val * 13 + n.val / 1280, by rw [N_26]; have := b.isLt; have := n.isLt; omega⟩

theorem emb_pointOf (b : Fin 2) (n : Fin 16640) (e : Fin 1024) :
    (win0_9.rect (pointOf b n)).emb (ix3 0 ⟨n.val % 1280, Nat.mod_lt _ (by omega)⟩ e) = ix3 b n e := by
  have hb := b.isLt
  have hn := n.isLt
  rw [out9_emb]
  have e0 : batch (pointOf b n) = b := Fin.ext (by show (b.val * 13 + n.val / 1280) / 13 = b.val; omega)
  have e1 : row (pointOf b n) ⟨n.val % 1280, Nat.mod_lt _ (by omega)⟩ = n :=
    Fin.ext (by show (b.val * 13 + n.val / 1280) % 13 * 1280 + n.val % 1280 = n.val; omega)
  rw [e0, e1]

/-- The array after the call. -/
theorem array_apply (c : Dev nD) (b : Fin 2) (n : Fin 16640) (q : Fin 1024) :
    (dats m 0 c).arrAt 9 cfg0.N (ix3 b n q) = rowOf m c b n q := by
  refine (dats m 0 c).arrAt_forall_of_flushed 9
    (fun i v => ∀ (b : Fin 2) (n : Fin 16640) (q : Fin 1024), i = ix3 b n q → v = rowOf m c b n q)
    ?_ cfg0.N (pointOf b n) _ (pointOf b n).isLt (flush0_9 _) ?_ b n q rfl
  · intro t _ y b n q he
    obtain ⟨r, j, rfl⟩ : ∃ (r : Fin 1280) (j : Fin 1024), y = ix3 0 r j :=
      ⟨y 1, y 2, funext fun a => match a with
        | ⟨0, _⟩ => Subsingleton.elim (α := Fin 1) _ _
        | ⟨1, _⟩ => rfl
        | ⟨2, _⟩ => rfl⟩
    change (win0_9.rect t).emb (ix3 0 r j) = _ at he
    rw [out9_emb] at he
    obtain rfl : batch t = b := congrFun he 0
    obtain rfl : row t r = n := congrFun he 1
    obtain rfl : j = q := congrFun he 2
    show (dats m 0 c).after 9 t (ix3 0 r j) = _
    rw [after0_9]
    exact block_apply m c t r j
  · show ix3 b n q ∈ ((View.whole main_v6).slice (win0_9.rect (pointOf b n))).set
    rw [← emb_pointOf b n q]
    exact ((View.whole main_v6).slice (win0_9.rect (pointOf b n))).emb_mem_set _

end Cert.Proof.MergeArray

end

end
-- ==== Proof.MergeRef.lean ====
module

public import proofs.«01_k».proof.Proof.Stream
public import proofs.«01_k».proof.Proof.Silu
public import proofs.«01_k».proof.Proof.Gen.MergeRefIdeal.Read
import Idealize.ShloMosaic.Lib.Pointwise

/-! # The reference of the call that closes the even layer, at an index -/

@[expose] public section

set_option maxRecDepth 16384

noncomputable section

open Idealize.ShloMosaic Idealize.ShloMosaic.TcCoe
open Cert.MergeRefIdeal Cert.MergeRefIdeal.Read
open Cert.Proof.Stream Cert.Proof.Silu

namespace Cert.Proof.MergeRef

abbrev Conv : Type := (⟨S2x16640x512, .bf16⟩ : BufTy).Contents (Elt Ideal)
abbrev Att : Type := (⟨S2x16640x512, .f32⟩ : BufTy).Contents (Elt Ideal)
abbrev Proj : Type := (⟨S2x16640x4096, .bf16⟩ : BufTy).Contents (Elt Ideal)
abbrev Rows : Type := (⟨S2x16640x1024, .f32⟩ : BufTy).Contents (Elt Ideal)
abbrev ModL : Type := (⟨S2x3072, .f32⟩ : BufTy).Contents (Elt Ideal)
abbrev ModC : Type := (⟨S3072, .f32⟩ : BufTy).Contents (Elt Ideal)
abbrev OutW : Type := (⟨S1024x1024, .f32⟩ : BufTy).Contents (Elt Ideal)

variable (x0 : Conv) (x1 : Att) (x2 : Proj) (x3 : Rows) (x4 : ModL) (x5 : ModC) (x6 : OutW)

theorem gated_convolution (b : Fin 2) (n : Fin 16640) (k : Fin 512) :
    val_main_v6 (F := Ideal) x0 x2 (ix3 b n k) = x0 (ix3 b n k) * silu (x2 (ix3 b n ⟨1536 + k.val, by omega⟩)) := by
  unfold silu
  pointwise [val_main_v0, val_main_v1, val_main_v4, val_main_v5, val_main_v6, val_main_call0_cst, val_main_call0_cst_0, val_main_call0_v0, val_main_call0_v1, val_main_call0_v2, val_main_call0_v3, val_main_call0_v4, val_main_call0_v5]

theorem gated_attention (b : Fin 2) (n : Fin 16640) (k : Fin 512) :
    val_main_v8 (F := Ideal) x1 x2 (ix3 b n k) = x1 (ix3 b n k) * silu (x2 (ix3 b n ⟨3584 + k.val, by omega⟩)) := by
  unfold silu
  pointwise [val_main_v2, val_main_v3, val_main_v7, val_main_v8, val_main_call1_cst, val_main_call1_cst_0, val_main_call1_v0, val_main_call1_v1, val_main_call1_v2, val_main_call1_v3, val_main_call1_v4, val_main_call1_v5]

theorem lanes_joined (b : Fin 2) (n : Fin 16640) (k : Fin 1024) :
    val_main_v9 (F := Ideal) x0 x1 x2 (ix3 b n k)
      = if _ : k.val < 512 then val_main_v6 (F := Ideal) x0 x2 (ix3 b n ⟨k.val, by omega⟩)
        else val_main_v8 (F := Ideal) x1 x2 (ix3 b n ⟨k.val - 512, by omega⟩) := by
  pointwise [val_main_v9]

theorem product (b : Fin 2) (n : Fin 16640) (e : Fin 1024) :
    val_main_v10 (F := Ideal) x0 x1 x2 x6 (ix3 b n e) = ∑ k : Fin 1024, val_main_v9 (F := Ideal) x0 x1 x2 (ix3 b n k) * x6 (ix2 k e) := by
  pointwise [val_main_v10]

/-- The product over 1024 lanes is that over the convolution's 512 plus that over the attention's. -/
theorem product_halves (b : Fin 2) (n : Fin 16640) (e : Fin 1024) :
    val_main_v10 (F := Ideal) x0 x1 x2 x6 (ix3 b n e)
      = ∑ k : Fin 512, x0 (ix3 b n k) * silu (x2 (ix3 b n ⟨1536 + k.val, by omega⟩)) * x6 (ix2 ⟨k.val, by omega⟩ e)
        + ∑ k : Fin 512, x1 (ix3 b n k) * silu (x2 (ix3 b n ⟨3584 + k.val, by omega⟩)) * x6 (ix2 ⟨512 + k.val, by omega⟩ e) := by
  rw [product]
  refine (Fin.sum_univ_add (a := 512) (b := 512) fun k => val_main_v9 (F := Ideal) x0 x1 x2 (ix3 b n k) * x6 (ix2 k e)).trans ?_
  refine congrArg₂ (· + ·) (Finset.sum_congr rfl fun k _ => ?_) (Finset.sum_congr rfl fun k _ => ?_)
  · rw [lanes_joined, dif_pos (show (Fin.castAdd 512 k).val < 512 from k.isLt), ← gated_convolution]
    rfl
  · rw [lanes_joined, dif_neg (show ¬(Fin.natAdd 512 k).val < 512 by show ¬(512 + k.val < 512); omega), ← gated_attention]
    have hk : (⟨(Fin.natAdd 512 k).val - 512, by show 512 + k.val - 512 < 512; omega⟩ : Fin 512) = k := Fin.ext (by show 512 + k.val - 512 = k.val; omega)
    rw [hk]
    rfl

theorem context_row (b : Fin 2) (n : Fin 256) (e : Fin 1024) :
    val_main_v24 (F := Ideal) x0 x1 x2 x3 x5 x6 (ix3 b n e)
      = x3 (ix3 b ⟨n.val, by omega⟩ e) + x5 (ix1 (third 2 e)) * val_main_v10 (F := Ideal) x0 x1 x2 x6 (ix3 b ⟨n.val, by omega⟩ e) := by
  unfold third
  pointwise [val_main_v18, val_main_v19, val_main_v20, val_main_v21, val_main_v22, val_main_v23, val_main_v24]

theorem latent_row (b : Fin 2) (n : Fin 16384) (e : Fin 1024) :
    val_main_v17 (F := Ideal) x0 x1 x2 x3 x4 x6 (ix3 b n e)
      = x3 (ix3 b ⟨256 + n.val, by omega⟩ e) + x4 (ix2 b (third 2 e)) * val_main_v10 (F := Ideal) x0 x1 x2 x6 (ix3 b ⟨256 + n.val, by omega⟩ e) := by
  unfold third
  pointwise [val_main_v11, val_main_v12, val_main_v13, val_main_v14, val_main_v15, val_main_v16, val_main_v17]

theorem rows_joined (b : Fin 2) (n : Fin 16640) (e : Fin 1024) :
    val_main_v25 (F := Ideal) x0 x1 x2 x3 x4 x5 x6 (ix3 b n e)
      = if _ : n.val < 256 then val_main_v24 (F := Ideal) x0 x1 x2 x3 x5 x6 (ix3 b ⟨n.val, by omega⟩ e)
        else val_main_v17 (F := Ideal) x0 x1 x2 x3 x4 x6 (ix3 b ⟨n.val - 256, by omega⟩ e) := by
  pointwise [val_main_v25]

/-- The reference's result at an index. -/
theorem result_apply (b : Fin 2) (n : Fin 16640) (e : Fin 1024) :
    val_main_v25 (F := Ideal) x0 x1 x2 x3 x4 x5 x6 (ix3 b n e)
      = x3 (ix3 b n e) + (if n.val < 256 then x5 (ix1 (third 2 e)) else x4 (ix2 b (third 2 e)))
        * (∑ k : Fin 512, x0 (ix3 b n k) * silu (x2 (ix3 b n ⟨1536 + k.val, by omega⟩)) * x6 (ix2 ⟨k.val, by omega⟩ e)
          + ∑ k : Fin 512, x1 (ix3 b n k) * silu (x2 (ix3 b n ⟨3584 + k.val, by omega⟩)) * x6 (ix2 ⟨512 + k.val, by omega⟩ e)) := by
  rw [rows_joined, ← product_halves]
  by_cases h : n.val < 256
  · rw [dif_pos h, if_pos h, context_row]
  · rw [dif_neg h, if_neg h, latent_row]
    have e1 : (⟨256 + (n.val - 256), by omega⟩ : Fin 16640) = n := Fin.ext (by show 256 + (n.val - 256) = n.val; omega)
    rw [e1]

end Cert.Proof.MergeRef

end

end
-- ==== Proof.MergeClaim.lean ====
module

public import proofs.«01_k».proof.Defs
public import proofs.«01_k».proof.Proof.MergeArray
public import proofs.«01_k».proof.Proof.MergeRef
public import proofs.«01_k».proof.Proof.Gen.MergeRefIdeal.Run

/-! # The call that closes the even layer: the reference's run, and both runs with equal results -/

@[expose] public section

set_option maxRecDepth 16384

noncomputable section

open Idealize.ShloMosaic Idealize.ShloMosaic.TcCoe Idealize.SL.Sem

namespace Cert.Proof.MergeClaim

/-- The reference has no semaphore. -/
theorem no_semaphore : ∀ sm : SemLoc Cert.MergeRefIdeal.sig, False := by decide

/-- The reference runs, its arguments end unchanged and every counter is zero. -/
theorem reference_frame (m : (ℓ : Loc Cert.MergeRefIdeal.nD Cert.MergeRefIdeal.τ Cert.MergeRefIdeal.sig) → Buf (Elt Ideal) ℓ)
    (g : Dev Cert.MergeRefIdeal.nD → PrngReg) :
    θ_run (Cert.MergeRefIdeal.defs (F := Ideal)) (onTc (τ := Cert.MergeRefIdeal.τ) (Cert.MergeRefIdeal.main (F := Ideal)))
      ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0) :=
  (θ_run Cert.MergeRefIdeal.defs _ _).mono (fun _ h => ⟨fun c => (h c).2, funext fun s => (no_semaphore s.2).elim⟩)
    (Cert.MergeRefIdeal.Value.run m g)

/-- From arguments that agree, kernel and reference end with the same result. -/
theorem algebraic : Cert.algebraic_MergeIdeal_MergeRefIdeal (hMergeIdeal := Cert.MergeIdeal.Gen.facts)
    (hMergeRefIdeal := Cert.MergeRefIdeal.Gen.facts) := by
  intro m g m' g' _ hargs
  refine ⟨fun c => (Cert.MergeIdeal.Gen.dats m 0 c).arrAt 9 Cert.MergeIdeal.cfg0.N, Cert.MergeIdeal.Value.run_blocks m g, ?_⟩
  refine (θ_run Cert.MergeRefIdeal.defs _ _).mono (fun r h c => ?_) (Cert.MergeRefIdeal.Value.run m' g')
  refine ⟨?_, (h c).2⟩
  obtain ⟨h0, h1, h2, h3, h4, h5, h6⟩ := hargs c
  refine ((h c).1.trans (Cert.MergeRefIdeal.Read.val_main_v25_eq _ _ _ _ _ _ _)).trans ?_
  change Cert.MergeRefIdeal.Read.val_main_v25 (F := Ideal)
    (m' ((c.tc : Thread Cert.MergeRefIdeal.nD Cert.MergeRefIdeal.τ).loc Cert.MergeRefIdeal.main_arg0))
    (m' ((c.tc : Thread Cert.MergeRefIdeal.nD Cert.MergeRefIdeal.τ).loc Cert.MergeRefIdeal.main_arg1))
    (m' ((c.tc : Thread Cert.MergeRefIdeal.nD Cert.MergeRefIdeal.τ).loc Cert.MergeRefIdeal.main_arg2))
    (m' ((c.tc : Thread Cert.MergeRefIdeal.nD Cert.MergeRefIdeal.τ).loc Cert.MergeRefIdeal.main_arg3))
    (m' ((c.tc : Thread Cert.MergeRefIdeal.nD Cert.MergeRefIdeal.τ).loc Cert.MergeRefIdeal.main_arg4))
    (m' ((c.tc : Thread Cert.MergeRefIdeal.nD Cert.MergeRefIdeal.τ).loc Cert.MergeRefIdeal.main_arg5))
    (m' ((c.tc : Thread Cert.MergeRefIdeal.nD Cert.MergeRefIdeal.τ).loc Cert.MergeRefIdeal.main_arg6)) = _
  rw [h0, h1, h2, h3, h4, h5, h6]
  funext i
  obtain ⟨b, n, q, rfl⟩ : ∃ (b : Fin 2) (n : Fin 16640) (q : Fin 1024), i = ix3 b n q := ⟨_, _, _, eq_ix3 i⟩
  exact (MergeRef.result_apply _ _ _ _ _ _ _ b n q).trans (MergeArray.array_apply m c b n q).symm

end Cert.Proof.MergeClaim

end

end
-- ==== Proof.OddIdealBody.lean ====
module

public import proofs.«01_k».proof.Proof.Gen.OddIdeal.Frame
public import proofs.«01_k».proof.Proof.Gen.OddIdeal.Skeleton
public import proofs.«01_k».proof.Proof.EvenBody
public import Idealize.ShloMosaic.Lib.Claim

/-!
# What one grid step of the odd layer's projection does

The kernel walks the 13 row blocks of each batch and, inside a row block, the three column blocks of the
weight. It keeps the normalised rows of a row block in a scratch buffer. At the first column block it fills the
scratch and writes the small projection beside it (128 columns of step sizes). At the other two column blocks it
stores neither. At every column block it writes one block of the large projection from the scratch.
There are three kinds of step, one theorem for each:

* `step_first`: the first column block of the first row block, which starts with the context rows;
* `step_lat`: the first column block of any other row block;
* `step_on`: the other column blocks, which find scratch and small projection as they were left.
-/

@[expose] public section

set_option maxRecDepth 16384

noncomputable section

namespace Cert.Proof.OddIdealBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.OddIdeal Cert.OddIdeal.Gen
open Cert.Proof.EvenBody (readCov_cons_whole offsets_zero2 offsets_zero3)

/-- A whole read of a whole store, over anything. -/
theorem read_writes_whole {Val : EltTy → Type} [∀ e, Nonempty (Val e)] {sig : RefSig} {κ : Kind} {sp : Space}
    {S : Shape} {e : EltTy} (v : View sig κ sp S e) (f : v.ty.Contents Val) {off : Fin S.rank → Nat} (h : off = fun _ => 0)
    (inb : ∀ a, off a + S.size a ≤ S.size a) (w : S.Idx → Val e) :
    v.read Val (v.writes Val f [⟨Rect.unit off S.size inb, w⟩]) = w := by
  rw [View.read_writes_eq_canon _ _ _ (fun y => ⟨_, List.mem_singleton_self _, View.mem_set_unit_zero h inb y⟩),
    View.canon_unit_zero h]

variable {F : FTy → Type} [FloatOps F]

local notation "𝕄" => MT nD τ sig Unit (Elt F) ℕ (UR sig nD τ) ℕ

/-- The rows of a block of latent rows. -/
def latRows (x0 : Vec F S1x1280x1024 .f32) (x1 : Vec F S1x1x3072 .f32) (x3 : Vec F S1x1024 .f32) : Vec F S1280x1024 .bf16 :=
  k0_pay9 x0 x3 (View.ld x1 (Rect.unit (s := S1x1x3072) ![0, 0, 1024] S1x1x1024.size inb_S1x1x3072_S1x1x1024_0_0_1024))
    (View.ld x1 (Rect.unit (s := S1x1x3072) ![0, 0, 0] S1x1x1024.size inb_S1x1x3072_S1x1x1024_0_0_0))

/-- The small projection of a block of latent rows. -/
def latSide (x0 : Vec F S1x1280x1024 .f32) (x1 : Vec F S1x1x3072 .f32) (x3 : Vec F S1x1024 .f32) (x5 : Vec F S1024x128 .bf16) :
    Vec F S1x1280x128 .f32 :=
  k0_pay10 x0 x3 (View.ld x1 (Rect.unit (s := S1x1x3072) ![0, 0, 1024] S1x1x1024.size inb_S1x1x3072_S1x1x1024_0_0_1024))
    (View.ld x1 (Rect.unit (s := S1x1x3072) ![0, 0, 0] S1x1x1024.size inb_S1x1x3072_S1x1x1024_0_0_0)) x5

/-- The rows of a first block, which starts with the context rows. -/
def firstRows (i : grid0.Coords) (x0 : Vec F S1x1280x1024 .f32) (x1 : Vec F S1x1x3072 .f32) (x2 : Vec F S1x3072 .f32)
    (x3 : Vec F S1x1024 .f32) : Vec F S1280x1024 .bf16 :=
  k0_pay2 i (k0_pay5 x0)
    (k0_pay6 (View.ld x1 (Rect.unit (s := S1x1x3072) ![0, 0, 0] S1x1x1024.size inb_S1x1x3072_S1x1x1024_0_0_0)))
    (k0_pay7 (BitVec.ofNat 32 (i 1).val) x3
      (View.ld x1 (Rect.unit (s := S1x1x3072) ![0, 0, 1024] S1x1x1024.size inb_S1x1x3072_S1x1x1024_0_0_1024))
      (View.ld x2 (Rect.unit (s := S1x3072) ![0, 1024] S1x1024.size inb_S1x3072_S1x1024_0_1024)))
    (View.ld x2 (Rect.unit (s := S1x3072) ![0, 0] S1x1024.size inb_S1x3072_S1x1024_0_0))

/-- The small projection of a first block. -/
def firstSide (i : grid0.Coords) (x0 : Vec F S1x1280x1024 .f32) (x1 : Vec F S1x1x3072 .f32) (x2 : Vec F S1x3072 .f32)
    (x3 : Vec F S1x1024 .f32) (x5 : Vec F S1024x128 .bf16) : Vec F S1x1280x128 .f32 :=
  k0_pay3 i (k0_pay5 x0)
    (k0_pay6 (View.ld x1 (Rect.unit (s := S1x1x3072) ![0, 0, 0] S1x1x1024.size inb_S1x1x3072_S1x1x1024_0_0_0)))
    (k0_pay7 (BitVec.ofNat 32 (i 1).val) x3
      (View.ld x1 (Rect.unit (s := S1x1x3072) ![0, 0, 1024] S1x1x1024.size inb_S1x1x3072_S1x1x1024_0_0_1024))
      (View.ld x2 (Rect.unit (s := S1x3072) ![0, 1024] S1x1024.size inb_S1x3072_S1x1024_0_1024)))
    (View.ld x2 (Rect.unit (s := S1x3072) ![0, 0] S1x1024.size inb_S1x3072_S1x1024_0_0)) x5

variable (c : Dev nD) (i : grid0.Coords) (arg3 : Memref sig .tc .vmem S1x1280x1024 .f32) (harg3 : arg3.IsWhole)
    (arg4 : Memref sig .tc .vmem S1x1x3072 .f32) (harg4 : arg4.IsWhole) (arg5 : Memref sig .tc .vmem S1x3072 .f32) (harg5 : arg5.IsWhole)
    (arg6 : Memref sig .tc .vmem S1x1024 .f32) (harg6 : arg6.IsWhole) (arg7 : Memref sig .tc .vmem S1024x2048 .bf16) (harg7 : arg7.IsWhole)
    (arg8 : Memref sig .tc .vmem S1024x128 .bf16) (harg8 : arg8.IsWhole) (arg9 : Memref sig .tc .vmem S1x1280x2048 .bf16) (harg9 : arg9.IsWhole)
    (arg10 : Memref sig .tc .vmem S1x1280x128 .f32) (harg10 : arg10.IsWhole) (arg11 : Memref sig .tc .vmem S1280x1024 .bf16) (harg11 : arg11.IsWhole)
    (x0 : Vec F S1x1280x1024 .f32) (x1 : Vec F S1x1x3072 .f32) (x2 : Vec F S1x3072 .f32) (x3 : Vec F S1x1024 .f32) (x4 : Vec F S1024x2048 .bf16)
    (x5 : Vec F S1024x128 .bf16)

/-- The six input buffers at their contents. -/
def inputs : sProp 𝕄 :=
  iprop(owns (c : Thread nD τ) arg3 fullShare x0 ∗ owns (c : Thread nD τ) arg4 fullShare x1 ∗ owns (c : Thread nD τ) arg5 fullShare x2
    ∗ owns (c : Thread nD τ) arg6 fullShare x3 ∗ owns (c : Thread nD τ) arg7 fullShare x4 ∗ owns (c : Thread nD τ) arg8 fullShare x5)

set_option maxHeartbeats 2000000 in
theorem step_first (hc0 : k0_cond1 i = 1#1) (hc1 : ¬k0_cond2 i = 1#1) (E : Set ℕ) (K : PUnit → sProp 𝕄) :
    iprop(inputs c arg3 arg4 arg5 arg6 arg7 arg8 x0 x1 x2 x3 x4 x5
        ∗ (∃ d, owns (c : Thread nD τ) arg9 fullShare d) ∗ (∃ d, owns (c : Thread nD τ) arg10 fullShare d) ∗ (∃ d, owns (c : Thread nD τ) arg11 fullShare d)
        ∗ (iprop(inputs c arg3 arg4 arg5 arg6 arg7 arg8 x0 x1 x2 x3 x4 x5
            ∗ owns (c : Thread nD τ) arg9 fullShare (k0_pay4 (firstRows i x0 x1 x2 x3) x4 : Vec F S1x1280x2048 .bf16)
            ∗ owns (c : Thread nD τ) arg10 fullShare (firstSide i x0 x1 x2 x3 x5)
            ∗ owns (c : Thread nD τ) arg11 fullShare (firstRows i x0 x1 x2 x3)) -∗ K ⟨⟩))
      ⊢ wp frame (wpE (defs₀ (F := F)) Variants.none c none) E
          (cc0_normproj i arg3 harg3 arg4 harg4 arg5 harg5 arg6 harg6 arg7 harg7 arg8 harg8 arg9 harg9 arg10 harg10 arg11 harg11) K := by
  simp only [cc0_normproj_eq_skeleton]; unfold cc0_normproj_skel
  simp only [k0_part1_eq_skeleton]
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%d7, %f7, -, H7⟩, ⟨%ds, %fs, -, HS⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  sl_exec (disch := first | sl_exact hc0 | sl_exact hc1)
  sl_step
  iapply Hk
  isplitl [H0 H1 H2 H3 H4 H5]
  · isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; isplitr; · ipureintro; exact harg8.read_unread _
    iexact H5
  isplitl [H6]
  · iexists _; isplitr
    swap; · iexact H6
    ipureintro
    sl_unfold_words
    rw [read_writes_whole _ _ offsets_zero3]
    simp only [readCov_cons_whole (S := S1280x1024) _ offsets_zero2, View.readAt_eq_ld, harg3.read_unread, harg4.read_unread,
      harg5.read_unread, harg6.read_unread, harg7.read_unread,
      View.ld_unit_zero (S := S1x1280x1024) offsets_zero3, View.ld_unit_zero (S := S1x1024) offsets_zero2,
      View.ld_unit_zero (S := S1024x2048) offsets_zero2]
    rfl
  isplitl [H7]
  · iexists _; isplitr
    swap; · iexact H7
    ipureintro
    sl_unfold_words
    rw [read_writes_whole _ _ offsets_zero3]
    simp only [View.readAt_eq_ld, harg3.read_unread, harg4.read_unread, harg5.read_unread, harg6.read_unread, harg8.read_unread,
      View.ld_unit_zero (S := S1x1280x1024) offsets_zero3, View.ld_unit_zero (S := S1x1024) offsets_zero2,
      View.ld_unit_zero (S := S1024x128) offsets_zero2]
    rfl
  iexists _; isplitr
  swap; · iexact HS
  ipureintro
  sl_unfold_words
  rw [read_writes_whole _ _ offsets_zero2]
  simp only [View.readAt_eq_ld, harg3.read_unread, harg4.read_unread, harg5.read_unread, harg6.read_unread,
    View.ld_unit_zero (S := S1x1280x1024) offsets_zero3, View.ld_unit_zero (S := S1x1024) offsets_zero2]
  rfl

set_option maxHeartbeats 2000000 in
theorem step_lat (hc0 : ¬k0_cond1 i = 1#1) (hc1 : k0_cond2 i = 1#1) (E : Set ℕ) (K : PUnit → sProp 𝕄) :
    iprop(inputs c arg3 arg4 arg5 arg6 arg7 arg8 x0 x1 x2 x3 x4 x5
        ∗ (∃ d, owns (c : Thread nD τ) arg9 fullShare d) ∗ (∃ d, owns (c : Thread nD τ) arg10 fullShare d) ∗ (∃ d, owns (c : Thread nD τ) arg11 fullShare d)
        ∗ (iprop(inputs c arg3 arg4 arg5 arg6 arg7 arg8 x0 x1 x2 x3 x4 x5
            ∗ owns (c : Thread nD τ) arg9 fullShare (k0_pay4 (latRows x0 x1 x3) x4 : Vec F S1x1280x2048 .bf16)
            ∗ owns (c : Thread nD τ) arg10 fullShare (latSide x0 x1 x3 x5)
            ∗ owns (c : Thread nD τ) arg11 fullShare (latRows x0 x1 x3)) -∗ K ⟨⟩))
      ⊢ wp frame (wpE (defs₀ (F := F)) Variants.none c none) E
          (cc0_normproj i arg3 harg3 arg4 harg4 arg5 harg5 arg6 harg6 arg7 harg7 arg8 harg8 arg9 harg9 arg10 harg10 arg11 harg11) K := by
  simp only [cc0_normproj_eq_skeleton]; unfold cc0_normproj_skel
  simp only [k0_part2_eq_skeleton]
  unfold inputs owns
  iintro ⟨⟨⟨%f0, %hf0, H0⟩, ⟨%f1, %hf1, H1⟩, H2, ⟨%f3, %hf3, H3⟩, ⟨%f4, %hf4, H4⟩, ⟨%f5, %hf5, H5⟩⟩, ⟨%d6, %f6, -, H6⟩, ⟨%d7, %f7, -, H7⟩, ⟨%ds, %fs, -, HS⟩, Hk⟩
  obtain rfl := harg3.eq_unread hf0; obtain rfl := harg4.eq_unread hf1
  obtain rfl := harg6.eq_unread hf3; obtain rfl := harg7.eq_unread hf4; obtain rfl := harg8.eq_unread hf5
  sl_exec (disch := first | sl_exact hc0 | sl_exact hc1)
  sl_step
  iapply Hk
  isplitl [H0 H1 H2 H3 H4 H5]
  · isplitl [H0]
    · iexists _; isplitr; · ipureintro; exact harg3.read_unread _
      iexact H0
    isplitl [H1]
    · iexists _; isplitr; · ipureintro; exact harg4.read_unread _
      iexact H1
    isplitl [H2]; · iexact H2
    isplitl [H3]
    · iexists _; isplitr; · ipureintro; exact harg6.read_unread _
      iexact H3
    isplitl [H4]
    · iexists _; isplitr; · ipureintro; exact harg7.read_unread _
      iexact H4
    iexists _; isplitr; · ipureintro; exact harg8.read_unread _
    iexact H5
  isplitl [H6]
  · iexists _; isplitr
    swap; · iexact H6
    ipureintro
    sl_unfold_words
    rw [read_writes_whole _ _ offsets_zero3]
    simp only [readCov_cons_whole (S := S1280x1024) _ offsets_zero2, View.readAt_eq_ld, harg3.read_unread, harg4.read_unread,
      harg6.read_unread, harg7.read_unread,
      View.ld_unit_zero (S := S1x1280x1024) offsets_zero3, View.ld_unit_zero (S := S1x1024) offsets_zero2,
      View.ld_unit_zero (S := S1024x2048) offsets_zero2]
    rfl
  isplitl [H7]
  · iexists _; isplitr
    swap; · iexact H7
    ipureintro
    sl_unfold_words
    rw [read_writes_whole _ _ offsets_zero3]
    simp only [View.readAt_eq_ld, harg3.read_unread, harg4.read_unread, harg6.read_unread, harg8.read_unread,
      View.ld_unit_zero (S := S1x1280x1024) offsets_zero3, View.ld_unit_zero (S := S1x1024) offsets_zero2,
      View.ld_unit_zero (S := S1024x128) offsets_zero2]
    rfl
  iexists _; isplitr
  swap; · iexact HS
  ipureintro
  sl_unfold_words
  rw [read_writes_whole _ _ offsets_zero2]
  simp only [View.readAt_eq_ld, harg3.read_unread, harg4.read_unread, harg6.read_unread,
    View.ld_unit_zero (S := S1x1280x1024) offsets_zero3, View.ld_unit_zero (S := S1x1024) offsets_zero2]
  rfl

set_option maxHeartbeats 2000000 in
theorem step_on (hc0 : ¬k0_cond1 i = 1#1) (hc1 : ¬k0_cond2 i = 1#1) (xs : Vec F S1280x1024 .bf16) (x7 : Vec F S1x1280x128 .f32)
    (E : Set ℕ) (K : PUnit → sProp 𝕄) :
    iprop(inputs c arg3 arg4 arg5 arg6 arg7 arg8 x0 x1 x2 x3 x4 x5
        ∗ (∃ d, owns (c : Thread nD τ) arg9 fullShare d) ∗ owns (c : Thread nD τ) arg10 fullShare x7 ∗ owns (c : Thread nD τ) arg11 fullShare xs
        ∗ (iprop(inputs c arg3 arg4 arg5 arg6 arg7 arg8 x0 x1 x2 x3 x4 x5
            ∗ owns (c : Thread nD τ) arg9 fullShare (k0_pay4 xs x4 : Vec F S1x1280x2048 .bf16)
            ∗ owns (c : Thread nD τ) arg10 fullShare x7
            ∗ owns (c : Thread nD τ) arg11 fullShare xs) -∗ K ⟨⟩))
      ⊢ wp frame (wpE (defs₀ (F := F)) Variants.none c none) E
          (cc0_normproj i arg3 harg3 arg4 harg4 arg5 harg5 arg6 harg6 arg7 harg7 arg8 harg8 arg9 harg9 arg10 harg10 arg11 harg11) K := by
  simp only [cc0_normproj_eq_skeleton]; unfold cc0_normproj_skel
  unfold inputs owns
  iintro ⟨⟨H0, H1, H2, H3, ⟨%f4, %hf4, H4⟩, H5⟩, ⟨%d6, %f6, -, H6⟩, H7, ⟨%fs, %hfs, HS⟩, Hk⟩
  obtain rfl := harg7.eq_unread hf4; obtain rfl := harg11.eq_unread hfs
  sl_exec (disch := first | sl_exact hc0 | sl_exact hc1)
  sl_step
  iapply Hk
  isplitl [H0 H1 H2 H3 H4 H5]
  · isplitl [H0]; · iexact H0
    isplitl [H1]; · iexact H1
    isplitl [H2]; · iexact H2
    isplitl [H3]; · iexact H3
    isplitl [H4]
    · iexists _; isplitr; · ipureintro; exact harg7.read_unread _
      iexact H4
    iexact H5
  isplitl [H6]
  · iexists _; isplitr
    swap; · iexact H6
    ipureintro
    sl_unfold_words
    rw [read_writes_whole _ _ offsets_zero3]
    simp only [View.readAt_eq_ld, harg7.read_unread, harg11.read_unread,
      View.ld_unit_zero (S := S1280x1024) offsets_zero2, View.ld_unit_zero (S := S1024x2048) offsets_zero2]
  isplitl [H7]; · iexact H7
  iexists _; isplitr
  swap; · iexact HS
  ipureintro; exact harg11.read_unread _

end Cert.Proof.OddIdealBody

end
end
-- ==== Proof.OddIdealFrame.lean ====
module

public import proofs.«01_k».proof.Proof.OddIdealBody
public import Idealize.ShloMosaic.Lib.Pipeline.TableIdle

/-!
# The odd layer's projection runs, and what its two results hold

The rows of a row block are computed at its first step, `base t`, and stay in the scratch buffer for the two steps
after it; the small projection's buffer, too, is stored at that step and kept until the row block ends. So what the
scratch and the two outputs hold after the step `t` is said from `base t` outright (`rowsAt`, `sideAt`), with no
recursion along the steps. The theorem `run_main` gives the arrays after the run, `frame` the frame.
-/

@[expose] public section

set_option maxRecDepth 16384

noncomputable section

namespace Cert.Proof.OddIdealFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OddIdeal Cert.OddIdeal.Gen Cert.Proof.OddIdealBody

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## When the two branches are taken -/

theorem cond_first : ∀ t : Fin cfg0.N, k0_cond1 (grid0.coords t) = 1#1 ↔ t.val % 39 = 0 :=
  (by decide +kernel : ∀ t : Fin grid0.N, k0_cond1 (grid0.coords t) = 1#1 ↔ t.val % 39 = 0)

theorem cond_lat : ∀ t : Fin cfg0.N, k0_cond2 (grid0.coords t) = 1#1 ↔ t.val % 3 = 0 ∧ ¬t.val % 39 = 0 :=
  (by decide +kernel : ∀ t : Fin grid0.N, k0_cond2 (grid0.coords t) = 1#1 ↔ t.val % 3 = 0 ∧ ¬t.val % 39 = 0)

/-! ## What the buffers hold after a step -/

/-- The first step of the row block that the step `t` works on. -/
def base (t : Fin cfg0.N) : Fin cfg0.N := ⟨t.val - t.val % 3, Nat.lt_of_le_of_lt (Nat.sub_le _ _) t.isLt⟩

theorem base_of_first (t : Fin cfg0.N) (h : t.val % 3 = 0) : base t = t := Fin.ext (by show t.val - t.val % 3 = t.val; omega)

theorem base_succ (t u : Fin cfg0.N) (hu : u.val = t.val + 1) (h : ¬u.val % 3 = 0) : base t = base u :=
  Fin.ext (by show t.val - t.val % 3 = u.val - u.val % 3; omega)

/-- The rows that the step `p` computes, being the first of its row block. -/
def rowsOf (c : Dev nD) (p : Fin cfg0.N) : Vec F S1280x1024 .bf16 :=
  if p.val % 39 = 0 then firstRows (grid0.coords p) (iblk m c 0 p) (iblk m c 1 p) (iblk m c 2 p) (iblk m c 3 p)
  else latRows (iblk m c 0 p) (iblk m c 1 p) (iblk m c 3 p)

/-- The small projection that the step `p` computes, being the first of its row block. -/
def sideOf (c : Dev nD) (p : Fin cfg0.N) : Vec F S1x1280x128 .f32 :=
  if p.val % 39 = 0 then firstSide (grid0.coords p) (iblk m c 0 p) (iblk m c 1 p) (iblk m c 2 p) (iblk m c 3 p) (iblk m c 5 p)
  else latSide (iblk m c 0 p) (iblk m c 1 p) (iblk m c 3 p) (iblk m c 5 p)

/-- The scratch buffer after the step `t`. -/
def rowsAt (c : Dev nD) (t : Fin cfg0.N) : Vec F S1280x1024 .bf16 := rowsOf m c (base t)
/-- The small projection's buffer after the step `t`. -/
def sideAt (c : Dev nD) (t : Fin cfg0.N) : Vec F S1x1280x128 .f32 := sideOf m c (base t)

/-- The scratch buffer, as the body is given it. -/
abbrev scratch : Memref sig .tc .vmem S1280x1024 .bf16 := Memref.whole cc0_scratch0

/-- Before the step `n` the scratch buffer holds the row block's rows, unless the step starts a row block. -/
def held (c : Dev nD) (n : ℕ) : sProp 𝕄 :=
  iprop((∃ d, ⌜∀ h : n < cfg0.N, ¬n % 3 = 0 → d = rowsAt m c ⟨n, h⟩⌝ ∗ owns (c : Thread nD τ) scratch fullShare d) ∗ (∃ r, prngReg c r))

theorem rest_eq (c : Dev nD) :
    (Pipeline.ΦA spec0 c : sProp 𝕄) = iprop(iprop((∃ d, owns (c : Thread nD τ) scratch fullShare d)) ∗ (∃ r, prngReg c r)) := by
  unfold Pipeline.ΦA; rw [scopedRest0_eq]; simp only [scratch, owns_whole]; try rfl

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (k0_pay4 (rowsAt m c t) (iblk m c 4 t) : Vec F S1x1280x2048 .bf16)
    | ⟨7, _⟩ => sideAt m c t
  Φ t := held m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (k0_pay4 (rowsAt m c t) (iblk m c 4 t) : Vec F S1x1280x2048 .bf16) := by dsimp only [dats]
theorem after_7 (c : Dev nD) (t : Fin cfg0.N) : (dats m 0 c).after 7 t = sideAt m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d

/-- The body stores into the small projection's buffer at the first step of each row block alone. -/
theorem idle_7 : ∀ t : Fin cfg0.N, cfg0.idle 7 (cfg0.grid.coords t) = true ↔ ¬t.val % 3 = 0 :=
  (by decide +kernel : ∀ t : Fin grid0.N, idle0 7 (grid0.coords t) = true ↔ ¬t.val % 3 = 0)

/-- So that buffer is unwritten just where a row block begins. -/
theorem fresh_7 (n : ℕ) (h : n ≤ cfg0.N) : cfg0.fresh 7 n = (n % 3 == 0) :=
  cfg0.fresh_tab 7 (fun n => n % 3 == 0) rfl (fun t => by
    rw [Bool.eq_iff_iff, Bool.or_eq_true, Bool.and_eq_true, idle_7, beq_iff_eq, beq_iff_eq]
    have hf := flush0_7 t
    constructor
    · intro h; exact Or.inl (hf.mpr (by omega))
    · rintro (h | h)
      · have := hf.mp h; omega
      · exact absurd h.2 h.1) n h

theorem side_pred (c : Dev nD) (t : Fin cfg0.N) (h : ¬t.val % 3 = 0) :
    sideAt m c t = sideAt m c ⟨t.val - 1, Nat.lt_of_le_of_lt (Nat.sub_le _ _) t.isLt⟩ := by
  unfold sideAt
  rw [base_succ ⟨t.val - 1, Nat.lt_of_le_of_lt (Nat.sub_le _ _) t.isLt⟩ t (by show t.val = t.val - 1 + 1; omega) h]

/-- Inside a row block the small projection's buffer still holds what its first step stored. -/
theorem before_7 (c : Dev nD) (t : Fin cfg0.N) (h : ¬t.val % 3 = 0) (d) : (dats m 0 c).before 7 t d = sideAt m c t := by
  rw [(dats m 0 c).before_out_traj 7 rfl (fun _ _ => rfl)
    (fun u _ hi _ => by rw [after_7, after_7]; exact side_pred m c u ((idle_7 u).mp hi)) t.val t rfl d,
    fresh_7 _ (Nat.le_of_lt t.isLt), if_neg (by rw [beq_iff_eq]; exact h), after_7, ← side_pred m c t h]

/-! ## The body at any step -/

abbrev ms0 (t : Fin cfg0.N) : Memref sig .tc .vmem S1x1280x1024 .f32 := win0_0.stage (cfg0.slots t 0)
abbrev ms1 (t : Fin cfg0.N) : Memref sig .tc .vmem S1x1x3072 .f32 := win0_1.stage (cfg0.slots t 1)
abbrev ms2 (t : Fin cfg0.N) : Memref sig .tc .vmem S1x3072 .f32 := win0_2.stage (cfg0.slots t 2)
abbrev ms3 (t : Fin cfg0.N) : Memref sig .tc .vmem S1x1024 .f32 := win0_3.stage (cfg0.slots t 3)
abbrev ms4 (t : Fin cfg0.N) : Memref sig .tc .vmem S1024x2048 .bf16 := win0_4.stage (cfg0.slots t 4)
abbrev ms5 (t : Fin cfg0.N) : Memref sig .tc .vmem S1024x128 .bf16 := win0_5.stage (cfg0.slots t 5)
abbrev ms6 (t : Fin cfg0.N) : Memref sig .tc .vmem S1x1280x2048 .bf16 := win0_6.stage (cfg0.slots t 6)
abbrev ms7 (t : Fin cfg0.N) : Memref sig .tc .vmem S1x1280x128 .f32 := win0_7.stage (cfg0.slots t 7)

/-- What the body is called with at the step `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

/-- The rows a step leaves are those the next step of the row block finds. -/
theorem rows_next (c : Dev nD) (t : Fin cfg0.N) (h : t.val + 1 < cfg0.N) (hn : ¬(t.val + 1) % 3 = 0) : rowsAt m c t = rowsAt m c ⟨t.val + 1, h⟩ := by
  unfold rowsAt; rw [base_succ t ⟨t.val + 1, h⟩ rfl hn]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5, after_6, after_7]
  rw [show (dats m 0 c).Φ t.succ = held m c (t.val + 1) from rfl, show (dats m 0 c).Φ t.castSucc = held m c t.val from rfl]
  unfold held
  by_cases h3 : t.val % 3 = 0
  · by_cases h39 : t.val % 39 = 0
    · have hr : rowsAt m c t = firstRows (grid0.coords t) (iblk m c 0 t) (iblk m c 1 t) (iblk m c 2 t) (iblk m c 3 t) := by
        unfold rowsAt rowsOf; rw [base_of_first t h3, if_pos h39]
      have hs : sideAt m c t = firstSide (grid0.coords t) (iblk m c 0 t) (iblk m c 1 t) (iblk m c 2 t) (iblk m c 3 t) (iblk m c 5 t) := by
        unfold sideAt sideOf; rw [base_of_first t h3, if_pos h39]
      iintro ⟨⟨⟨%ds, -, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (step_first c (grid0.coords t) _ _ _ _ _ _ _ _ _ _ _ _ _ _ _ _ _ _ (iblk m c 0 t) (iblk m c 1 t) (iblk m c 2 t) (iblk m c 3 t) (iblk m c 4 t) (iblk m c 5 t)
        ((cond_first t).mpr h39) (fun h => ((cond_lat t).mp h).2 h39) Set.univ _)
      unfold inputs
      isplitl [H0 H1 H2 H3 H4 H5]
      · isplitl [H0]; · iexact H0
        isplitl [H1]; · iexact H1
        isplitl [H2]; · iexact H2
        isplitl [H3]; · iexact H3
        isplitl [H4]; · iexact H4
        iexact H5
      isplitl [H6]; · iexists _; iexact H6
      isplitl [H7]; · iexists _; iexact H7
      isplitl [HS]; · iexists _; iexact HS
      rw [← hr, ← hs]
      iintro ⟨⟨H0, H1, H2, H3, H4, H5⟩, H6, H7, HS⟩
      isplitl [HS Hg]
      · isplitl [HS]
        · iexists _; isplitr
          swap; · iexact HS
          ipureintro; exact rows_next m c t
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hr : rowsAt m c t = latRows (iblk m c 0 t) (iblk m c 1 t) (iblk m c 3 t) := by
        unfold rowsAt rowsOf; rw [base_of_first t h3, if_neg h39]
      have hs : sideAt m c t = latSide (iblk m c 0 t) (iblk m c 1 t) (iblk m c 3 t) (iblk m c 5 t) := by
        unfold sideAt sideOf; rw [base_of_first t h3, if_neg h39]
      iintro ⟨⟨⟨%ds, -, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (step_lat c (grid0.coords t) _ _ _ _ _ _ _ _ _ _ _ _ _ _ _ _ _ _ (iblk m c 0 t) (iblk m c 1 t) (iblk m c 2 t) (iblk m c 3 t) (iblk m c 4 t) (iblk m c 5 t)
        (fun h => h39 ((cond_first t).mp h)) ((cond_lat t).mpr ⟨h3, h39⟩) Set.univ _)
      unfold inputs
      isplitl [H0 H1 H2 H3 H4 H5]
      · isplitl [H0]; · iexact H0
        isplitl [H1]; · iexact H1
        isplitl [H2]; · iexact H2
        isplitl [H3]; · iexact H3
        isplitl [H4]; · iexact H4
        iexact H5
      isplitl [H6]; · iexists _; iexact H6
      isplitl [H7]; · iexists _; iexact H7
      isplitl [HS]; · iexists _; iexact HS
      rw [← hr, ← hs]
      iintro ⟨⟨H0, H1, H2, H3, H4, H5⟩, H6, H7, HS⟩
      isplitl [HS Hg]
      · isplitl [HS]
        · iexists _; isplitr
          swap; · iexact HS
          ipureintro; exact rows_next m c t
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · simp only [before_7 m c t h3]
    iintro ⟨⟨⟨%ds, %hds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    obtain rfl : ds = rowsAt m c t := hds t.isLt h3
    iapply (step_on c (grid0.coords t) _ _ _ _ _ _ _ _ _ _ _ _ _ _ _ _ _ _ (iblk m c 0 t) (iblk m c 1 t) (iblk m c 2 t) (iblk m c 3 t) (iblk m c 4 t) (iblk m c 5 t)
      (fun h => h3 (by have := (cond_first t).mp h; omega)) (fun h => h3 ((cond_lat t).mp h).1) (rowsAt m c t) (sideAt m c t) Set.univ _)
    unfold inputs
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexact H7
    isplitl [HS]; · iexact HS
    iintro ⟨⟨H0, H1, H2, H3, H4, H5⟩, H6, H7, HS⟩
    isplitl [HS Hg]
    · isplitl [HS]
      · iexists _; isplitr
        swap; · iexact HS
        ipureintro; exact rows_next m c t
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-! ## The run -/

theorem defs₀_row (t : Fin cfg0.N) : defs₀ (F := F) .tc cfg0.body (cfg0.bodyArgs t (cfg0.slots t)) = bodyAt0 t := by
  unfold defs₀; rw [Defs.onTc_tc]

/-- The small projection's buffer as the loop takes it back: at a step that stores nothing into it, as it was found. -/
theorem leaves_7 (c : Dev nD) (t : Fin cfg0.N) :
    owns (c : Thread nD τ) (ms7 t) fullShare ((dats m 0 c).after 7 t) ⊢ (dats m 0 c).leavesExact 7 t := by
  unfold Dat.leavesExact
  cases hi : cfg0.idle 7 (cfg0.grid.coords t)
  · exact .rfl
  · cases (cfg0.win 7).flush t
    · have h := (idle_7 t).mp hi
      simp only [before_7 m c t h, after_7]
      iintro H
      iexists (fun _ => Classical.arbitrary _)
      iexact H
    · exact .rfl

theorem post_leaves (c : Dev nD) (t : Fin cfg0.N) : bodyPost m c t ⊢
    iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ (dats m 0 c).leavesExact 7 t) := by
  unfold bodyPost
  iintro ⟨HF, Ho, H0, H1, H2, H3, H4, H5, H6, H7⟩
  isplitl [HF]; · iexact HF
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (leaves_7 m c t)
  iexact H7

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => post_leaves m c t

theorem hin (c : Dev nD) : Pipeline.ΦA spec0 c ⊢ (dats m 0 c).Φ 0 := by
  rw [show (dats m 0 c).Φ 0 = held m c 0 from rfl, rest_eq]
  unfold held
  iintro ⟨⟨%d, HS⟩, Hg⟩
  isplitl [HS]
  · iexists d; isplitr
    swap; · iexact HS
    ipureintro; exact fun _ h => absurd rfl h
  iexact Hg

theorem hout (c : Dev nD) : (dats m 0 c).Φ (Fin.last cfg0.N) ⊢ Pipeline.ΦA spec0 c := by
  rw [show (dats m 0 c).Φ (Fin.last cfg0.N) = held m c cfg0.N from rfl, rest_eq]
  unfold held
  iintro ⟨⟨%d, -, HS⟩, Hg⟩
  isplitl [HS]
  · iexists d; iexact HS
  iexact Hg

set_option backward.isDefEq.respectTransparency.types false in
/-- Every execution ends with the pipeline's arrays as the proof data say, and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The argument arrays end unchanged, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.Proof.OddIdealFrame

end
end
-- ==== Proof.OddValue.lean ====
module

public import proofs.«01_k».proof.Proof.OddIdealBody

/-! # The odd projection's rows and products, element by element -/

@[expose] public section

set_option maxRecDepth 16384

noncomputable section

namespace Cert.Proof.OddValue

open Idealize.ShloMosaic Idealize.ShloMosaic.TcCoe
open Cert.OddIdeal Cert.OddIdeal.Gen Cert.Proof.Stream Cert.Proof.OddIdealBody
open Cert.Proof.EvenBody (select_ctx)

variable (x0 : Vec Ideal S1x1280x1024 .f32) (x1 : Vec Ideal S1x1x3072 .f32) (x2 : Vec Ideal S1x3072 .f32)
  (x3 : Vec Ideal S1x1024 .f32) (x5 : Vec Ideal S1024x128 .bf16)

/-- A latent row at a lane. -/
theorem latRows_apply (r : Fin 1280) (e : Fin 1024) :
    latRows x0 x1 x3 (ix2 r e)
      = modulated (fun k => x0 (ix3 0 r k)) (fun k => x3 (ix2 0 k)) (fun k => x1 (ix3 0 0 (third 0 k)))
          (fun k => x1 (ix3 0 0 (third 1 k))) e := by
  unfold modulated invRoot third
  pointwise [latRows, k0_pay9, k0_pay8]

/-- A row of a first block at a lane. -/
theorem firstRows_apply (i : grid0.Coords) (hi : (i 1).val = 0) (r : Fin 1280) (e : Fin 1024) :
    firstRows i x0 x1 x2 x3 (ix2 r e)
      = streamRow r.val (fun k => x0 (ix3 0 r k)) (fun k => x3 (ix2 0 k)) (fun k => x2 (ix2 0 k)) (fun k => x1 (ix3 0 0 k)) e := by
  unfold streamRow modulated invRoot third rowMod
  pointwise [firstRows, k0_pay2, k0_pay1, k0_pay5, k0_pay6, k0_pay7]
  rw [hi]
  simp only [select_ctx]
  by_cases h : r.val < 256
  · simp only [if_pos h]
  · simp only [if_neg h]

/-- The rows as the small projection multiplies them: the same as the scratch buffer gets. -/
theorem pay8_rows (v19 : Vec Ideal S1x1280x1024 .f32) (v31 : Vec Ideal S1x1024 .f32) (v33 v38 : Vec Ideal S1x1x1024 .f32)
    (r : Fin 1280) (e : Fin 1024) : k0_pay9 v19 v31 v33 v38 (ix2 r e) = k0_pay8 v19 v31 v33 v38 (ix2 r e) := by
  pointwise [k0_pay9]

theorem pay1_rows (i : grid0.Coords) (v30 : FVec Ideal S1280x1024 .f32) (v39 : FVec Ideal S1x1024 .f32) (v57 : FVec Ideal S1280x1024 .f32)
    (v58 : Vec Ideal S1x1024 .f32) (r : Fin 1280) (e : Fin 1024) : k0_pay2 i v30 v39 v57 v58 (ix2 r e) = k0_pay1 i v30 v39 v57 v58 (ix2 r e) := by
  pointwise [k0_pay2]

theorem latSide_apply (r : Fin 1280) (j : Fin 128) :
    latSide x0 x1 x3 x5 (ix3 0 r j) = ∑ e : Fin 1024, latRows x0 x1 x3 (ix2 r e) * x5 (ix2 e j) := by
  unfold latRows
  simp only [pay8_rows]
  pointwise [latSide, k0_pay10]

theorem firstSide_apply (i : grid0.Coords) (r : Fin 1280) (j : Fin 128) :
    firstSide i x0 x1 x2 x3 x5 (ix3 0 r j) = ∑ e : Fin 1024, firstRows i x0 x1 x2 x3 (ix2 r e) * x5 (ix2 e j) := by
  unfold firstRows
  simp only [pay1_rows]
  pointwise [firstSide, k0_pay3]

/-- The output block is the rows times the weight's columns. -/
theorem product_apply (xs : Vec Ideal S1280x1024 .bf16) (x4 : Vec Ideal S1024x2048 .bf16) (r : Fin 1280) (j : Fin 2048) :
    k0_pay4 xs x4 (ix3 0 r j) = ∑ e : Fin 1024, xs (ix2 r e) * x4 (ix2 e j) := by
  pointwise [k0_pay4]

end Cert.Proof.OddValue

end

end
-- ==== Proof.OddArray.lean ====
module

public import proofs.«01_k».proof.Proof.OddIdealFrame
public import proofs.«01_k».proof.Proof.OddValue

/-! # The two arrays the odd projection leaves

The grid runs over the batch entry, the row block and the column block. Row `n` of both arrays is the normed and
modulated row of the residual stream times the weight: the first array by its first 6144 columns, the second by the 64
columns after them, followed by 64 columns of zero. -/

@[expose] public section

set_option maxRecDepth 16384

noncomputable section

namespace Cert.Proof.OddArray

open Idealize.ShloMosaic Idealize.ShloMosaic.TcCoe Idealize.ShloMosaic.StableHlo
open Idealize.ShloMosaic.Pipeline
open Cert.OddIdeal Cert.OddIdeal.Gen Cert.Proof.Stream Cert.Proof.OddIdealBody Cert.Proof.OddIdealFrame Cert.Proof.OddValue

variable (m : (ℓ : Loc nD τ sig) → Buf (Elt Ideal) ℓ)

theorem N_78 : grid0.N = 78 := by decide +kernel

theorem idx0 (t : Fin grid0.N) :
    (win0_0.index t 0 = t.val / 39 ∧ win0_0.index t 1 = t.val / 3 % 13 ∧ win0_0.index t 2 = 0)
    ∧ (win0_1.index t 0 = t.val / 39 ∧ win0_1.index t 1 = 0 ∧ win0_1.index t 2 = 0)
    ∧ (win0_2.index t 0 = 0 ∧ win0_2.index t 1 = 0) := by
  revert t; decide +kernel

theorem idx1 (t : Fin grid0.N) :
    (win0_3.index t 0 = 0 ∧ win0_3.index t 1 = 0)
    ∧ (win0_4.index t 0 = 0 ∧ win0_4.index t 1 = t.val % 3)
    ∧ (win0_5.index t 0 = 0 ∧ win0_5.index t 1 = 0) := by
  revert t; decide +kernel

theorem idx2 (t : Fin grid0.N) :
    (win0_6.index t 0 = t.val / 39 ∧ win0_6.index t 1 = t.val / 3 % 13 ∧ win0_6.index t 2 = t.val % 3)
    ∧ (win0_7.index t 0 = t.val / 39 ∧ win0_7.index t 1 = t.val / 3 % 13 ∧ win0_7.index t 2 = 0) := by
  revert t; decide +kernel

theorem coord1 (t : Fin grid0.N) : (grid0.coords t 1).val = t.val / 3 % 13 := by
  revert t; decide +kernel

/-- The batch entry, row and column that row `r` and column `j` of point `t`'s block are. -/
def batch (t : Fin grid0.N) : Fin 2 := ⟨t.val / 39, by have := t.isLt; have := N_78; omega⟩
def row (t : Fin grid0.N) (r : Fin 1280) : Fin 16640 := ⟨t.val / 3 % 13 * 1280 + r.val, by have := r.isLt; omega⟩
def column (t : Fin grid0.N) (j : Fin 2048) : Fin 6144 := ⟨t.val % 3 * 2048 + j.val, by have := j.isLt; omega⟩

theorem batch_base (t : Fin grid0.N) : batch (base t) = batch t :=
  Fin.ext (by show (t.val - t.val % 3) / 39 = t.val / 39; omega)
theorem row_base (t : Fin grid0.N) (r : Fin 1280) : row (base t) r = row t r := Fin.ext (by
  show (t.val - t.val % 3) / 3 % 13 * 1280 + r.val = t.val / 3 % 13 * 1280 + r.val
  have : (t.val - t.val % 3) / 3 = t.val / 3 := by omega
  rw [this])

abbrev arg0 (c : Dev nD) : Vec Ideal S2x16640x1024 .f32 := m ((c : Thread nD τ).loc main_arg0)
abbrev arg1 (c : Dev nD) : Vec Ideal S2x3072 .f32 := m ((c : Thread nD τ).loc main_arg1)
abbrev arg2 (c : Dev nD) : Vec Ideal S3072 .f32 := m ((c : Thread nD τ).loc main_arg2)
abbrev arg3 (c : Dev nD) : Vec Ideal S1024 .f32 := m ((c : Thread nD τ).loc main_arg3)
abbrev arg4 (c : Dev nD) : Vec Ideal S1024x6208 .f32 := m ((c : Thread nD τ).loc main_arg4)

/-- Column `q` of the padded small weight: column `6144 + q` of the weight, or zero. -/
def sideWeight (c : Dev nD) (e : Fin 1024) (q : Fin 128) : EReal :=
  if _ : q.val < 64 then arg4 m c (ix2 e ⟨6144 + q.val, by omega⟩) else Ideal.ofBits .f32 0x00000000#32

theorem zero_bits : Ideal.ofBits .f32 0x00000000#32 = 0 := by simp [Ideal.ofBits, Ideal.ieee]

theorem host1 (c : Dev nD) (e : Fin 1024) (j : Fin 6144) : V m c main_v1 (ix2 e j) = arg4 m c (ix2 e ⟨j.val, by omega⟩) := by
  unfold V hostOps0 hostOps0_1 hostOps0_2
  simp only [List.flatten_cons, List.flatten_nil, List.append_nil, List.cons_append, List.nil_append]
  after_results
  pointwise

theorem host5 (c : Dev nD) (b : Fin 2) (k : Fin 3072) : V m c main_v5 (ix3 b 0 k) = arg1 m c (ix2 b k) := by
  unfold V hostOps0 hostOps0_1 hostOps0_2
  simp only [List.flatten_cons, List.flatten_nil, List.append_nil, List.cons_append, List.nil_append]
  after_results
  pointwise

theorem host6 (c : Dev nD) (k : Fin 3072) : V m c main_v6 (ix2 0 k) = arg2 m c (ix1 k) := by
  unfold V hostOps0 hostOps0_1 hostOps0_2
  simp only [List.flatten_cons, List.flatten_nil, List.append_nil, List.cons_append, List.nil_append]
  after_results
  pointwise

theorem host7 (c : Dev nD) (k : Fin 1024) : V m c main_v7 (ix2 0 k) = arg3 m c (ix1 k) := by
  unfold V hostOps0 hostOps0_1 hostOps0_2
  simp only [List.flatten_cons, List.flatten_nil, List.append_nil, List.cons_append, List.nil_append]
  after_results
  pointwise

theorem padding : (FloatOps.sitofp (F := Ideal) FTy.f32 0#32) = (0 : EReal) := by
  show (((0#32 : BitVec 32).toInt : ℝ) : EReal) = 0
  simp

theorem host4 (c : Dev nD) (e : Fin 1024) (q : Fin 128) : V m c main_v4 (ix2 e q) = sideWeight m c e q := by
  unfold sideWeight
  unfold V hostOps0 hostOps0_1 hostOps0_2
  simp only [List.flatten_cons, List.flatten_nil, List.append_nil, List.cons_append, List.nil_append]
  after_results
  change (truncf .bf16 (pad S1024x128 ![0, 0] ![0, 64] ![0, 0]
    (extractStridedSlice S1024x64 ![0, 6144] (arg4 m c) slices_S1024x6208_S1024x64_0_6144 : FVec Ideal S1024x64 .f32)
    (sitofp .f32 (constantI S_ 32 0#32) : FVec Ideal S_ .f32) pads_S1024x64_S1024x128_000_0640 h_S_ : FVec Ideal S1024x128 .f32)
    bitsLt_bf16_f32 : FVec Ideal S1024x128 .bf16) (ix2 e q) = _
  pointwise
  rw [padding]

theorem in0 (c : Dev nD) (t : Fin grid0.N) (r : Fin 1280) (k : Fin 1024) :
    iblk m c 0 t (ix3 0 r k) = arg0 m c (ix3 (batch t) (row t r) k) := by
  obtain ⟨⟨h0, h1, h2⟩, -, -⟩ := idx0 t
  refine Eq.trans ?_ (congrFun (V_main_arg0 m c) _)
  show V m c main_arg0 ((win0_0.rect t).emb (ix3 0 r k)) = _
  refine congrArg _ (funext fun a => Fin.ext ?_)
  rw [win0_0.rect_emb_val t (ix3 0 r k) a]
  match a with
  | ⟨0, _⟩ => show win0_0.index t 0 * 1 + 0 = t.val / 39; rw [h0]; omega
  | ⟨1, _⟩ => show win0_0.index t 1 * 1280 + r.val = t.val / 3 % 13 * 1280 + r.val; rw [h1]
  | ⟨2, _⟩ => show win0_0.index t 2 * 1024 + k.val = k.val; rw [h2]; omega

theorem in1 (c : Dev nD) (t : Fin grid0.N) (k : Fin 3072) :
    iblk m c 1 t (ix3 0 0 k) = arg1 m c (ix2 (batch t) k) := by
  obtain ⟨-, ⟨h0, h1, h2⟩, -⟩ := idx0 t
  refine Eq.trans ?_ (host5 m c (batch t) k)
  show V m c main_v5 ((win0_1.rect t).emb (ix3 0 0 k)) = _
  refine congrArg _ (funext fun a => Fin.ext ?_)
  rw [win0_1.rect_emb_val t (ix3 0 0 k) a]
  match a with
  | ⟨0, _⟩ => show win0_1.index t 0 * 1 + 0 = t.val / 39; rw [h0]; omega
  | ⟨1, _⟩ => show win0_1.index t 1 * 1 + 0 = 0; rw [h1]
  | ⟨2, _⟩ => show win0_1.index t 2 * 3072 + k.val = k.val; rw [h2]; omega

theorem in2 (c : Dev nD) (t : Fin grid0.N) (k : Fin 3072) : iblk m c 2 t (ix2 0 k) = arg2 m c (ix1 k) := by
  obtain ⟨-, -, ⟨h0, h1⟩⟩ := idx0 t
  refine Eq.trans ?_ (host6 m c k)
  show V m c main_v6 ((win0_2.rect t).emb (ix2 0 k)) = _
  refine congrArg _ (funext fun a => Fin.ext ?_)
  rw [win0_2.rect_emb_val t (ix2 0 k) a]
  match a with
  | ⟨0, _⟩ => show win0_2.index t 0 * 1 + 0 = 0; rw [h0]
  | ⟨1, _⟩ => show win0_2.index t 1 * 3072 + k.val = k.val; rw [h1]; omega

theorem in3 (c : Dev nD) (t : Fin grid0.N) (k : Fin 1024) : iblk m c 3 t (ix2 0 k) = arg3 m c (ix1 k) := by
  obtain ⟨⟨h0, h1⟩, -, -⟩ := idx1 t
  refine Eq.trans ?_ (host7 m c k)
  show V m c main_v7 ((win0_3.rect t).emb (ix2 0 k)) = _
  refine congrArg _ (funext fun a => Fin.ext ?_)
  rw [win0_3.rect_emb_val t (ix2 0 k) a]
  match a with
  | ⟨0, _⟩ => show win0_3.index t 0 * 1 + 0 = 0; rw [h0]
  | ⟨1, _⟩ => show win0_3.index t 1 * 1024 + k.val = k.val; rw [h1]; omega

theorem in4 (c : Dev nD) (t : Fin grid0.N) (e : Fin 1024) (j : Fin 2048) :
    iblk m c 4 t (ix2 e j) = arg4 m c (ix2 e ⟨(column t j).val, by omega⟩) := by
  obtain ⟨-, ⟨h0, h1⟩, -⟩ := idx1 t
  refine Eq.trans ?_ (host1 m c e (column t j))
  show V m c main_v1 ((win0_4.rect t).emb (ix2 e j)) = _
  refine congrArg _ (funext fun a => Fin.ext ?_)
  rw [win0_4.rect_emb_val t (ix2 e j) a]
  match a with
  | ⟨0, _⟩ => show win0_4.index t 0 * 1024 + e.val = e.val; rw [h0]; omega
  | ⟨1, _⟩ => show win0_4.index t 1 * 2048 + j.val = t.val % 3 * 2048 + j.val; rw [h1]

theorem in5 (c : Dev nD) (t : Fin grid0.N) (e : Fin 1024) (q : Fin 128) : iblk m c 5 t (ix2 e q) = sideWeight m c e q := by
  obtain ⟨-, -, ⟨h0, h1⟩⟩ := idx1 t
  refine Eq.trans ?_ (host4 m c e q)
  show V m c main_v4 ((win0_5.rect t).emb (ix2 e q)) = _
  refine congrArg _ (funext fun a => Fin.ext ?_)
  rw [win0_5.rect_emb_val t (ix2 e q) a]
  match a with
  | ⟨0, _⟩ => show win0_5.index t 0 * 1024 + e.val = e.val; rw [h0]; omega
  | ⟨1, _⟩ => show win0_5.index t 1 * 128 + q.val = q.val; rw [h1]; omega

/-- The normed and modulated row `n` of batch entry `b`. -/
def rowOf (c : Dev nD) (b : Fin 2) (n : Fin 16640) : Fin 1024 → EReal :=
  streamRow n.val (fun k => arg0 m c (ix3 b n k)) (fun k => arg3 m c (ix1 k)) (fun k => arg2 m c (ix1 k)) (fun k => arg1 m c (ix2 b k))

theorem first_block (c : Dev nD) (t : Fin grid0.N) (h : t.val / 3 % 13 = 0) (r : Fin 1280) (e : Fin 1024) :
    firstRows (F := Ideal) (grid0.coords t) (iblk m c 0 t) (iblk m c 1 t) (iblk m c 2 t) (iblk m c 3 t) (ix2 r e) = rowOf m c (batch t) (row t r) e := by
  rw [firstRows_apply _ _ _ _ _ ((coord1 t).trans h)]
  simp only [in0, in1, in2, in3]
  have hr : (row t r).val = r.val := by show t.val / 3 % 13 * 1280 + r.val = r.val; rw [h]; omega
  unfold rowOf
  rw [hr]

theorem later_block (c : Dev nD) (t : Fin grid0.N) (h : ¬t.val / 3 % 13 = 0) (r : Fin 1280) (e : Fin 1024) :
    latRows (F := Ideal) (iblk m c 0 t) (iblk m c 1 t) (iblk m c 3 t) (ix2 r e) = rowOf m c (batch t) (row t r) e := by
  rw [latRows_apply]
  simp only [in0, in1, in3]
  have hr : ¬(row t r).val < 256 := by show ¬t.val / 3 % 13 * 1280 + r.val < 256; omega
  unfold rowOf streamRow rowMod
  rw [if_neg hr]

/-- The first step of a row block computes the block's rows, -/
theorem rowsOf_apply (c : Dev nD) (p : Fin grid0.N) (h : p.val % 3 = 0) (r : Fin 1280) (e : Fin 1024) :
    rowsOf m c p (ix2 r e) = rowOf m c (batch p) (row p r) e := by
  unfold rowsOf
  by_cases h39 : p.val % 39 = 0
  · rw [if_pos h39]; exact first_block m c p (by omega) r e
  · rw [if_neg h39]; exact later_block m c p (by omega) r e

/-- and their small projection. -/
theorem sideOf_apply (c : Dev nD) (p : Fin grid0.N) (h : p.val % 3 = 0) (r : Fin 1280) (q : Fin 128) :
    sideOf m c p (ix3 0 r q) = ∑ e : Fin 1024, rowOf m c (batch p) (row p r) e * sideWeight m c e q := by
  unfold sideOf
  by_cases h39 : p.val % 39 = 0
  · rw [if_pos h39, firstSide_apply]
    exact Finset.sum_congr rfl fun e _ => congrArg₂ (· * ·) (first_block m c p (by omega) r e) (in5 m c p e q)
  · rw [if_neg h39, latSide_apply]
    exact Finset.sum_congr rfl fun e _ => congrArg₂ (· * ·) (later_block m c p (by omega) r e) (in5 m c p e q)

theorem base_first (t : Fin grid0.N) : (base t).val % 3 = 0 := by show (t.val - t.val % 3) % 3 = 0; omega

/-- One element of the large block after step `t`. -/
theorem large_block (c : Dev nD) (t : Fin grid0.N) (r : Fin 1280) (j : Fin 2048) :
    (dats m 0 c).after 6 t (ix3 0 r j)
      = (∑ e : Fin 1024, rowOf m c (batch t) (row t r) e * arg4 m c (ix2 e ⟨(column t j).val, by omega⟩) : EReal) := by
  rw [after_6]
  refine (product_apply _ _ r j).trans ?_
  refine Finset.sum_congr rfl fun e _ => congrArg₂ (· * ·) ?_ (in4 m c t e j)
  unfold rowsAt
  rw [rowsOf_apply m c (base t) (base_first t), batch_base, row_base]

/-- One element of the small block after step `t`. -/
theorem small_block (c : Dev nD) (t : Fin grid0.N) (r : Fin 1280) (q : Fin 128) :
    (dats m 0 c).after 7 t (ix3 0 r q) = (∑ e : Fin 1024, rowOf m c (batch t) (row t r) e * sideWeight m c e q : EReal) := by
  rw [after_7]
  unfold sideAt
  rw [sideOf_apply m c (base t) (base_first t), batch_base, row_base]

theorem out6_emb (t : Fin grid0.N) (r : Fin 1280) (j : Fin 2048) :
    (win0_6.rect t).emb (ix3 0 r j) = ix3 (batch t) (row t r) (column t j) := by
  obtain ⟨⟨h0, h1, h2⟩, -⟩ := idx2 t
  refine funext fun a => Fin.ext ?_
  rw [win0_6.rect_emb_val t (ix3 0 r j) a]
  match a with
  | ⟨0, _⟩ => show win0_6.index t 0 * 1 + 0 = t.val / 39; rw [h0]; omega
  | ⟨1, _⟩ => show win0_6.index t 1 * 1280 + r.val = t.val / 3 % 13 * 1280 + r.val; rw [h1]
  | ⟨2, _⟩ => show win0_6.index t 2 * 2048 + j.val = t.val % 3 * 2048 + j.val; rw [h2]

theorem out7_emb (t : Fin grid0.N) (r : Fin 1280) (q : Fin 128) :
    (win0_7.rect t).emb (ix3 0 r q) = ix3 (batch t) (row t r) q := by
  obtain ⟨-, ⟨h0, h1, h2⟩⟩ := idx2 t
  refine funext fun a => Fin.ext ?_
  rw [win0_7.rect_emb_val t (ix3 0 r q) a]
  match a with
  | ⟨0, _⟩ => show win0_7.index t 0 * 1 + 0 = t.val / 39; rw [h0]; omega
  | ⟨1, _⟩ => show win0_7.index t 1 * 1280 + r.val = t.val / 3 % 13 * 1280 + r.val; rw [h1]
  | ⟨2, _⟩ => show win0_7.index t 2 * 128 + q.val = q.val; rw [h2]; omega

/-- The step that writes column block `s` of row `n` back. -/
def pointOf (b : Fin 2) (n : Fin 16640) (s : Fin 3) : Fin grid0.N :=
  ⟨b.val * 39 + n.val / 1280 * 3 + s.val, by rw [N_78]; have := b.isLt; have := n.isLt; have := s.isLt; omega⟩

/-- The column block of column `q`. -/
def part (q : Fin 6144) : Fin 3 := ⟨q.val / 2048, by have := q.isLt; omega⟩

theorem batch_pointOf (b : Fin 2) (n : Fin 16640) (s : Fin 3) : batch (pointOf b n s) = b := Fin.ext (by
  have := n.isLt; have := s.isLt
  show (b.val * 39 + n.val / 1280 * 3 + s.val) / 39 = b.val; omega)

theorem row_pointOf (b : Fin 2) (n : Fin 16640) (s : Fin 3) :
    row (pointOf b n s) ⟨n.val % 1280, Nat.mod_lt _ (by omega)⟩ = n := Fin.ext (by
  have := n.isLt; have := s.isLt
  show (b.val * 39 + n.val / 1280 * 3 + s.val) / 3 % 13 * 1280 + n.val % 1280 = n.val; omega)

theorem emb6_pointOf (b : Fin 2) (n : Fin 16640) (q : Fin 6144) :
    (win0_6.rect (pointOf b n (part q))).emb
      (ix3 0 ⟨n.val % 1280, Nat.mod_lt _ (by omega)⟩ ⟨q.val % 2048, Nat.mod_lt _ (by omega)⟩) = ix3 b n q := by
  rw [out6_emb, batch_pointOf, row_pointOf]
  have e2 : column (pointOf b n (part q)) ⟨q.val % 2048, Nat.mod_lt _ (by omega)⟩ = q :=
    Fin.ext (by show (b.val * 39 + n.val / 1280 * 3 + q.val / 2048) % 3 * 2048 + q.val % 2048 = q.val; omega)
  rw [e2]

theorem emb7_pointOf (b : Fin 2) (n : Fin 16640) (q : Fin 128) :
    (win0_7.rect (pointOf b n 2)).emb (ix3 0 ⟨n.val % 1280, Nat.mod_lt _ (by omega)⟩ q) = ix3 b n q := by
  rw [out7_emb, batch_pointOf, row_pointOf]

/-- The first array after the call. -/
theorem large_apply (c : Dev nD) (b : Fin 2) (n : Fin 16640) (q : Fin 6144) :
    (dats m 0 c).arrAt 6 cfg0.N (ix3 b n q) = ∑ e : Fin 1024, rowOf m c b n e * arg4 m c (ix2 e ⟨q.val, by omega⟩) := by
  refine (dats m 0 c).arrAt_forall_of_flushed 6
    (fun i v => ∀ (b : Fin 2) (n : Fin 16640) (q : Fin 6144), i = ix3 b n q →
      v = ∑ e : Fin 1024, rowOf m c b n e * arg4 m c (ix2 e ⟨q.val, by omega⟩))
    ?_ cfg0.N (pointOf b n (part q)) _ (pointOf b n (part q)).isLt (flush0_6 _) ?_ b n q rfl
  · intro t _ y b n q he
    obtain ⟨r, j, rfl⟩ : ∃ (r : Fin 1280) (j : Fin 2048), y = ix3 0 r j :=
      ⟨y 1, y 2, funext fun a => match a with
        | ⟨0, _⟩ => Subsingleton.elim (α := Fin 1) _ _
        | ⟨1, _⟩ => rfl
        | ⟨2, _⟩ => rfl⟩
    change (win0_6.rect t).emb (ix3 0 r j) = _ at he
    rw [out6_emb] at he
    obtain rfl : batch t = b := congrFun he 0
    obtain rfl : row t r = n := congrFun he 1
    obtain rfl : column t j = q := congrFun he 2
    exact large_block m c t r j
  · show ix3 b n q ∈ ((View.whole main_v8_0).slice (win0_6.rect (pointOf b n (part q)))).set
    rw [← emb6_pointOf b n q]
    exact ((View.whole main_v8_0).slice (win0_6.rect (pointOf b n (part q)))).emb_mem_set _

/-- The second array after the call, -/
theorem small_sum (c : Dev nD) (b : Fin 2) (n : Fin 16640) (q : Fin 128) :
    (dats m 0 c).arrAt 7 cfg0.N (ix3 b n q) = ∑ e : Fin 1024, rowOf m c b n e * sideWeight m c e q := by
  refine (dats m 0 c).arrAt_forall_of_flushed 7
    (fun i v => ∀ (b : Fin 2) (n : Fin 16640) (q : Fin 128), i = ix3 b n q →
      v = ∑ e : Fin 1024, rowOf m c b n e * sideWeight m c e q)
    ?_ cfg0.N (pointOf b n 2) _ (pointOf b n 2).isLt ((flush0_7 _).mpr ?_) ?_ b n q rfl
  · intro t _ y b n q he
    obtain ⟨r, j, rfl⟩ : ∃ (r : Fin 1280) (j : Fin 128), y = ix3 0 r j :=
      ⟨y 1, y 2, funext fun a => match a with
        | ⟨0, _⟩ => Subsingleton.elim (α := Fin 1) _ _
        | ⟨1, _⟩ => rfl
        | ⟨2, _⟩ => rfl⟩
    change (win0_7.rect t).emb (ix3 0 r j) = _ at he
    rw [out7_emb] at he
    obtain rfl : batch t = b := congrFun he 0
    obtain rfl : row t r = n := congrFun he 1
    obtain rfl : j = q := congrFun he 2
    exact small_block m c t r j
  · show (b.val * 39 + n.val / 1280 * 3 + 2) % 3 = 2
    omega
  · show ix3 b n q ∈ ((View.whole main_v8_1).slice (win0_7.rect (pointOf b n 2))).set
    rw [← emb7_pointOf b n q]
    exact ((View.whole main_v8_1).slice (win0_7.rect (pointOf b n 2))).emb_mem_set _

/-- whose columns past the 64th are zero. -/
theorem small_apply (c : Dev nD) (b : Fin 2) (n : Fin 16640) (q : Fin 128) :
    (dats m 0 c).arrAt 7 cfg0.N (ix3 b n q)
      = if _ : q.val < 64 then ∑ e : Fin 1024, rowOf m c b n e * arg4 m c (ix2 e ⟨6144 + q.val, by omega⟩)
        else Ideal.ofBits .f32 0x00000000#32 := by
  rw [small_sum]
  unfold sideWeight
  by_cases h : q.val < 64
  · simp only [dif_pos h]
  · simp only [dif_neg h, zero_bits, mul_zero, Finset.sum_const_zero]

end Cert.Proof.OddArray

end

end
-- ==== Proof.OddRef.lean ====
module

public import proofs.«01_k».proof.Proof.Stream
public import proofs.«01_k».proof.Proof.Gen.OddRefIdeal.Read
import Idealize.ShloMosaic.Lib.Pointwise

/-! # The odd projection's reference at an index

Its first result is the first 6144 columns of the product, its second the 64 columns after them and 64 columns of zero. -/

@[expose] public section

set_option maxRecDepth 16384

noncomputable section

open Idealize.ShloMosaic Idealize.ShloMosaic.TcCoe
open Cert.OddRefIdeal Cert.OddRefIdeal.Read
open Cert.Proof.Stream

namespace Cert.Proof.OddRef

abbrev Rows : Type := (⟨S2x16640x1024, .f32⟩ : BufTy).Contents (Elt Ideal)
abbrev ModL : Type := (⟨S2x3072, .f32⟩ : BufTy).Contents (Elt Ideal)
abbrev ModC : Type := (⟨S3072, .f32⟩ : BufTy).Contents (Elt Ideal)
abbrev NormW : Type := (⟨S1024, .f32⟩ : BufTy).Contents (Elt Ideal)
abbrev InW : Type := (⟨S1024x6208, .f32⟩ : BufTy).Contents (Elt Ideal)

variable (x0 : Rows) (x1 : ModL) (x2 : ModC) (x3 : NormW) (x4 : InW)

theorem latent_row (b : Fin 2) (n : Fin 16384) (e : Fin 1024) :
    val_main_v27 (F := Ideal) x0 x1 x3 (ix3 b n e)
      = modulated (fun k => x0 (ix3 b ⟨256 + n.val, by omega⟩ k)) (fun k => x3 (ix1 k)) (fun k => x1 (ix2 b (third 0 k)))
          (fun k => x1 (ix2 b (third 1 k))) e := by
  rw [← modulated_assoc]
  unfold invRoot third
  pointwise [val_main_v0, val_main_v1, val_main_v6, val_main_v7, val_main_v8, val_main_v9, val_main_v10, val_main_v11, val_main_v12,
    val_main_v13, val_main_v14, val_main_v15, val_main_v16, val_main_v17, val_main_v18, val_main_v19, val_main_v20, val_main_v21,
    val_main_v22, val_main_v23, val_main_v24, val_main_v25, val_main_v26, val_main_v27, val_main_cst, val_main_cst_0, val_main_cst_1,
    val_main_cst_2]

theorem context_row (b : Fin 2) (n : Fin 256) (e : Fin 1024) :
    val_main_v49 (F := Ideal) x0 x2 x3 (ix3 b n e)
      = modulated (fun k => x0 (ix3 b ⟨n.val, by omega⟩ k)) (fun k => x3 (ix1 k)) (fun k => x2 (ix1 (third 0 k)))
          (fun k => x2 (ix1 (third 1 k))) e := by
  rw [← modulated_assoc]
  unfold invRoot third
  pointwise [val_main_v3, val_main_v4, val_main_v28, val_main_v29, val_main_v30, val_main_v31, val_main_v32, val_main_v33, val_main_v34,
    val_main_v35, val_main_v36, val_main_v37, val_main_v38, val_main_v39, val_main_v40, val_main_v41, val_main_v42, val_main_v43,
    val_main_v44, val_main_v45, val_main_v46, val_main_v47, val_main_v48, val_main_v49, val_main_cst_3, val_main_cst_4, val_main_cst_5,
    val_main_cst_6]

theorem context_dot (b : Fin 2) (n : Fin 256) (q : Fin 6208) :
    val_main_v50 (F := Ideal) x0 x2 x3 x4 (ix3 b n q)
      = ∑ e : Fin 1024, val_main_v49 (F := Ideal) x0 x2 x3 (ix3 b n e) * x4 (ix2 e q) := by
  pointwise [val_main_v50]

theorem latent_dot (b : Fin 2) (n : Fin 16384) (q : Fin 6208) :
    val_main_v51 (F := Ideal) x0 x1 x3 x4 (ix3 b n q)
      = ∑ e : Fin 1024, val_main_v27 (F := Ideal) x0 x1 x3 (ix3 b n e) * x4 (ix2 e q) := by
  pointwise [val_main_v51]

theorem rows_joined (b : Fin 2) (n : Fin 16640) (q : Fin 6208) :
    val_main_v52 (F := Ideal) x0 x1 x2 x3 x4 (ix3 b n q)
      = if _ : n.val < 256 then val_main_v50 (F := Ideal) x0 x2 x3 x4 (ix3 b ⟨n.val, by omega⟩ q)
        else val_main_v51 (F := Ideal) x0 x1 x3 x4 (ix3 b ⟨n.val - 256, by omega⟩ q) := by
  pointwise [val_main_v52]

/-- The whole product at an index. -/
theorem product_apply (b : Fin 2) (n : Fin 16640) (q : Fin 6208) :
    val_main_v52 (F := Ideal) x0 x1 x2 x3 x4 (ix3 b n q)
      = ∑ e : Fin 1024, streamRow n.val (fun k => x0 (ix3 b n k)) (fun k => x3 (ix1 k)) (fun k => x2 (ix1 k)) (fun k => x1 (ix2 b k)) e
          * x4 (ix2 e q) := by
  rw [rows_joined]
  unfold streamRow rowMod
  by_cases h : n.val < 256
  · rw [dif_pos h]
    simp only [if_pos h]
    rw [context_dot]
    simp only [context_row]
  · rw [dif_neg h]
    simp only [if_neg h]
    rw [latent_dot]
    simp only [latent_row]
    have e1 : (⟨256 + (n.val - 256), by omega⟩ : Fin 16640) = n := Fin.ext (by show 256 + (n.val - 256) = n.val; omega)
    rw [e1]

/-- The first result at an index. -/
theorem large_apply (b : Fin 2) (n : Fin 16640) (q : Fin 6144) :
    val_main_v54 (F := Ideal) x0 x1 x2 x3 x4 (ix3 b n q) = val_main_v52 (F := Ideal) x0 x1 x2 x3 x4 (ix3 b n ⟨q.val, by omega⟩) := by
  pointwise [val_main_v54, val_main_v53]

/-- The second result at an index. -/
theorem small_apply (b : Fin 2) (n : Fin 16640) (q : Fin 128) :
    val_main_v57 (F := Ideal) x0 x1 x2 x3 x4 (ix3 b n q)
      = if _ : q.val < 64 then val_main_v52 (F := Ideal) x0 x1 x2 x3 x4 (ix3 b n ⟨6144 + q.val, by omega⟩)
        else Ideal.ofBits .f32 0x00000000#32 := by
  pointwise [val_main_v57, val_main_v55, val_main_v56, val_main_cst_7]

end Cert.Proof.OddRef

end

end
-- ==== Proof.OddClaim.lean ====
module

public import proofs.«01_k».proof.Defs
public import proofs.«01_k».proof.Proof.OddArray
public import proofs.«01_k».proof.Proof.OddRef
public import proofs.«01_k».proof.Proof.Gen.OddRefIdeal.Run

/-! # The odd input projection: the reference's run, and both runs with equal results -/

@[expose] public section

set_option maxRecDepth 16384

noncomputable section

open Idealize.ShloMosaic Idealize.ShloMosaic.TcCoe Idealize.SL.Sem

namespace Cert.Proof.OddClaim

/-- The reference has no semaphore. -/
theorem no_semaphore : ∀ sm : SemLoc Cert.OddRefIdeal.sig, False := by decide

/-- The reference runs, its arguments end unchanged and every counter is zero. -/
theorem reference_frame (m : (ℓ : Loc Cert.OddRefIdeal.nD Cert.OddRefIdeal.τ Cert.OddRefIdeal.sig) → Buf (Elt Ideal) ℓ)
    (g : Dev Cert.OddRefIdeal.nD → PrngReg) :
    θ_run (Cert.OddRefIdeal.defs (F := Ideal)) (onTc (τ := Cert.OddRefIdeal.τ) (Cert.OddRefIdeal.main (F := Ideal)))
      ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3)
      ∧ r.2.mem ((c.tc : Thread Cert.OddRefIdeal.nD Cert.OddRefIdeal.τ).loc Cert.OddRefIdeal.main_arg4) = m ((c.tc : Thread Cert.OddRefIdeal.nD Cert.OddRefIdeal.τ).loc Cert.OddRefIdeal.main_arg4))
      ∧ r.2.sem = fun _ => 0) :=
  (θ_run Cert.OddRefIdeal.defs _ _).mono (fun _ h => ⟨fun c => (h c).2.2, funext fun s => (no_semaphore s.2).elim⟩)
    (Cert.OddRefIdeal.Value.run m g)

/-- The kernel's run: both results as the launch leaves them, the arguments unchanged. -/
theorem kernel_run (m : (ℓ : Loc Cert.OddIdeal.nD Cert.OddIdeal.τ Cert.OddIdeal.sig) → Buf (Elt Ideal) ℓ) (g : Dev Cert.OddIdeal.nD → PrngReg) :
    θ_run (Cert.OddIdeal.defs (F := Ideal)) (onTc (τ := Cert.OddIdeal.τ) (Cert.OddIdeal.main (F := Ideal))) ⟨m, fun _ => 0, g⟩ (fun r => ∀ c : Dev Cert.OddIdeal.nD,
      r.2.mem ((c.tc : Thread Cert.OddIdeal.nD Cert.OddIdeal.τ).loc Cert.OddIdeal.main_v8_0) = (OddIdealFrame.dats m 0 c).arrAt 6 Cert.OddIdeal.cfg0.N
      ∧ r.2.mem ((c.tc : Thread Cert.OddIdeal.nD Cert.OddIdeal.τ).loc Cert.OddIdeal.main_v8_1) = (OddIdealFrame.dats m 0 c).arrAt 7 Cert.OddIdeal.cfg0.N
      ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
      ∧ r.2.mem ((c.tc : Thread Cert.OddIdeal.nD Cert.OddIdeal.τ).loc Cert.OddIdeal.main_arg4) = m ((c.tc : Thread Cert.OddIdeal.nD Cert.OddIdeal.τ).loc Cert.OddIdeal.main_arg4)) :=
  (θ_run Cert.OddIdeal.defs _ _).mono (fun _ h c => ⟨(h.2 c).1 6, (h.2 c).1 7, h.1.1 c⟩)
    (θ_run_and (OddIdealFrame.frame m g) (OddIdealFrame.run_main m g))

/-- From arguments that agree, kernel and reference end with the same two results. -/
theorem algebraic : Cert.algebraic_OddIdeal_OddRefIdeal (hOddIdeal := Cert.OddIdeal.Gen.facts)
    (hOddRefIdeal := Cert.OddRefIdeal.Gen.facts) := by
  intro m g m' g' _ hargs
  refine ⟨fun c => (OddIdealFrame.dats m 0 c).arrAt 6 Cert.OddIdeal.cfg0.N, fun c => (OddIdealFrame.dats m 0 c).arrAt 7 Cert.OddIdeal.cfg0.N,
    kernel_run m g, ?_⟩
  refine (θ_run Cert.OddRefIdeal.defs _ _).mono (fun r h c => ?_) (Cert.OddRefIdeal.Value.run m' g')
  obtain ⟨h0, h1, h2, h3, h4⟩ := hargs c
  refine ⟨?_, ?_, (h c).2.2⟩
  · refine ((h c).1.trans (Cert.OddRefIdeal.Read.val_main_v54_eq _ _ _ _ _)).trans ?_
    change Cert.OddRefIdeal.Read.val_main_v54 (F := Ideal)
      (m' ((c.tc : Thread Cert.OddRefIdeal.nD Cert.OddRefIdeal.τ).loc Cert.OddRefIdeal.main_arg0))
      (m' ((c.tc : Thread Cert.OddRefIdeal.nD Cert.OddRefIdeal.τ).loc Cert.OddRefIdeal.main_arg1))
      (m' ((c.tc : Thread Cert.OddRefIdeal.nD Cert.OddRefIdeal.τ).loc Cert.OddRefIdeal.main_arg2))
      (m' ((c.tc : Thread Cert.OddRefIdeal.nD Cert.OddRefIdeal.τ).loc Cert.OddRefIdeal.main_arg3))
      (m' ((c.tc : Thread Cert.OddRefIdeal.nD Cert.OddRefIdeal.τ).loc Cert.OddRefIdeal.main_arg4)) = _
    rw [h0, h1, h2, h3, h4]
    funext i
    obtain ⟨b, n, q, rfl⟩ : ∃ (b : Fin 2) (n : Fin 16640) (q : Fin 6144), i = ix3 b n q := ⟨_, _, _, eq_ix3 i⟩
    exact ((OddRef.large_apply _ _ _ _ _ b n q).trans (OddRef.product_apply _ _ _ _ _ b n _)).trans (OddArray.large_apply m c b n q).symm
  · refine ((h c).2.1.trans (Cert.OddRefIdeal.Read.val_main_v57_eq _ _ _ _ _)).trans ?_
    change Cert.OddRefIdeal.Read.val_main_v57 (F := Ideal)
      (m' ((c.tc : Thread Cert.OddRefIdeal.nD Cert.OddRefIdeal.τ).loc Cert.OddRefIdeal.main_arg0))
      (m' ((c.tc : Thread Cert.OddRefIdeal.nD Cert.OddRefIdeal.τ).loc Cert.OddRefIdeal.main_arg1))
      (m' ((c.tc : Thread Cert.OddRefIdeal.nD Cert.OddRefIdeal.τ).loc Cert.OddRefIdeal.main_arg2))
      (m' ((c.tc : Thread Cert.OddRefIdeal.nD Cert.OddRefIdeal.τ).loc Cert.OddRefIdeal.main_arg3))
      (m' ((c.tc : Thread Cert.OddRefIdeal.nD Cert.OddRefIdeal.τ).loc Cert.OddRefIdeal.main_arg4)) = _
    rw [h0, h1, h2, h3, h4]
    funext i
    obtain ⟨b, n, q, rfl⟩ : ∃ (b : Fin 2) (n : Fin 16640) (q : Fin 128), i = ix3 b n q := ⟨_, _, _, eq_ix3 i⟩
    refine ((OddRef.small_apply _ _ _ _ _ b n q).trans ?_).trans (OddArray.small_apply m c b n q).symm
    by_cases hq : q.val < 64
    · rw [dif_pos hq, dif_pos hq]
      exact OddRef.product_apply _ _ _ _ _ b n _
    · rw [dif_neg hq, dif_neg hq]

end Cert.Proof.OddClaim

end

end
-- ==== Proof.lean ====
/- The certificate's claims, about five calls of the version: the even layer's attention (`Kernel`), its input projection
   (`Even`), its output (`Merge`), the odd layer's input projection (`Odd`), and its output with the final norm (`Out`).
   Of each: the call, its ideal program and the reference end with their arguments unchanged and no semaphore counter
   raised; the ideal program is the call over the extended reals, with the number that a named literal rounds in the
   literal's place; and over the extended reals call and reference compute the same arrays, the attention from finite
   arguments and the others from any. The theorems are in Proof/Assemble.lean, Proof/EvenClaim.lean, Proof/OutClaim.lean,
   Proof/MergeClaim.lean and Proof/OddClaim.lean. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Pre_finite_inputs
public import proofs.«01_k».proof.Proof.Gen.Even
public import proofs.«01_k».proof.Proof.Gen.Even.Frame
public import proofs.«01_k».proof.Proof.Gen.EvenIdeal
public import proofs.«01_k».proof.Proof.Gen.EvenIdeal.Frame
public import proofs.«01_k».proof.Proof.Gen.EvenRefIdeal
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutRefIdeal
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.Odd
public import proofs.«01_k».proof.Proof.Gen.OddIdeal
public import proofs.«01_k».proof.Proof.Gen.OddRefIdeal
public import proofs.«01_k».proof.Proof.Assemble
public import proofs.«01_k».proof.Proof.EvenClaim
public import proofs.«01_k».proof.Proof.OutClaim
public import proofs.«01_k».proof.Proof.MergeClaim
public import proofs.«01_k».proof.Proof.OddFrame
public import proofs.«01_k».proof.Proof.OddIdealFrame
public import proofs.«01_k».proof.Proof.OddClaim
public import Idealize.ShloMosaic.Adequacy
public import Idealize.ShloMosaic.Init

@[expose] public section

noncomputable section

namespace Cert.Proof

open Idealize.ShloMosaic Idealize.SL.Sem Cert.Kernel

/-- The claim: the facts that the programs state, the frames, the named constants and the equations. -/
theorem claim : Cert.Claim :=
  ⟨Cert.Kernel.Gen.facts, Cert.KernelIdeal.Gen.facts, Cert.ReferenceIdeal.Gen.facts,
    Cert.Even.Gen.facts, Cert.EvenIdeal.Gen.facts, Cert.EvenRefIdeal.Gen.facts,
    Cert.Out.Gen.facts, Cert.OutIdeal.Gen.facts, Cert.OutRefIdeal.Gen.facts,
    Cert.Merge.Gen.facts, Cert.MergeIdeal.Gen.facts, Cert.MergeRefIdeal.Gen.facts,
    Cert.Odd.Gen.facts, Cert.OddIdeal.Gen.facts, Cert.OddRefIdeal.Gen.facts,
    Cert.Pre_finite_inputs.Gen.facts,
    fun m ρ _ => Cert.Kernel.Gen.frame m ρ,
    fun m ρ _ => Cert.KernelIdeal.Gen.frame m ρ,
    fun m ρ _ => Cert.KernelIdeal.Gen.frame m ρ,
    fun m ρ _ => Assemble.reference_frame m ρ,
    fun m ρ _ => Assemble.reference_frame m ρ,
    fun m ρ _ => Cert.Even.Gen.frame m ρ,
    fun m ρ _ => Cert.EvenIdeal.Gen.frame m ρ,
    fun m ρ _ => EvenClaim.reference_frame m ρ,
    fun m ρ _ => Cert.Out.Gen.frame m ρ,
    fun m ρ _ => Cert.OutIdeal.Gen.frame m ρ,
    fun m ρ _ => OutClaim.reference_frame m ρ,
    fun m ρ _ => Cert.Merge.Gen.frame m ρ,
    fun m ρ _ => Cert.MergeIdeal.Gen.frame m ρ,
    fun m ρ _ => MergeClaim.reference_frame m ρ,
    fun m ρ _ => OddFrame.frame m ρ,
    fun m ρ _ => OddIdealFrame.frame m ρ,
    fun m ρ _ => OddClaim.reference_frame m ρ,
    IdealRules.named_const.statement Cert.KernelIdeal.κ "qscale" .f32 0x3E38AA3B#32 _ rfl,
    Assemble.algebraic,
    trivial, EvenClaim.algebraic,
    IdealRules.named_const.statement Cert.OutIdeal.κ "log2e" .f32 0xBFB8AA3B#32 _ rfl, OutClaim.algebraic,
    IdealRules.named_const.statement Cert.MergeIdeal.κ "log2e" .f32 0xBFB8AA3B#32 _ rfl, MergeClaim.algebraic,
    trivial, OddClaim.algebraic⟩

end Cert.Proof

end
